-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x32 : Shape := ⟨2, ![16384, 32]⟩
abbrev S768x256 : Shape := ⟨2, ![768, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : IVec S16384x32 32) (main_arg1 : FVec F S768x256 .f32) (main_arg2 : FVec F S256x512 .f32) (main_arg3 : FVec F S512 .f32) (main_arg4 : FVec F S512x256 .f32) (main_arg5 : FVec F S256 .f32) (main_arg6 : FVec F S256x1 .f32) (main_arg7 : FVec F S1 .f32) : IVec S_ 1 :=
  let main_c : IVec S_ 32 := constantI S_ 32 0#32
  let main_v0 : IVec S16384x32 32 := broadcastInDim S16384x32 ![] bcast_S_S16384x32 main_c
  let main_v1 : IVec S16384x32 1 := cmpi .sge main_arg0 main_v0
  let main_c_0 : IVec S_ 32 := constantI S_ 32 768#32
  let main_v2 : IVec S16384x32 32 := broadcastInDim S16384x32 ![] bcast_S_S16384x32 main_c_0
  let main_v3 : IVec S16384x32 1 := cmpi .slt main_arg0 main_v2
  let main_v4 : IVec S16384x32 1 := andi main_v1 main_v3
  let main_c_1 : IVec S_ 1 := constantI S_ 1 1#1
  let main_v5 : IVec S_ 1 := (fun x v => Host.reduce IntOp.andi x v reducesTo_S16384x32_S_d0_1 h_S_) main_v4 main_c_1
  main_v5
-- ==== Kernel.lean ====
abbrev S16384x32 : Shape := ⟨2, ![16384, 32]⟩
abbrev S768x256 : Shape := ⟨2, ![768, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x512 : Shape := ⟨2, ![1, 512]⟩
abbrev S1x256 : Shape := ⟨2, ![1, 256]⟩
abbrev S1x1 : Shape := ⟨2, ![1, 1]⟩
abbrev S4096x768 : Shape := ⟨2, ![4096, 768]⟩
abbrev S128x32 : Shape := ⟨2, ![128, 32]⟩
abbrev S32x768 : Shape := ⟨2, ![32, 768]⟩
abbrev S_ : Shape := ⟨0, ![]⟩
abbrev S16 : Shape := ⟨1, ![16]⟩
abbrev S1x16 : Shape := ⟨2, ![1, 16]⟩
abbrev S16384x1 : Shape := ⟨2, ![16384, 1]⟩
abbrev S1024x768 : Shape := ⟨2, ![1024, 768]⟩
abbrev S1024x1 : Shape := ⟨2, ![1024, 1]⟩
abbrev S1024x256 : Shape := ⟨2, ![1024, 256]⟩
abbrev S1024x512 : Shape := ⟨2, ![1024, 512]⟩
abbrev S1024 : Shape := ⟨1, ![1024]⟩

abbrev nBuf : Table → Nat
  | .hbm => 23
  | .local .tc .vmem => 44
  | .local .scVector .vmem => 12
  | _ => 0

abbrev bufTy : (tb : Table) → Fin (nBuf tb) → BufTy
  | .hbm, ⟨0, _⟩ => ⟨S16384x32, .i32⟩
  | .hbm, ⟨1, _⟩ => ⟨S768x256, .f32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S768x256, .bf16⟩
  | .hbm, ⟨9, _⟩ => ⟨S256x512, .bf16⟩
  | .hbm, ⟨10, _⟩ => ⟨S512x256, .bf16⟩
  | .hbm, ⟨11, _⟩ => ⟨S1x512, .f32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S4096x768, .f32⟩
  | .hbm, ⟨16, _⟩ => ⟨S16384x1, .f32⟩
  | .hbm, ⟨17, _⟩ => ⟨S4096x768, .f32⟩
  | .hbm, ⟨18, _⟩ => ⟨S16384x1, .f32⟩
  | .hbm, ⟨19, _⟩ => ⟨S4096x768, .f32⟩
  | .hbm, ⟨20, _⟩ => ⟨S16384x1, .f32⟩
  | .hbm, ⟨21, _⟩ => ⟨S4096x768, .f32⟩
  | .hbm, ⟨22, _⟩ => ⟨S16384x1, .f32⟩
  | .local .tc .vmem, ⟨0, _⟩ => ⟨S1024x768, .f32⟩
  | .local .tc .vmem, ⟨1, _⟩ => ⟨S1024x768, .f32⟩
  | .local .tc .vmem, ⟨2, _⟩ => ⟨S768x256, .bf16⟩
  | .local .tc .vmem, ⟨3, _⟩ => ⟨S256x512, .bf16⟩
  | .local .tc .vmem, ⟨4, _⟩ => ⟨S1x512, .f32⟩
  | .local .tc .vmem, ⟨5, _⟩ => ⟨S512x256, .bf16⟩
  | .local .tc .vmem, ⟨6, _⟩ => ⟨S1x256, .f32⟩
  | .local .tc .vmem, ⟨7, _⟩ => ⟨S1x256, .f32⟩
  | .local .tc .vmem, ⟨8, _⟩ => ⟨S1x1, .f32⟩
  | .local .tc .vmem, ⟨9, _⟩ => ⟨S1024x1, .f32⟩
  | .local .tc .vmem, ⟨10, _⟩ => ⟨S1024x1, .f32⟩
  | .local .tc .vmem, ⟨11, _⟩ => ⟨S1024x768, .f32⟩
  | .local .tc .vmem, ⟨12, _⟩ => ⟨S1024x768, .f32⟩
  | .local .tc .vmem, ⟨13, _⟩ => ⟨S768x256, .bf16⟩
  | .local .tc .vmem, ⟨14, _⟩ => ⟨S256x512, .bf16⟩
  | .local .tc .vmem, ⟨15, _⟩ => ⟨S1x512, .f32⟩
  | .local .tc .vmem, ⟨16, _⟩ => ⟨S512x256, .bf16⟩
  | .local .tc .vmem, ⟨17, _⟩ => ⟨S1x256, .f32⟩
  | .local .tc .vmem, ⟨18, _⟩ => ⟨S1x256, .f32⟩
  | .local .tc .vmem, ⟨19, _⟩ => ⟨S1x1, .f32⟩
  | .local .tc .vmem, ⟨20, _⟩ => ⟨S1024x1, .f32⟩
  | .local .tc .vmem, ⟨21, _⟩ => ⟨S1024x1, .f32⟩
  | .local .tc .vmem, ⟨22, _⟩ => ⟨S1024x768, .f32⟩
  | .local .tc .vmem, ⟨23, _⟩ => ⟨S1024x768, .f32⟩
  | .local .tc .vmem, ⟨24, _⟩ => ⟨S768x256, .bf16⟩
  | .local .tc .vmem, ⟨25, _⟩ => ⟨S256x512, .bf16⟩
  | .local .tc .vmem, ⟨26, _⟩ => ⟨S1x512, .f32⟩
  | .local .tc .vmem, ⟨27, _⟩ => ⟨S512x256, .bf16⟩
  | .local .tc .vmem, ⟨28, _⟩ => ⟨S1x256, .f32⟩
  | .local .tc .vmem, ⟨29, _⟩ => ⟨S1x256, .f32⟩
  | .local .tc .vmem, ⟨30, _⟩ => ⟨S1x1, .f32⟩
  | .local .tc .vmem, ⟨31, _⟩ => ⟨S1024x1, .f32⟩
  | .local .tc .vmem, ⟨32, _⟩ => ⟨S1024x1, .f32⟩
  | .local .tc .vmem, ⟨33, _⟩ => ⟨S1024x768, .f32⟩
  | .local .tc .vmem, ⟨34, _⟩ => ⟨S1024x768, .f32⟩
  | .local .tc .vmem, ⟨35, _⟩ => ⟨S768x256, .bf16⟩
  | .local .tc .vmem, ⟨36, _⟩ => ⟨S256x512, .bf16⟩
  | .local .tc .vmem, ⟨37, _⟩ => ⟨S1x512, .f32⟩
  | .local .tc .vmem, ⟨38, _⟩ => ⟨S512x256, .bf16⟩
  | .local .tc .vmem, ⟨39, _⟩ => ⟨S1x256, .f32⟩
  | .local .tc .vmem, ⟨40, _⟩ => ⟨S1x256, .f32⟩
  | .local .tc .vmem, ⟨41, _⟩ => ⟨S1x1, .f32⟩
  | .local .tc .vmem, ⟨42, _⟩ => ⟨S1024x1, .f32⟩
  | .local .tc .vmem, ⟨43, _⟩ => ⟨S1024x1, .f32⟩
  | .local .scVector .vmem, ⟨0, _⟩ => ⟨S128x32, .i32⟩
  | .local .scVector .vmem, ⟨1, _⟩ => ⟨S32x768, .f32⟩
  | .local .scVector .vmem, ⟨2, _⟩ => ⟨S32x768, .f32⟩
  | .local .scVector .vmem, ⟨3, _⟩ => ⟨S128x32, .i32⟩
  | .local .scVector .vmem, ⟨4, _⟩ => ⟨S32x768, .f32⟩
  | .local .scVector .vmem, ⟨5, _⟩ => ⟨S32x768, .f32⟩
  | .local .scVector .vmem, ⟨6, _⟩ => ⟨S128x32, .i32⟩
  | .local .scVector .vmem, ⟨7, _⟩ => ⟨S32x768, .f32⟩
  | .local .scVector .vmem, ⟨8, _⟩ => ⟨S32x768, .f32⟩
  | .local .scVector .vmem, ⟨9, _⟩ => ⟨S128x32, .i32⟩
  | .local .scVector .vmem, ⟨10, _⟩ => ⟨S32x768, .f32⟩
  | .local .scVector .vmem, ⟨11, _⟩ => ⟨S32x768, .f32⟩
  | _, _ => ⟨S16384x32, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0_scv : Ref sig .scVector := ⟨.hbm, 0, rfl⟩
abbrev main_v7_scv : Ref sig .scVector := ⟨.hbm, 15, rfl⟩
abbrev main_v9_scv : Ref sig .scVector := ⟨.hbm, 17, rfl⟩
abbrev main_v11_scv : Ref sig .scVector := ⟨.hbm, 19, rfl⟩
abbrev main_v13_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg8_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg7_0 : Ref sig .tc := ⟨.vmem, 19, rfl⟩
abbrev cc3_stg8_0 : Ref sig .tc := ⟨.vmem, 20, rfl⟩
abbrev cc3_stg8_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg4_0 : Ref sig .tc := ⟨.vmem, 27, rfl⟩
abbrev cc5_stg5_0 : Ref sig .tc := ⟨.vmem, 28, rfl⟩
abbrev cc5_stg6_0 : Ref sig .tc := ⟨.vmem, 29, rfl⟩
abbrev cc5_stg7_0 : Ref sig .tc := ⟨.vmem, 30, rfl⟩
abbrev cc5_stg8_0 : Ref sig .tc := ⟨.vmem, 31, rfl⟩
abbrev cc5_stg8_1 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg3_0 : Ref sig .tc := ⟨.vmem, 37, rfl⟩
abbrev cc7_stg4_0 : Ref sig .tc := ⟨.vmem, 38, rfl⟩
abbrev cc7_stg5_0 : Ref sig .tc := ⟨.vmem, 39, rfl⟩
abbrev cc7_stg6_0 : Ref sig .tc := ⟨.vmem, 40, rfl⟩
abbrev cc7_stg7_0 : Ref sig .tc := ⟨.vmem, 41, rfl⟩
abbrev cc7_stg8_0 : Ref sig .tc := ⟨.vmem, 42, rfl⟩
abbrev cc7_stg8_1 : Ref sig .tc := ⟨.vmem, 43, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem8_1 : DmaSem sig := 13
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem7_0 : DmaSem sig := 39
abbrev cc5_sem8_0 : DmaSem sig := 40
abbrev cc5_sem8_1 : DmaSem sig := 41
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem4_0 : DmaSem sig := 50
abbrev cc7_sem5_0 : DmaSem sig := 51
abbrev cc7_sem6_0 : DmaSem sig := 52
abbrev cc7_sem7_0 : DmaSem sig := 53
abbrev cc7_sem8_0 : DmaSem sig := 54
abbrev cc7_sem8_1 : DmaSem sig := 55
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let c0_i32_48_r0 : BitVec 32 := 0#32
  ![v3.toNat, 0]
@[reducible] def k0_t1_loop : Scf.Loop 32 :=
  let c0_i32_1 : BitVec 32 := 0#32
  let c32_i32 : BitVec 32 := 32#32
  let v6 : BitVec 32 := Scalar.addi c0_i32_1 c32_i32
  let c1_i32 : BitVec 32 := 1#32
  ⟨c0_i32_1, v6, c1_i32⟩
@[reducible] def k0_t2_loop : Scf.Loop 32 :=
  let c0_i32_50 : BitVec 32 := 0#32
  let c12_i32 : BitVec 32 := 12#32
  let v36 : BitVec 32 := Scalar.addi c0_i32_50 c12_i32
  let c1_i32_51 : BitVec 32 := 1#32
  ⟨c0_i32_50, v36, c1_i32_51⟩
def k0_off2 (k0_t1 : Fin k0_t1_loop.trips) (k0_t2 : Fin k0_t2_loop.trips) (c0_i32_56 : BitVec 32) : Fin 2 → Nat :=
  let c0_i32_49 : BitVec 32 := 0#32
  let c0_i32_1 : BitVec 32 := 0#32
  let c1_i32 : BitVec 32 := 1#32
  let arg9 : BitVec 32 := Scf.iv c0_i32_1 c1_i32 k0_t1
  let c1_i32_48 : BitVec 32 := 1#32
  let v34 : BitVec 32 := Scalar.muli arg9 c1_i32_48
  let v35 : BitVec 32 := Scalar.addi c0_i32_49 v34
  let v41 : Index := Scalar.indexCast v35
  let c0_i32_54 : BitVec 32 := 0#32
  let c0_i32_50 : BitVec 32 := 0#32
  let c1_i32_51 : BitVec 32 := 1#32
  let arg10 : BitVec 32 := Scf.iv c0_i32_50 c1_i32_51 k0_t2
  let c64_i32_53 : BitVec 32 := 64#32
  let v37 : BitVec 32 := Scalar.muli arg10 c64_i32_53
  let v38 : BitVec 32 := Scalar.addi c0_i32_54 v37
  let v40 : BitVec 32 := Scalar.addi v38 c0_i32_56
  let v42 : Index := Scalar.indexCast v40
  ![v41.toNat, v42.toNat]
@[reducible] def k0_t3_loop : Scf.Loop 32 :=
  let c0_i32_3 : BitVec 32 := 0#32
  let c16_i32 : BitVec 32 := 16#32
  let v7 : BitVec 32 := Scalar.addi c0_i32_3 c16_i32
  let c1_i32_4 : BitVec 32 := 1#32
  ⟨c0_i32_3, v7, c1_i32_4⟩
def k0_off3 (k0_t3 : Fin k0_t3_loop.trips) : Fin 2 → Nat :=
  let c0_i32_52 : BitVec 32 := 0#32
  let c2_i32_50 : BitVec 32 := 2#32
  let c0_i32_49 : BitVec 32 := 0#32
  let c0_i32_3 : BitVec 32 := 0#32
  let c1_i32_4 : BitVec 32 := 1#32
  let arg9 : BitVec 32 := Scf.iv c0_i32_3 c1_i32_4 k0_t3
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v39 : BitVec 32 := Scalar.addi c0_i32_52 v37
  let v40 : Index := Scalar.indexCast v39
  let c0 : Index := 0#32
  ![v40.toNat, 0]
def k0_off4 (k0_t3 : Fin k0_t3_loop.trips) : Fin 2 → Nat :=
  let c0_i32_53 : BitVec 32 := 0#32
  let c2_i32_50 : BitVec 32 := 2#32
  let c0_i32_49 : BitVec 32 := 0#32
  let c0_i32_3 : BitVec 32 := 0#32
  let c1_i32_4 : BitVec 32 := 1#32
  let arg9 : BitVec 32 := Scf.iv c0_i32_3 c1_i32_4 k0_t3
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v42 : BitVec 32 := Scalar.addi c0_i32_53 v37
  let v43 : Index := Scalar.indexCast v42
  let c16 : Index := 16#32
  ![v43.toNat, 16]

def k0_chk1 (v38 : IVec S16 32) (v41 : IVec S16 32) : Prop :=
  (∀ a x, ((![v38, v41] : Fin 2 → IVec S16 32) a x).toNat < S32x768.size a)
theorem k0_idx1_inb : ∀ (v38 : IVec S16 32) (v41 : IVec S16 32) (k0_hw1 : k0_chk1 v38 v41), ∀ a x, ((![v38, v41] : Fin 2 → IVec S16 32) a x).toNat < S32x768.size a := fun v38 v41 k0_hw1 => k0_hw1

def k0_chk2 (v38 : IVec S16 32) (v44 : IVec S16 32) : Prop :=
  (∀ a x, ((![v38, v44] : Fin 2 → IVec S16 32) a x).toNat < S32x768.size a)
theorem k0_idx2_inb : ∀ (v38 : IVec S16 32) (v44 : IVec S16 32) (k0_hw2 : k0_chk2 v38 v44), ∀ a x, ((![v38, v44] : Fin 2 → IVec S16 32) a x).toNat < S32x768.size a := fun v38 v44 k0_hw2 => k0_hw2
def k0_off5 (k0_t3 : Fin k0_t3_loop.trips) : Fin 2 → Nat :=
  let c0_i32_56 : BitVec 32 := 0#32
  let c2_i32_54 : BitVec 32 := 2#32
  let c0_i32_49 : BitVec 32 := 0#32
  let c0_i32_3 : BitVec 32 := 0#32
  let c1_i32_4 : BitVec 32 := 1#32
  let arg9 : BitVec 32 := Scf.iv c0_i32_3 c1_i32_4 k0_t3
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v48 : BitVec 32 := Scalar.addi c0_i32_56 v46
  let v49 : Index := Scalar.indexCast v48
  let c0_57 : Index := 0#32
  ![v49.toNat, 0]
def k0_off6 (k0_t3 : Fin k0_t3_loop.trips) : Fin 2 → Nat :=
  let c0_i32_58 : BitVec 32 := 0#32
  let c2_i32_54 : BitVec 32 := 2#32
  let c0_i32_49 : BitVec 32 := 0#32
  let c0_i32_3 : BitVec 32 := 0#32
  let c1_i32_4 : BitVec 32 := 1#32
  let arg9 : BitVec 32 := Scf.iv c0_i32_3 c1_i32_4 k0_t3
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v51 : BitVec 32 := Scalar.addi c0_i32_58 v46
  let v52 : Index := Scalar.indexCast v51
  let c16_59 : Index := 16#32
  ![v52.toNat, 16]

def k0_chk3 (v47 : IVec S16 32) (v50 : IVec S16 32) : Prop :=
  (∀ a x, ((![v47, v50] : Fin 2 → IVec S16 32) a x).toNat < S32x768.size a)
theorem k0_idx3_inb : ∀ (v47 : IVec S16 32) (v50 : IVec S16 32) (k0_hw3 : k0_chk3 v47 v50), ∀ a x, ((![v47, v50] : Fin 2 → IVec S16 32) a x).toNat < S32x768.size a := fun v47 v50 k0_hw3 => k0_hw3

def k0_chk4 (v47 : IVec S16 32) (v53 : IVec S16 32) : Prop :=
  (∀ a x, ((![v47, v53] : Fin 2 → IVec S16 32) a x).toNat < S32x768.size a)
theorem k0_idx4_inb : ∀ (v47 : IVec S16 32) (v53 : IVec S16 32) (k0_hw4 : k0_chk4 v47 v53), ∀ a x, ((![v47, v53] : Fin 2 → IVec S16 32) a x).toNat < S32x768.size a := fun v47 v53 k0_hw4 => k0_hw4
def k0_off7 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v8 : BitVec 32 := Scalar.addi v2 c0_i32_6
  let c0_i32_7 : BitVec 32 := 0#32
  ![v8.toNat, 0]
@[reducible] def k0_t4_loop : Scf.Loop 32 :=
  let c0_i32_9 : BitVec 32 := 0#32
  let c32_i32_10 : BitVec 32 := 32#32
  let v11 : BitVec 32 := Scalar.addi c0_i32_9 c32_i32_10
  let c1_i32_11 : BitVec 32 := 1#32
  ⟨c0_i32_9, v11, c1_i32_11⟩
@[reducible] def k0_t5_loop : Scf.Loop 32 :=
  let c0_i32_50 : BitVec 32 := 0#32
  let c12_i32 : BitVec 32 := 12#32
  let v36 : BitVec 32 := Scalar.addi c0_i32_50 c12_i32
  let c1_i32_51 : BitVec 32 := 1#32
  ⟨c0_i32_50, v36, c1_i32_51⟩
def k0_off8 (k0_t4 : Fin k0_t4_loop.trips) (k0_t5 : Fin k0_t5_loop.trips) (c0_i32_56 : BitVec 32) : Fin 2 → Nat :=
  let c0_i32_49 : BitVec 32 := 0#32
  let c0_i32_9 : BitVec 32 := 0#32
  let c1_i32_11 : BitVec 32 := 1#32
  let arg9 : BitVec 32 := Scf.iv c0_i32_9 c1_i32_11 k0_t4
  let c1_i32_48 : BitVec 32 := 1#32
  let v34 : BitVec 32 := Scalar.muli arg9 c1_i32_48
  let v35 : BitVec 32 := Scalar.addi c0_i32_49 v34
  let v41 : Index := Scalar.indexCast v35
  let c0_i32_54 : BitVec 32 := 0#32
  let c0_i32_50 : BitVec 32 := 0#32
  let c1_i32_51 : BitVec 32 := 1#32
  let arg10 : BitVec 32 := Scf.iv c0_i32_50 c1_i32_51 k0_t5
  let c64_i32_53 : BitVec 32 := 64#32
  let v37 : BitVec 32 := Scalar.muli arg10 c64_i32_53
  let v38 : BitVec 32 := Scalar.addi c0_i32_54 v37
  let v40 : BitVec 32 := Scalar.addi v38 c0_i32_56
  let v42 : Index := Scalar.indexCast v40
  ![v41.toNat, v42.toNat]
@[reducible] def k0_t6_loop : Scf.Loop 32 :=
  let c0_i32_13 : BitVec 32 := 0#32
  let c16_i32_14 : BitVec 32 := 16#32
  let v12 : BitVec 32 := Scalar.addi c0_i32_13 c16_i32_14
  let c1_i32_15 : BitVec 32 := 1#32
  ⟨c0_i32_13, v12, c1_i32_15⟩
def k0_off9 (k0_t6 : Fin k0_t6_loop.trips) : Fin 2 → Nat :=
  let c32_i32_52 : BitVec 32 := 32#32
  let c2_i32_50 : BitVec 32 := 2#32
  let c0_i32_49 : BitVec 32 := 0#32
  let c0_i32_13 : BitVec 32 := 0#32
  let c1_i32_15 : BitVec 32 := 1#32
  let arg9 : BitVec 32 := Scf.iv c0_i32_13 c1_i32_15 k0_t6
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v39 : BitVec 32 := Scalar.addi c32_i32_52 v37
  let v40 : Index := Scalar.indexCast v39
  let c0 : Index := 0#32
  ![v40.toNat, 0]
def k0_off10 (k0_t6 : Fin k0_t6_loop.trips) : Fin 2 → Nat :=
  let c32_i32_53 : BitVec 32 := 32#32
  let c2_i32_50 : BitVec 32 := 2#32
  let c0_i32_49 : BitVec 32 := 0#32
  let c0_i32_13 : BitVec 32 := 0#32
  let c1_i32_15 : BitVec 32 := 1#32
  let arg9 : BitVec 32 := Scf.iv c0_i32_13 c1_i32_15 k0_t6
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v42 : BitVec 32 := Scalar.addi c32_i32_53 v37
  let v43 : Index := Scalar.indexCast v42
  let c16 : Index := 16#32
  ![v43.toNat, 16]

def k0_chk5 (v38 : IVec S16 32) (v41 : IVec S16 32) : Prop :=
  (∀ a x, ((![v38, v41] : Fin 2 → IVec S16 32) a x).toNat < S32x768.size a)
theorem k0_idx5_inb : ∀ (v38 : IVec S16 32) (v41 : IVec S16 32) (k0_hw5 : k0_chk5 v38 v41), ∀ a x, ((![v38, v41] : Fin 2 → IVec S16 32) a x).toNat < S32x768.size a := fun v38 v41 k0_hw5 => k0_hw5

def k0_chk6 (v38 : IVec S16 32) (v44 : IVec S16 32) : Prop :=
  (∀ a x, ((![v38, v44] : Fin 2 → IVec S16 32) a x).toNat < S32x768.size a)
theorem k0_idx6_inb : ∀ (v38 : IVec S16 32) (v44 : IVec S16 32) (k0_hw6 : k0_chk6 v38 v44), ∀ a x, ((![v38, v44] : Fin 2 → IVec S16 32) a x).toNat < S32x768.size a := fun v38 v44 k0_hw6 => k0_hw6
def k0_off11 (k0_t6 : Fin k0_t6_loop.trips) : Fin 2 → Nat :=
  let c32_i32_56 : BitVec 32 := 32#32
  let c2_i32_54 : BitVec 32 := 2#32
  let c0_i32_49 : BitVec 32 := 0#32
  let c0_i32_13 : BitVec 32 := 0#32
  let c1_i32_15 : BitVec 32 := 1#32
  let arg9 : BitVec 32 := Scf.iv c0_i32_13 c1_i32_15 k0_t6
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v48 : BitVec 32 := Scalar.addi c32_i32_56 v46
  let v49 : Index := Scalar.indexCast v48
  let c0_57 : Index := 0#32
  ![v49.toNat, 0]
def k0_off12 (k0_t6 : Fin k0_t6_loop.trips) : Fin 2 → Nat :=
  let c32_i32_58 : BitVec 32 := 32#32
  let c2_i32_54 : BitVec 32 := 2#32
  let c0_i32_49 : BitVec 32 := 0#32
  let c0_i32_13 : BitVec 32 := 0#32
  let c1_i32_15 : BitVec 32 := 1#32
  let arg9 : BitVec 32 := Scf.iv c0_i32_13 c1_i32_15 k0_t6
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v51 : BitVec 32 := Scalar.addi c32_i32_58 v46
  let v52 : Index := Scalar.indexCast v51
  let c16_59 : Index := 16#32
  ![v52.toNat, 16]

def k0_chk7 (v47 : IVec S16 32) (v50 : IVec S16 32) : Prop :=
  (∀ a x, ((![v47, v50] : Fin 2 → IVec S16 32) a x).toNat < S32x768.size a)
theorem k0_idx7_inb : ∀ (v47 : IVec S16 32) (v50 : IVec S16 32) (k0_hw7 : k0_chk7 v47 v50), ∀ a x, ((![v47, v50] : Fin 2 → IVec S16 32) a x).toNat < S32x768.size a := fun v47 v50 k0_hw7 => k0_hw7

def k0_chk8 (v47 : IVec S16 32) (v53 : IVec S16 32) : Prop :=
  (∀ a x, ((![v47, v53] : Fin 2 → IVec S16 32) a x).toNat < S32x768.size a)
theorem k0_idx8_inb : ∀ (v47 : IVec S16 32) (v53 : IVec S16 32) (k0_hw8 : k0_chk8 v47 v53), ∀ a x, ((![v47, v53] : Fin 2 → IVec S16 32) a x).toNat < S32x768.size a := fun v47 v53 k0_hw8 => k0_hw8
@[reducible] def k0_t7_loop : Scf.Loop 32 :=
  let c0_i32_22 : BitVec 32 := 0#32
  let c32_i32_23 : BitVec 32 := 32#32
  let v18 : BitVec 32 := Scalar.addi c0_i32_22 c32_i32_23
  let c1_i32_24 : BitVec 32 := 1#32
  ⟨c0_i32_22, v18, c1_i32_24⟩
def k0_off13 (k0_t7 : Fin k0_t7_loop.trips) : Fin 2 → Nat :=
  let c0_i32_50 : BitVec 32 := 0#32
  let c0_i32_49 : BitVec 32 := 0#32
  let c0_i32_22 : BitVec 32 := 0#32
  let c1_i32_24 : BitVec 32 := 1#32
  let arg9 : BitVec 32 := Scf.iv c0_i32_22 c1_i32_24 k0_t7
  let c1_i32_48 : BitVec 32 := 1#32
  let v34 : BitVec 32 := Scalar.muli arg9 c1_i32_48
  let v35 : BitVec 32 := Scalar.addi c0_i32_49 v34
  let v37 : BitVec 32 := Scalar.addi c0_i32_50 v35
  let v38 : Index := Scalar.indexCast v37
  let c0 : Index := 0#32
  ![v38.toNat, 0]
def k0_off14 (k0_t7 : Fin k0_t7_loop.trips) : Fin 2 → Nat :=
  let c0_i32_51 : BitVec 32 := 0#32
  let c0_i32_49 : BitVec 32 := 0#32
  let c0_i32_22 : BitVec 32 := 0#32
  let c1_i32_24 : BitVec 32 := 1#32
  let arg9 : BitVec 32 := Scf.iv c0_i32_22 c1_i32_24 k0_t7
  let c1_i32_48 : BitVec 32 := 1#32
  let v34 : BitVec 32 := Scalar.muli arg9 c1_i32_48
  let v35 : BitVec 32 := Scalar.addi c0_i32_49 v34
  let v40 : BitVec 32 := Scalar.addi c0_i32_51 v35
  let v41 : Index := Scalar.indexCast v40
  let c16 : Index := 16#32
  ![v41.toNat, 16]

def k0_chk9 (v36 : IVec S16 32) (v39 : IVec S16 32) : Prop :=
  (∀ a x, ((![v36, v39] : Fin 2 → IVec S16 32) a x).toNat < S32x768.size a)
theorem k0_idx9_inb : ∀ (v36 : IVec S16 32) (v39 : IVec S16 32) (k0_hw9 : k0_chk9 v36 v39), ∀ a x, ((![v36, v39] : Fin 2 → IVec S16 32) a x).toNat < S32x768.size a := fun v36 v39 k0_hw9 => k0_hw9

def k0_chk10 (v36 : IVec S16 32) (v42 : IVec S16 32) : Prop :=
  (∀ a x, ((![v36, v42] : Fin 2 → IVec S16 32) a x).toNat < S32x768.size a)
theorem k0_idx10_inb : ∀ (v36 : IVec S16 32) (v42 : IVec S16 32) (k0_hw10 : k0_chk10 v36 v42), ∀ a x, ((![v36, v42] : Fin 2 → IVec S16 32) a x).toNat < S32x768.size a := fun v36 v42 k0_hw10 => k0_hw10
@[reducible] def k0_t8_loop : Scf.Loop 32 :=
  let c0_i32_26 : BitVec 32 := 0#32
  let c16_i32_27 : BitVec 32 := 16#32
  let v19 : BitVec 32 := Scalar.addi c0_i32_26 c16_i32_27
  let c1_i32_28 : BitVec 32 := 1#32
  ⟨c0_i32_26, v19, c1_i32_28⟩
def k0_off15 (k0_t8 : Fin k0_t8_loop.trips) : Fin 2 → Nat :=
  let c64_i32_52 : BitVec 32 := 64#32
  let c2_i32_50 : BitVec 32 := 2#32
  let c0_i32_49 : BitVec 32 := 0#32
  let c0_i32_26 : BitVec 32 := 0#32
  let c1_i32_28 : BitVec 32 := 1#32
  let arg9 : BitVec 32 := Scf.iv c0_i32_26 c1_i32_28 k0_t8
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v39 : BitVec 32 := Scalar.addi c64_i32_52 v37
  let v40 : Index := Scalar.indexCast v39
  let c0 : Index := 0#32
  ![v40.toNat, 0]
def k0_off16 (k0_t8 : Fin k0_t8_loop.trips) : Fin 2 → Nat :=
  let c64_i32_53 : BitVec 32 := 64#32
  let c2_i32_50 : BitVec 32 := 2#32
  let c0_i32_49 : BitVec 32 := 0#32
  let c0_i32_26 : BitVec 32 := 0#32
  let c1_i32_28 : BitVec 32 := 1#32
  let arg9 : BitVec 32 := Scf.iv c0_i32_26 c1_i32_28 k0_t8
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v42 : BitVec 32 := Scalar.addi c64_i32_53 v37
  let v43 : Index := Scalar.indexCast v42
  let c16 : Index := 16#32
  ![v43.toNat, 16]

def k0_chk11 (v38 : IVec S16 32) (v41 : IVec S16 32) : Prop :=
  (∀ a x, ((![v38, v41] : Fin 2 → IVec S16 32) a x).toNat < S32x768.size a)
theorem k0_idx11_inb : ∀ (v38 : IVec S16 32) (v41 : IVec S16 32) (k0_hw11 : k0_chk11 v38 v41), ∀ a x, ((![v38, v41] : Fin 2 → IVec S16 32) a x).toNat < S32x768.size a := fun v38 v41 k0_hw11 => k0_hw11

def k0_chk12 (v38 : IVec S16 32) (v44 : IVec S16 32) : Prop :=
  (∀ a x, ((![v38, v44] : Fin 2 → IVec S16 32) a x).toNat < S32x768.size a)
theorem k0_idx12_inb : ∀ (v38 : IVec S16 32) (v44 : IVec S16 32) (k0_hw12 : k0_chk12 v38 v44), ∀ a x, ((![v38, v44] : Fin 2 → IVec S16 32) a x).toNat < S32x768.size a := fun v38 v44 k0_hw12 => k0_hw12
def k0_off17 (k0_t8 : Fin k0_t8_loop.trips) : Fin 2 → Nat :=
  let c64_i32_56 : BitVec 32 := 64#32
  let c2_i32_54 : BitVec 32 := 2#32
  let c0_i32_49 : BitVec 32 := 0#32
  let c0_i32_26 : BitVec 32 := 0#32
  let c1_i32_28 : BitVec 32 := 1#32
  let arg9 : BitVec 32 := Scf.iv c0_i32_26 c1_i32_28 k0_t8
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v48 : BitVec 32 := Scalar.addi c64_i32_56 v46
  let v49 : Index := Scalar.indexCast v48
  let c0_57 : Index := 0#32
  ![v49.toNat, 0]
def k0_off18 (k0_t8 : Fin k0_t8_loop.trips) : Fin 2 → Nat :=
  let c64_i32_58 : BitVec 32 := 64#32
  let c2_i32_54 : BitVec 32 := 2#32
  let c0_i32_49 : BitVec 32 := 0#32
  let c0_i32_26 : BitVec 32 := 0#32
  let c1_i32_28 : BitVec 32 := 1#32
  let arg9 : BitVec 32 := Scf.iv c0_i32_26 c1_i32_28 k0_t8
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v51 : BitVec 32 := Scalar.addi c64_i32_58 v46
  let v52 : Index := Scalar.indexCast v51
  let c16_59 : Index := 16#32
  ![v52.toNat, 16]

def k0_chk13 (v47 : IVec S16 32) (v50 : IVec S16 32) : Prop :=
  (∀ a x, ((![v47, v50] : Fin 2 → IVec S16 32) a x).toNat < S32x768.size a)
theorem k0_idx13_inb : ∀ (v47 : IVec S16 32) (v50 : IVec S16 32) (k0_hw13 : k0_chk13 v47 v50), ∀ a x, ((![v47, v50] : Fin 2 → IVec S16 32) a x).toNat < S32x768.size a := fun v47 v50 k0_hw13 => k0_hw13

def k0_chk14 (v47 : IVec S16 32) (v53 : IVec S16 32) : Prop :=
  (∀ a x, ((![v47, v53] : Fin 2 → IVec S16 32) a x).toNat < S32x768.size a)
theorem k0_idx14_inb : ∀ (v47 : IVec S16 32) (v53 : IVec S16 32) (k0_hw14 : k0_chk14 v47 v53), ∀ a x, ((![v47, v53] : Fin 2 → IVec S16 32) a x).toNat < S32x768.size a := fun v47 v53 k0_hw14 => k0_hw14
@[reducible] def k0_t9_loop : Scf.Loop 32 :=
  let c0_i32_34 : BitVec 32 := 0#32
  let c32_i32_35 : BitVec 32 := 32#32
  let v25 : BitVec 32 := Scalar.addi c0_i32_34 c32_i32_35
  let c1_i32_36 : BitVec 32 := 1#32
  ⟨c0_i32_34, v25, c1_i32_36⟩
def k0_off19 (k0_t9 : Fin k0_t9_loop.trips) : Fin 2 → Nat :=
  let c32_i32_50 : BitVec 32 := 32#32
  let c0_i32_49 : BitVec 32 := 0#32
  let c0_i32_34 : BitVec 32 := 0#32
  let c1_i32_36 : BitVec 32 := 1#32
  let arg9 : BitVec 32 := Scf.iv c0_i32_34 c1_i32_36 k0_t9
  let c1_i32_48 : BitVec 32 := 1#32
  let v34 : BitVec 32 := Scalar.muli arg9 c1_i32_48
  let v35 : BitVec 32 := Scalar.addi c0_i32_49 v34
  let v37 : BitVec 32 := Scalar.addi c32_i32_50 v35
  let v38 : Index := Scalar.indexCast v37
  let c0 : Index := 0#32
  ![v38.toNat, 0]
def k0_off20 (k0_t9 : Fin k0_t9_loop.trips) : Fin 2 → Nat :=
  let c32_i32_51 : BitVec 32 := 32#32
  let c0_i32_49 : BitVec 32 := 0#32
  let c0_i32_34 : BitVec 32 := 0#32
  let c1_i32_36 : BitVec 32 := 1#32
  let arg9 : BitVec 32 := Scf.iv c0_i32_34 c1_i32_36 k0_t9
  let c1_i32_48 : BitVec 32 := 1#32
  let v34 : BitVec 32 := Scalar.muli arg9 c1_i32_48
  let v35 : BitVec 32 := Scalar.addi c0_i32_49 v34
  let v40 : BitVec 32 := Scalar.addi c32_i32_51 v35
  let v41 : Index := Scalar.indexCast v40
  let c16 : Index := 16#32
  ![v41.toNat, 16]

def k0_chk15 (v36 : IVec S16 32) (v39 : IVec S16 32) : Prop :=
  (∀ a x, ((![v36, v39] : Fin 2 → IVec S16 32) a x).toNat < S32x768.size a)
theorem k0_idx15_inb : ∀ (v36 : IVec S16 32) (v39 : IVec S16 32) (k0_hw15 : k0_chk15 v36 v39), ∀ a x, ((![v36, v39] : Fin 2 → IVec S16 32) a x).toNat < S32x768.size a := fun v36 v39 k0_hw15 => k0_hw15

def k0_chk16 (v36 : IVec S16 32) (v42 : IVec S16 32) : Prop :=
  (∀ a x, ((![v36, v42] : Fin 2 → IVec S16 32) a x).toNat < S32x768.size a)
theorem k0_idx16_inb : ∀ (v36 : IVec S16 32) (v42 : IVec S16 32) (k0_hw16 : k0_chk16 v36 v42), ∀ a x, ((![v36, v42] : Fin 2 → IVec S16 32) a x).toNat < S32x768.size a := fun v36 v42 k0_hw16 => k0_hw16
@[reducible] def k0_t10_loop : Scf.Loop 32 :=
  let c0_i32_38 : BitVec 32 := 0#32
  let c16_i32_39 : BitVec 32 := 16#32
  let v26 : BitVec 32 := Scalar.addi c0_i32_38 c16_i32_39
  let c1_i32_40 : BitVec 32 := 1#32
  ⟨c0_i32_38, v26, c1_i32_40⟩
def k0_off21 (k0_t10 : Fin k0_t10_loop.trips) : Fin 2 → Nat :=
  let c96_i32_52 : BitVec 32 := 96#32
  let c2_i32_50 : BitVec 32 := 2#32
  let c0_i32_49 : BitVec 32 := 0#32
  let c0_i32_38 : BitVec 32 := 0#32
  let c1_i32_40 : BitVec 32 := 1#32
  let arg9 : BitVec 32 := Scf.iv c0_i32_38 c1_i32_40 k0_t10
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v39 : BitVec 32 := Scalar.addi c96_i32_52 v37
  let v40 : Index := Scalar.indexCast v39
  let c0 : Index := 0#32
  ![v40.toNat, 0]
def k0_off22 (k0_t10 : Fin k0_t10_loop.trips) : Fin 2 → Nat :=
  let c96_i32_53 : BitVec 32 := 96#32
  let c2_i32_50 : BitVec 32 := 2#32
  let c0_i32_49 : BitVec 32 := 0#32
  let c0_i32_38 : BitVec 32 := 0#32
  let c1_i32_40 : BitVec 32 := 1#32
  let arg9 : BitVec 32 := Scf.iv c0_i32_38 c1_i32_40 k0_t10
  let c1_i32_48 : BitVec 32 := 1#32
  let v34 : BitVec 32 := Scalar.muli arg9 c1_i32_48
  let v35 : BitVec 32 := Scalar.addi c0_i32_49 v34
  let v36 : BitVec 32 := Scalar.muli c2_i32_50 v35
  let c0_i32_51 : BitVec 32 := 0#32
  let v37 : BitVec 32 := Scalar.addi v36 c0_i32_51
  let v42 : BitVec 32 := Scalar.addi c96_i32_53 v37
  let v43 : Index := Scalar.indexCast v42
  let c16 : Index := 16#32
  ![v43.toNat, 16]

def k0_chk17 (v38 : IVec S16 32) (v41 : IVec S16 32) : Prop :=
  (∀ a x, ((![v38, v41] : Fin 2 → IVec S16 32) a x).toNat < S32x768.size a)
theorem k0_idx17_inb : ∀ (v38 : IVec S16 32) (v41 : IVec S16 32) (k0_hw17 : k0_chk17 v38 v41), ∀ a x, ((![v38, v41] : Fin 2 → IVec S16 32) a x).toNat < S32x768.size a := fun v38 v41 k0_hw17 => k0_hw17

def k0_chk18 (v38 : IVec S16 32) (v44 : IVec S16 32) : Prop :=
  (∀ a x, ((![v38, v44] : Fin 2 → IVec S16 32) a x).toNat < S32x768.size a)
theorem k0_idx18_inb : ∀ (v38 : IVec S16 32) (v44 : IVec S16 32) (k0_hw18 : k0_chk18 v38 v44), ∀ a x, ((![v38, v44] : Fin 2 → IVec S16 32) a x).toNat < S32x768.size a := fun v38 v44 k0_hw18 => k0_hw18
def k0_off23 (k0_t10 : Fin k0_t10_loop.trips) : Fin 2 → Nat :=
  let c96_i32_56 : BitVec 32 := 96#32
  let c2_i32_54 : BitVec 32 := 2#32
  let c0_i32_49 : BitVec 32 := 0#32
  let c0_i32_38 : BitVec 32 := 0#32
  let c1_i32_40 : BitVec 32 := 1#32
  let arg9 : BitVec 32 := Scf.iv c0_i32_38 c1_i32_40 k0_t10
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v48 : BitVec 32 := Scalar.addi c96_i32_56 v46
  let v49 : Index := Scalar.indexCast v48
  let c0_57 : Index := 0#32
  ![v49.toNat, 0]
def k0_off24 (k0_t10 : Fin k0_t10_loop.trips) : Fin 2 → Nat :=
  let c96_i32_58 : BitVec 32 := 96#32
  let c2_i32_54 : BitVec 32 := 2#32
  let c0_i32_49 : BitVec 32 := 0#32
  let c0_i32_38 : BitVec 32 := 0#32
  let c1_i32_40 : BitVec 32 := 1#32
  let arg9 : BitVec 32 := Scf.iv c0_i32_38 c1_i32_40 k0_t10
  let c1_i32_48 : BitVec 32 := 1#32
  let v34 : BitVec 32 := Scalar.muli arg9 c1_i32_48
  let v35 : BitVec 32 := Scalar.addi c0_i32_49 v34
  let v45 : BitVec 32 := Scalar.muli c2_i32_54 v35
  let c1_i32_55 : BitVec 32 := 1#32
  let v46 : BitVec 32 := Scalar.addi v45 c1_i32_55
  let v51 : BitVec 32 := Scalar.addi c96_i32_58 v46
  let v52 : Index := Scalar.indexCast v51
  let c16_59 : Index := 16#32
  ![v52.toNat, 16]

def k0_chk19 (v47 : IVec S16 32) (v50 : IVec S16 32) : Prop :=
  (∀ a x, ((![v47, v50] : Fin 2 → IVec S16 32) a x).toNat < S32x768.size a)
theorem k0_idx19_inb : ∀ (v47 : IVec S16 32) (v50 : IVec S16 32) (k0_hw19 : k0_chk19 v47 v50), ∀ a x, ((![v47, v50] : Fin 2 → IVec S16 32) a x).toNat < S32x768.size a := fun v47 v50 k0_hw19 => k0_hw19

def k0_chk20 (v47 : IVec S16 32) (v53 : IVec S16 32) : Prop :=
  (∀ a x, ((![v47, v53] : Fin 2 → IVec S16 32) a x).toNat < S32x768.size a)
theorem k0_idx20_inb : ∀ (v47 : IVec S16 32) (v53 : IVec S16 32) (k0_hw20 : k0_chk20 v47 v53), ∀ a x, ((![v47, v53] : Fin 2 → IVec S16 32) a x).toNat < S32x768.size a := fun v47 v53 k0_hw20 => k0_hw20
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![2, 16], ![false, false]⟩

def k2_off1 (i : grid2.Coords) : Fin 2 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c4096_i32 v2
  let c0_i32_47_r0 : BitVec 32 := 0#32
  ![v3.toNat, 0]
@[reducible] def k2_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
@[reducible] def k2_t2_loop : Scf.Loop 32 :=
  let c0_i32_49 : BitVec 32 := 0#32
  let c12_i32 : BitVec 32 := 12#32
  let v36 : BitVec 32 := Scalar.addi c0_i32_49 c12_i32
  let c1_i32_50 : BitVec 32 := 1#32
  ⟨c0_i32_49, v36, c1_i32_50⟩
def k2_off2 (k2_t1 : Fin k2_t1_loop.trips) (k2_t2 : Fin k2_t2_loop.trips) (c0_i32_55 : BitVec 32) : Fin 2 → Nat :=
  let c0_i32_48 : BitVec 32 := 0#32
  let c0_i32 : BitVec 32 := 0#32
  let c1_i32 : BitVec 32 := 1#32
  let arg9 : BitVec 32 := Scf.iv c0_i32 c1_i32 k2_t1
  let c1_i32_47 : BitVec 32 := 1#32
  let v34 : BitVec 32 := Scalar.muli arg9 c1_i32_47
  let v35 : BitVec 32 := Scalar.addi c0_i32_48 v34
  let v41 : Index := Scalar.indexCast v35
  let c0_i32_53 : BitVec 32 := 0#32
  let c0_i32_49 : BitVec 32 := 0#32
  let c1_i32_50 : BitVec 32 := 1#32
  let arg10 : BitVec 32 := Scf.iv c0_i32_49 c1_i32_50 k2_t2
  let c64_i32_52 : BitVec 32 := 64#32
  let v37 : BitVec 32 := Scalar.muli arg10 c64_i32_52
  let v38 : BitVec 32 := Scalar.addi c0_i32_53 v37
  let v40 : BitVec 32 := Scalar.addi v38 c0_i32_55
  let v42 : Index := Scalar.indexCast v40
  ![v41.toNat, v42.toNat]
@[reducible] def k2_t3_loop : Scf.Loop 32 :=
  let c0_i32_2 : BitVec 32 := 0#32
  let c16_i32 : BitVec 32 := 16#32
  let v7 : BitVec 32 := Scalar.addi c0_i32_2 c16_i32
  let c1_i32_3 : BitVec 32 := 1#32
  ⟨c0_i32_2, v7, c1_i32_3⟩
def k2_off3 (k2_t3 : Fin k2_t3_loop.trips) : Fin 2 → Nat :=
  let c0_i32_51 : BitVec 32 := 0#32
  let c2_i32_49 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k2_t3
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c0_i32_51 v37
  let v40 : Index := Scalar.indexCast v39
  let c0 : Index := 0#32
  ![v40.toNat, 0]
def k2_off4 (k2_t3 : Fin k2_t3_loop.trips) : Fin 2 → Nat :=
  let c0_i32_52 : BitVec 32 := 0#32
  let c2_i32_49 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k2_t3
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c0_i32_52 v37
  let v43 : Index := Scalar.indexCast v42
  let c16 : Index := 16#32
  ![v43.toNat, 16]

def k2_chk1 (v38 : IVec S16 32) (v41 : IVec S16 32) : Prop :=
  (∀ a x, ((![v38, v41] : Fin 2 → IVec S16 32) a x).toNat < S32x768.size a)
theorem k2_idx1_inb : ∀ (v38 : IVec S16 32) (v41 : IVec S16 32) (k2_hw1 : k2_chk1 v38 v41), ∀ a x, ((![v38, v41] : Fin 2 → IVec S16 32) a x).toNat < S32x768.size a := fun v38 v41 k2_hw1 => k2_hw1

def k2_chk2 (v38 : IVec S16 32) (v44 : IVec S16 32) : Prop :=
  (∀ a x, ((![v38, v44] : Fin 2 → IVec S16 32) a x).toNat < S32x768.size a)
theorem k2_idx2_inb : ∀ (v38 : IVec S16 32) (v44 : IVec S16 32) (k2_hw2 : k2_chk2 v38 v44), ∀ a x, ((![v38, v44] : Fin 2 → IVec S16 32) a x).toNat < S32x768.size a := fun v38 v44 k2_hw2 => k2_hw2
def k2_off5 (k2_t3 : Fin k2_t3_loop.trips) : Fin 2 → Nat :=
  let c0_i32_55 : BitVec 32 := 0#32
  let c2_i32_53 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k2_t3
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c0_i32_55 v46
  let v49 : Index := Scalar.indexCast v48
  let c0_56 : Index := 0#32
  ![v49.toNat, 0]
def k2_off6 (k2_t3 : Fin k2_t3_loop.trips) : Fin 2 → Nat :=
  let c0_i32_57 : BitVec 32 := 0#32
  let c2_i32_53 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k2_t3
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c0_i32_57 v46
  let v52 : Index := Scalar.indexCast v51
  let c16_58 : Index := 16#32
  ![v52.toNat, 16]

def k2_chk3 (v47 : IVec S16 32) (v50 : IVec S16 32) : Prop :=
  (∀ a x, ((![v47, v50] : Fin 2 → IVec S16 32) a x).toNat < S32x768.size a)
theorem k2_idx3_inb : ∀ (v47 : IVec S16 32) (v50 : IVec S16 32) (k2_hw3 : k2_chk3 v47 v50), ∀ a x, ((![v47, v50] : Fin 2 → IVec S16 32) a x).toNat < S32x768.size a := fun v47 v50 k2_hw3 => k2_hw3

def k2_chk4 (v47 : IVec S16 32) (v53 : IVec S16 32) : Prop :=
  (∀ a x, ((![v47, v53] : Fin 2 → IVec S16 32) a x).toNat < S32x768.size a)
theorem k2_idx4_inb : ∀ (v47 : IVec S16 32) (v53 : IVec S16 32) (k2_hw4 : k2_chk4 v47 v53), ∀ a x, ((![v47, v53] : Fin 2 → IVec S16 32) a x).toNat < S32x768.size a := fun v47 v53 k2_hw4 => k2_hw4
def k2_off7 (i : grid2.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v8 : BitVec 32 := Scalar.addi v2 c0_i32_5
  let c0_i32_6 : BitVec 32 := 0#32
  ![v8.toNat, 0]
@[reducible] def k2_t4_loop : Scf.Loop 32 :=
  let c0_i32_8 : BitVec 32 := 0#32
  let c32_i32_9 : BitVec 32 := 32#32
  let v11 : BitVec 32 := Scalar.addi c0_i32_8 c32_i32_9
  let c1_i32_10 : BitVec 32 := 1#32
  ⟨c0_i32_8, v11, c1_i32_10⟩
@[reducible] def k2_t5_loop : Scf.Loop 32 :=
  let c0_i32_49 : BitVec 32 := 0#32
  let c12_i32 : BitVec 32 := 12#32
  let v36 : BitVec 32 := Scalar.addi c0_i32_49 c12_i32
  let c1_i32_50 : BitVec 32 := 1#32
  ⟨c0_i32_49, v36, c1_i32_50⟩
def k2_off8 (k2_t4 : Fin k2_t4_loop.trips) (k2_t5 : Fin k2_t5_loop.trips) (c0_i32_55 : BitVec 32) : Fin 2 → Nat :=
  let c0_i32_48 : BitVec 32 := 0#32
  let c0_i32_8 : BitVec 32 := 0#32
  let c1_i32_10 : BitVec 32 := 1#32
  let arg9 : BitVec 32 := Scf.iv c0_i32_8 c1_i32_10 k2_t4
  let c1_i32_47 : BitVec 32 := 1#32
  let v34 : BitVec 32 := Scalar.muli arg9 c1_i32_47
  let v35 : BitVec 32 := Scalar.addi c0_i32_48 v34
  let v41 : Index := Scalar.indexCast v35
  let c0_i32_53 : BitVec 32 := 0#32
  let c0_i32_49 : BitVec 32 := 0#32
  let c1_i32_50 : BitVec 32 := 1#32
  let arg10 : BitVec 32 := Scf.iv c0_i32_49 c1_i32_50 k2_t5
  let c64_i32_52 : BitVec 32 := 64#32
  let v37 : BitVec 32 := Scalar.muli arg10 c64_i32_52
  let v38 : BitVec 32 := Scalar.addi c0_i32_53 v37
  let v40 : BitVec 32 := Scalar.addi v38 c0_i32_55
  let v42 : Index := Scalar.indexCast v40
  ![v41.toNat, v42.toNat]
@[reducible] def k2_t6_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k2_off9 (k2_t6 : Fin k2_t6_loop.trips) : Fin 2 → Nat :=
  let c32_i32_51 : BitVec 32 := 32#32
  let c2_i32_49 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k2_t6
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c32_i32_51 v37
  let v40 : Index := Scalar.indexCast v39
  let c0 : Index := 0#32
  ![v40.toNat, 0]
def k2_off10 (k2_t6 : Fin k2_t6_loop.trips) : Fin 2 → Nat :=
  let c32_i32_52 : BitVec 32 := 32#32
  let c2_i32_49 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k2_t6
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c32_i32_52 v37
  let v43 : Index := Scalar.indexCast v42
  let c16 : Index := 16#32
  ![v43.toNat, 16]

def k2_chk5 (v38 : IVec S16 32) (v41 : IVec S16 32) : Prop :=
  (∀ a x, ((![v38, v41] : Fin 2 → IVec S16 32) a x).toNat < S32x768.size a)
theorem k2_idx5_inb : ∀ (v38 : IVec S16 32) (v41 : IVec S16 32) (k2_hw5 : k2_chk5 v38 v41), ∀ a x, ((![v38, v41] : Fin 2 → IVec S16 32) a x).toNat < S32x768.size a := fun v38 v41 k2_hw5 => k2_hw5

def k2_chk6 (v38 : IVec S16 32) (v44 : IVec S16 32) : Prop :=
  (∀ a x, ((![v38, v44] : Fin 2 → IVec S16 32) a x).toNat < S32x768.size a)
theorem k2_idx6_inb : ∀ (v38 : IVec S16 32) (v44 : IVec S16 32) (k2_hw6 : k2_chk6 v38 v44), ∀ a x, ((![v38, v44] : Fin 2 → IVec S16 32) a x).toNat < S32x768.size a := fun v38 v44 k2_hw6 => k2_hw6
def k2_off11 (k2_t6 : Fin k2_t6_loop.trips) : Fin 2 → Nat :=
  let c32_i32_55 : BitVec 32 := 32#32
  let c2_i32_53 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k2_t6
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c32_i32_55 v46
  let v49 : Index := Scalar.indexCast v48
  let c0_56 : Index := 0#32
  ![v49.toNat, 0]
def k2_off12 (k2_t6 : Fin k2_t6_loop.trips) : Fin 2 → Nat :=
  let c32_i32_57 : BitVec 32 := 32#32
  let c2_i32_53 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k2_t6
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c32_i32_57 v46
  let v52 : Index := Scalar.indexCast v51
  let c16_58 : Index := 16#32
  ![v52.toNat, 16]

def k2_chk7 (v47 : IVec S16 32) (v50 : IVec S16 32) : Prop :=
  (∀ a x, ((![v47, v50] : Fin 2 → IVec S16 32) a x).toNat < S32x768.size a)
theorem k2_idx7_inb : ∀ (v47 : IVec S16 32) (v50 : IVec S16 32) (k2_hw7 : k2_chk7 v47 v50), ∀ a x, ((![v47, v50] : Fin 2 → IVec S16 32) a x).toNat < S32x768.size a := fun v47 v50 k2_hw7 => k2_hw7

def k2_chk8 (v47 : IVec S16 32) (v53 : IVec S16 32) : Prop :=
  (∀ a x, ((![v47, v53] : Fin 2 → IVec S16 32) a x).toNat < S32x768.size a)
theorem k2_idx8_inb : ∀ (v47 : IVec S16 32) (v53 : IVec S16 32) (k2_hw8 : k2_chk8 v47 v53), ∀ a x, ((![v47, v53] : Fin 2 → IVec S16 32) a x).toNat < S32x768.size a := fun v47 v53 k2_hw8 => k2_hw8
@[reducible] def k2_t7_loop : Scf.Loop 32 :=
  let c0_i32_21 : BitVec 32 := 0#32
  let c32_i32_22 : BitVec 32 := 32#32
  let v18 : BitVec 32 := Scalar.addi c0_i32_21 c32_i32_22
  let c1_i32_23 : BitVec 32 := 1#32
  ⟨c0_i32_21, v18, c1_i32_23⟩
def k2_off13 (k2_t7 : Fin k2_t7_loop.trips) : Fin 2 → Nat :=
  let c0_i32_49 : BitVec 32 := 0#32
  let c0_i32_48 : BitVec 32 := 0#32
  let c0_i32_21 : BitVec 32 := 0#32
  let c1_i32_23 : BitVec 32 := 1#32
  let arg9 : BitVec 32 := Scf.iv c0_i32_21 c1_i32_23 k2_t7
  let c1_i32_47 : BitVec 32 := 1#32
  let v34 : BitVec 32 := Scalar.muli arg9 c1_i32_47
  let v35 : BitVec 32 := Scalar.addi c0_i32_48 v34
  let v37 : BitVec 32 := Scalar.addi c0_i32_49 v35
  let v38 : Index := Scalar.indexCast v37
  let c0 : Index := 0#32
  ![v38.toNat, 0]
def k2_off14 (k2_t7 : Fin k2_t7_loop.trips) : Fin 2 → Nat :=
  let c0_i32_50 : BitVec 32 := 0#32
  let c0_i32_48 : BitVec 32 := 0#32
  let c0_i32_21 : BitVec 32 := 0#32
  let c1_i32_23 : BitVec 32 := 1#32
  let arg9 : BitVec 32 := Scf.iv c0_i32_21 c1_i32_23 k2_t7
  let c1_i32_47 : BitVec 32 := 1#32
  let v34 : BitVec 32 := Scalar.muli arg9 c1_i32_47
  let v35 : BitVec 32 := Scalar.addi c0_i32_48 v34
  let v40 : BitVec 32 := Scalar.addi c0_i32_50 v35
  let v41 : Index := Scalar.indexCast v40
  let c16 : Index := 16#32
  ![v41.toNat, 16]

def k2_chk9 (v36 : IVec S16 32) (v39 : IVec S16 32) : Prop :=
  (∀ a x, ((![v36, v39] : Fin 2 → IVec S16 32) a x).toNat < S32x768.size a)
theorem k2_idx9_inb : ∀ (v36 : IVec S16 32) (v39 : IVec S16 32) (k2_hw9 : k2_chk9 v36 v39), ∀ a x, ((![v36, v39] : Fin 2 → IVec S16 32) a x).toNat < S32x768.size a := fun v36 v39 k2_hw9 => k2_hw9

def k2_chk10 (v36 : IVec S16 32) (v42 : IVec S16 32) : Prop :=
  (∀ a x, ((![v36, v42] : Fin 2 → IVec S16 32) a x).toNat < S32x768.size a)
theorem k2_idx10_inb : ∀ (v36 : IVec S16 32) (v42 : IVec S16 32) (k2_hw10 : k2_chk10 v36 v42), ∀ a x, ((![v36, v42] : Fin 2 → IVec S16 32) a x).toNat < S32x768.size a := fun v36 v42 k2_hw10 => k2_hw10
@[reducible] def k2_t8_loop : Scf.Loop 32 :=
  let c0_i32_25 : BitVec 32 := 0#32
  let c16_i32_26 : BitVec 32 := 16#32
  let v19 : BitVec 32 := Scalar.addi c0_i32_25 c16_i32_26
  let c1_i32_27 : BitVec 32 := 1#32
  ⟨c0_i32_25, v19, c1_i32_27⟩
def k2_off15 (k2_t8 : Fin k2_t8_loop.trips) : Fin 2 → Nat :=
  let c64_i32_51 : BitVec 32 := 64#32
  let c2_i32_49 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k2_t8
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c64_i32_51 v37
  let v40 : Index := Scalar.indexCast v39
  let c0 : Index := 0#32
  ![v40.toNat, 0]
def k2_off16 (k2_t8 : Fin k2_t8_loop.trips) : Fin 2 → Nat :=
  let c64_i32_52 : BitVec 32 := 64#32
  let c2_i32_49 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k2_t8
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c64_i32_52 v37
  let v43 : Index := Scalar.indexCast v42
  let c16 : Index := 16#32
  ![v43.toNat, 16]

def k2_chk11 (v38 : IVec S16 32) (v41 : IVec S16 32) : Prop :=
  (∀ a x, ((![v38, v41] : Fin 2 → IVec S16 32) a x).toNat < S32x768.size a)
theorem k2_idx11_inb : ∀ (v38 : IVec S16 32) (v41 : IVec S16 32) (k2_hw11 : k2_chk11 v38 v41), ∀ a x, ((![v38, v41] : Fin 2 → IVec S16 32) a x).toNat < S32x768.size a := fun v38 v41 k2_hw11 => k2_hw11

def k2_chk12 (v38 : IVec S16 32) (v44 : IVec S16 32) : Prop :=
  (∀ a x, ((![v38, v44] : Fin 2 → IVec S16 32) a x).toNat < S32x768.size a)
theorem k2_idx12_inb : ∀ (v38 : IVec S16 32) (v44 : IVec S16 32) (k2_hw12 : k2_chk12 v38 v44), ∀ a x, ((![v38, v44] : Fin 2 → IVec S16 32) a x).toNat < S32x768.size a := fun v38 v44 k2_hw12 => k2_hw12
def k2_off17 (k2_t8 : Fin k2_t8_loop.trips) : Fin 2 → Nat :=
  let c64_i32_55 : BitVec 32 := 64#32
  let c2_i32_53 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k2_t8
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c64_i32_55 v46
  let v49 : Index := Scalar.indexCast v48
  let c0_56 : Index := 0#32
  ![v49.toNat, 0]
def k2_off18 (k2_t8 : Fin k2_t8_loop.trips) : Fin 2 → Nat :=
  let c64_i32_57 : BitVec 32 := 64#32
  let c2_i32_53 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k2_t8
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c64_i32_57 v46
  let v52 : Index := Scalar.indexCast v51
  let c16_58 : Index := 16#32
  ![v52.toNat, 16]

def k2_chk13 (v47 : IVec S16 32) (v50 : IVec S16 32) : Prop :=
  (∀ a x, ((![v47, v50] : Fin 2 → IVec S16 32) a x).toNat < S32x768.size a)
theorem k2_idx13_inb : ∀ (v47 : IVec S16 32) (v50 : IVec S16 32) (k2_hw13 : k2_chk13 v47 v50), ∀ a x, ((![v47, v50] : Fin 2 → IVec S16 32) a x).toNat < S32x768.size a := fun v47 v50 k2_hw13 => k2_hw13

def k2_chk14 (v47 : IVec S16 32) (v53 : IVec S16 32) : Prop :=
  (∀ a x, ((![v47, v53] : Fin 2 → IVec S16 32) a x).toNat < S32x768.size a)
theorem k2_idx14_inb : ∀ (v47 : IVec S16 32) (v53 : IVec S16 32) (k2_hw14 : k2_chk14 v47 v53), ∀ a x, ((![v47, v53] : Fin 2 → IVec S16 32) a x).toNat < S32x768.size a := fun v47 v53 k2_hw14 => k2_hw14
@[reducible] def k2_t9_loop : Scf.Loop 32 :=
  let c0_i32_33 : BitVec 32 := 0#32
  let c32_i32_34 : BitVec 32 := 32#32
  let v25 : BitVec 32 := Scalar.addi c0_i32_33 c32_i32_34
  let c1_i32_35 : BitVec 32 := 1#32
  ⟨c0_i32_33, v25, c1_i32_35⟩
def k2_off19 (k2_t9 : Fin k2_t9_loop.trips) : Fin 2 → Nat :=
  let c32_i32_49 : BitVec 32 := 32#32
  let c0_i32_48 : BitVec 32 := 0#32
  let c0_i32_33 : BitVec 32 := 0#32
  let c1_i32_35 : BitVec 32 := 1#32
  let arg9 : BitVec 32 := Scf.iv c0_i32_33 c1_i32_35 k2_t9
  let c1_i32_47 : BitVec 32 := 1#32
  let v34 : BitVec 32 := Scalar.muli arg9 c1_i32_47
  let v35 : BitVec 32 := Scalar.addi c0_i32_48 v34
  let v37 : BitVec 32 := Scalar.addi c32_i32_49 v35
  let v38 : Index := Scalar.indexCast v37
  let c0 : Index := 0#32
  ![v38.toNat, 0]
def k2_off20 (k2_t9 : Fin k2_t9_loop.trips) : Fin 2 → Nat :=
  let c32_i32_50 : BitVec 32 := 32#32
  let c0_i32_48 : BitVec 32 := 0#32
  let c0_i32_33 : BitVec 32 := 0#32
  let c1_i32_35 : BitVec 32 := 1#32
  let arg9 : BitVec 32 := Scf.iv c0_i32_33 c1_i32_35 k2_t9
  let c1_i32_47 : BitVec 32 := 1#32
  let v34 : BitVec 32 := Scalar.muli arg9 c1_i32_47
  let v35 : BitVec 32 := Scalar.addi c0_i32_48 v34
  let v40 : BitVec 32 := Scalar.addi c32_i32_50 v35
  let v41 : Index := Scalar.indexCast v40
  let c16 : Index := 16#32
  ![v41.toNat, 16]

def k2_chk15 (v36 : IVec S16 32) (v39 : IVec S16 32) : Prop :=
  (∀ a x, ((![v36, v39] : Fin 2 → IVec S16 32) a x).toNat < S32x768.size a)
theorem k2_idx15_inb : ∀ (v36 : IVec S16 32) (v39 : IVec S16 32) (k2_hw15 : k2_chk15 v36 v39), ∀ a x, ((![v36, v39] : Fin 2 → IVec S16 32) a x).toNat < S32x768.size a := fun v36 v39 k2_hw15 => k2_hw15

def k2_chk16 (v36 : IVec S16 32) (v42 : IVec S16 32) : Prop :=
  (∀ a x, ((![v36, v42] : Fin 2 → IVec S16 32) a x).toNat < S32x768.size a)
theorem k2_idx16_inb : ∀ (v36 : IVec S16 32) (v42 : IVec S16 32) (k2_hw16 : k2_chk16 v36 v42), ∀ a x, ((![v36, v42] : Fin 2 → IVec S16 32) a x).toNat < S32x768.size a := fun v36 v42 k2_hw16 => k2_hw16
@[reducible] def k2_t10_loop : Scf.Loop 32 :=
  let c0_i32_37 : BitVec 32 := 0#32
  let c16_i32_38 : BitVec 32 := 16#32
  let v26 : BitVec 32 := Scalar.addi c0_i32_37 c16_i32_38
  let c1_i32_39 : BitVec 32 := 1#32
  ⟨c0_i32_37, v26, c1_i32_39⟩
def k2_off21 (k2_t10 : Fin k2_t10_loop.trips) : Fin 2 → Nat :=
  let c96_i32_51 : BitVec 32 := 96#32
  let c2_i32_49 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k2_t10
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c96_i32_51 v37
  let v40 : Index := Scalar.indexCast v39
  let c0 : Index := 0#32
  ![v40.toNat, 0]
def k2_off22 (k2_t10 : Fin k2_t10_loop.trips) : Fin 2 → Nat :=
  let c96_i32_52 : BitVec 32 := 96#32
  let c2_i32_49 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k2_t10
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c96_i32_52 v37
  let v43 : Index := Scalar.indexCast v42
  let c16 : Index := 16#32
  ![v43.toNat, 16]

def k2_chk17 (v38 : IVec S16 32) (v41 : IVec S16 32) : Prop :=
  (∀ a x, ((![v38, v41] : Fin 2 → IVec S16 32) a x).toNat < S32x768.size a)
theorem k2_idx17_inb : ∀ (v38 : IVec S16 32) (v41 : IVec S16 32) (k2_hw17 : k2_chk17 v38 v41), ∀ a x, ((![v38, v41] : Fin 2 → IVec S16 32) a x).toNat < S32x768.size a := fun v38 v41 k2_hw17 => k2_hw17

def k2_chk18 (v38 : IVec S16 32) (v44 : IVec S16 32) : Prop :=
  (∀ a x, ((![v38, v44] : Fin 2 → IVec S16 32) a x).toNat < S32x768.size a)
theorem k2_idx18_inb : ∀ (v38 : IVec S16 32) (v44 : IVec S16 32) (k2_hw18 : k2_chk18 v38 v44), ∀ a x, ((![v38, v44] : Fin 2 → IVec S16 32) a x).toNat < S32x768.size a := fun v38 v44 k2_hw18 => k2_hw18
def k2_off23 (k2_t10 : Fin k2_t10_loop.trips) : Fin 2 → Nat :=
  let c96_i32_55 : BitVec 32 := 96#32
  let c2_i32_53 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k2_t10
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c96_i32_55 v46
  let v49 : Index := Scalar.indexCast v48
  let c0_56 : Index := 0#32
  ![v49.toNat, 0]
def k2_off24 (k2_t10 : Fin k2_t10_loop.trips) : Fin 2 → Nat :=
  let c96_i32_57 : BitVec 32 := 96#32
  let c2_i32_53 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k2_t10
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c96_i32_57 v46
  let v52 : Index := Scalar.indexCast v51
  let c16_58 : Index := 16#32
  ![v52.toNat, 16]

def k2_chk19 (v47 : IVec S16 32) (v50 : IVec S16 32) : Prop :=
  (∀ a x, ((![v47, v50] : Fin 2 → IVec S16 32) a x).toNat < S32x768.size a)
theorem k2_idx19_inb : ∀ (v47 : IVec S16 32) (v50 : IVec S16 32) (k2_hw19 : k2_chk19 v47 v50), ∀ a x, ((![v47, v50] : Fin 2 → IVec S16 32) a x).toNat < S32x768.size a := fun v47 v50 k2_hw19 => k2_hw19

def k2_chk20 (v47 : IVec S16 32) (v53 : IVec S16 32) : Prop :=
  (∀ a x, ((![v47, v53] : Fin 2 → IVec S16 32) a x).toNat < S32x768.size a)
theorem k2_idx20_inb : ∀ (v47 : IVec S16 32) (v53 : IVec S16 32) (k2_hw20 : k2_chk20 v47 v53), ∀ a x, ((![v47, v53] : Fin 2 → IVec S16 32) a x).toNat < S32x768.size a := fun v47 v53 k2_hw20 => k2_hw20
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage3_0 : Fin 2 → Memref sig .tc .vmem S1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1024x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨2, ![2, 16], ![false, false]⟩

def k4_off1 (i : grid4.Coords) : Fin 2 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c8192_i32 v2
  let c0_i32_47_r0 : BitVec 32 := 0#32
  ![v3.toNat, 0]
@[reducible] def k4_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
@[reducible] def k4_t2_loop : Scf.Loop 32 :=
  let c0_i32_49 : BitVec 32 := 0#32
  let c12_i32 : BitVec 32 := 12#32
  let v36 : BitVec 32 := Scalar.addi c0_i32_49 c12_i32
  let c1_i32_50 : BitVec 32 := 1#32
  ⟨c0_i32_49, v36, c1_i32_50⟩
def k4_off2 (k4_t1 : Fin k4_t1_loop.trips) (k4_t2 : Fin k4_t2_loop.trips) (c0_i32_55 : BitVec 32) : Fin 2 → Nat :=
  let c0_i32_48 : BitVec 32 := 0#32
  let c0_i32 : BitVec 32 := 0#32
  let c1_i32 : BitVec 32 := 1#32
  let arg9 : BitVec 32 := Scf.iv c0_i32 c1_i32 k4_t1
  let c1_i32_47 : BitVec 32 := 1#32
  let v34 : BitVec 32 := Scalar.muli arg9 c1_i32_47
  let v35 : BitVec 32 := Scalar.addi c0_i32_48 v34
  let v41 : Index := Scalar.indexCast v35
  let c0_i32_53 : BitVec 32 := 0#32
  let c0_i32_49 : BitVec 32 := 0#32
  let c1_i32_50 : BitVec 32 := 1#32
  let arg10 : BitVec 32 := Scf.iv c0_i32_49 c1_i32_50 k4_t2
  let c64_i32_52 : BitVec 32 := 64#32
  let v37 : BitVec 32 := Scalar.muli arg10 c64_i32_52
  let v38 : BitVec 32 := Scalar.addi c0_i32_53 v37
  let v40 : BitVec 32 := Scalar.addi v38 c0_i32_55
  let v42 : Index := Scalar.indexCast v40
  ![v41.toNat, v42.toNat]
@[reducible] def k4_t3_loop : Scf.Loop 32 :=
  let c0_i32_2 : BitVec 32 := 0#32
  let c16_i32 : BitVec 32 := 16#32
  let v7 : BitVec 32 := Scalar.addi c0_i32_2 c16_i32
  let c1_i32_3 : BitVec 32 := 1#32
  ⟨c0_i32_2, v7, c1_i32_3⟩
def k4_off3 (k4_t3 : Fin k4_t3_loop.trips) : Fin 2 → Nat :=
  let c0_i32_51 : BitVec 32 := 0#32
  let c2_i32_49 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k4_t3
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c0_i32_51 v37
  let v40 : Index := Scalar.indexCast v39
  let c0 : Index := 0#32
  ![v40.toNat, 0]
def k4_off4 (k4_t3 : Fin k4_t3_loop.trips) : Fin 2 → Nat :=
  let c0_i32_52 : BitVec 32 := 0#32
  let c2_i32_49 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k4_t3
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c0_i32_52 v37
  let v43 : Index := Scalar.indexCast v42
  let c16 : Index := 16#32
  ![v43.toNat, 16]

def k4_chk1 (v38 : IVec S16 32) (v41 : IVec S16 32) : Prop :=
  (∀ a x, ((![v38, v41] : Fin 2 → IVec S16 32) a x).toNat < S32x768.size a)
theorem k4_idx1_inb : ∀ (v38 : IVec S16 32) (v41 : IVec S16 32) (k4_hw1 : k4_chk1 v38 v41), ∀ a x, ((![v38, v41] : Fin 2 → IVec S16 32) a x).toNat < S32x768.size a := fun v38 v41 k4_hw1 => k4_hw1

def k4_chk2 (v38 : IVec S16 32) (v44 : IVec S16 32) : Prop :=
  (∀ a x, ((![v38, v44] : Fin 2 → IVec S16 32) a x).toNat < S32x768.size a)
theorem k4_idx2_inb : ∀ (v38 : IVec S16 32) (v44 : IVec S16 32) (k4_hw2 : k4_chk2 v38 v44), ∀ a x, ((![v38, v44] : Fin 2 → IVec S16 32) a x).toNat < S32x768.size a := fun v38 v44 k4_hw2 => k4_hw2
def k4_off5 (k4_t3 : Fin k4_t3_loop.trips) : Fin 2 → Nat :=
  let c0_i32_55 : BitVec 32 := 0#32
  let c2_i32_53 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k4_t3
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c0_i32_55 v46
  let v49 : Index := Scalar.indexCast v48
  let c0_56 : Index := 0#32
  ![v49.toNat, 0]
def k4_off6 (k4_t3 : Fin k4_t3_loop.trips) : Fin 2 → Nat :=
  let c0_i32_57 : BitVec 32 := 0#32
  let c2_i32_53 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k4_t3
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c0_i32_57 v46
  let v52 : Index := Scalar.indexCast v51
  let c16_58 : Index := 16#32
  ![v52.toNat, 16]

def k4_chk3 (v47 : IVec S16 32) (v50 : IVec S16 32) : Prop :=
  (∀ a x, ((![v47, v50] : Fin 2 → IVec S16 32) a x).toNat < S32x768.size a)
theorem k4_idx3_inb : ∀ (v47 : IVec S16 32) (v50 : IVec S16 32) (k4_hw3 : k4_chk3 v47 v50), ∀ a x, ((![v47, v50] : Fin 2 → IVec S16 32) a x).toNat < S32x768.size a := fun v47 v50 k4_hw3 => k4_hw3

def k4_chk4 (v47 : IVec S16 32) (v53 : IVec S16 32) : Prop :=
  (∀ a x, ((![v47, v53] : Fin 2 → IVec S16 32) a x).toNat < S32x768.size a)
theorem k4_idx4_inb : ∀ (v47 : IVec S16 32) (v53 : IVec S16 32) (k4_hw4 : k4_chk4 v47 v53), ∀ a x, ((![v47, v53] : Fin 2 → IVec S16 32) a x).toNat < S32x768.size a := fun v47 v53 k4_hw4 => k4_hw4
def k4_off7 (i : grid4.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v8 : BitVec 32 := Scalar.addi v2 c0_i32_5
  let c0_i32_6 : BitVec 32 := 0#32
  ![v8.toNat, 0]
@[reducible] def k4_t4_loop : Scf.Loop 32 :=
  let c0_i32_8 : BitVec 32 := 0#32
  let c32_i32_9 : BitVec 32 := 32#32
  let v11 : BitVec 32 := Scalar.addi c0_i32_8 c32_i32_9
  let c1_i32_10 : BitVec 32 := 1#32
  ⟨c0_i32_8, v11, c1_i32_10⟩
@[reducible] def k4_t5_loop : Scf.Loop 32 :=
  let c0_i32_49 : BitVec 32 := 0#32
  let c12_i32 : BitVec 32 := 12#32
  let v36 : BitVec 32 := Scalar.addi c0_i32_49 c12_i32
  let c1_i32_50 : BitVec 32 := 1#32
  ⟨c0_i32_49, v36, c1_i32_50⟩
def k4_off8 (k4_t4 : Fin k4_t4_loop.trips) (k4_t5 : Fin k4_t5_loop.trips) (c0_i32_55 : BitVec 32) : Fin 2 → Nat :=
  let c0_i32_48 : BitVec 32 := 0#32
  let c0_i32_8 : BitVec 32 := 0#32
  let c1_i32_10 : BitVec 32 := 1#32
  let arg9 : BitVec 32 := Scf.iv c0_i32_8 c1_i32_10 k4_t4
  let c1_i32_47 : BitVec 32 := 1#32
  let v34 : BitVec 32 := Scalar.muli arg9 c1_i32_47
  let v35 : BitVec 32 := Scalar.addi c0_i32_48 v34
  let v41 : Index := Scalar.indexCast v35
  let c0_i32_53 : BitVec 32 := 0#32
  let c0_i32_49 : BitVec 32 := 0#32
  let c1_i32_50 : BitVec 32 := 1#32
  let arg10 : BitVec 32 := Scf.iv c0_i32_49 c1_i32_50 k4_t5
  let c64_i32_52 : BitVec 32 := 64#32
  let v37 : BitVec 32 := Scalar.muli arg10 c64_i32_52
  let v38 : BitVec 32 := Scalar.addi c0_i32_53 v37
  let v40 : BitVec 32 := Scalar.addi v38 c0_i32_55
  let v42 : Index := Scalar.indexCast v40
  ![v41.toNat, v42.toNat]
@[reducible] def k4_t6_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k4_off9 (k4_t6 : Fin k4_t6_loop.trips) : Fin 2 → Nat :=
  let c32_i32_51 : BitVec 32 := 32#32
  let c2_i32_49 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k4_t6
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c32_i32_51 v37
  let v40 : Index := Scalar.indexCast v39
  let c0 : Index := 0#32
  ![v40.toNat, 0]
def k4_off10 (k4_t6 : Fin k4_t6_loop.trips) : Fin 2 → Nat :=
  let c32_i32_52 : BitVec 32 := 32#32
  let c2_i32_49 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k4_t6
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c32_i32_52 v37
  let v43 : Index := Scalar.indexCast v42
  let c16 : Index := 16#32
  ![v43.toNat, 16]

def k4_chk5 (v38 : IVec S16 32) (v41 : IVec S16 32) : Prop :=
  (∀ a x, ((![v38, v41] : Fin 2 → IVec S16 32) a x).toNat < S32x768.size a)
theorem k4_idx5_inb : ∀ (v38 : IVec S16 32) (v41 : IVec S16 32) (k4_hw5 : k4_chk5 v38 v41), ∀ a x, ((![v38, v41] : Fin 2 → IVec S16 32) a x).toNat < S32x768.size a := fun v38 v41 k4_hw5 => k4_hw5

def k4_chk6 (v38 : IVec S16 32) (v44 : IVec S16 32) : Prop :=
  (∀ a x, ((![v38, v44] : Fin 2 → IVec S16 32) a x).toNat < S32x768.size a)
theorem k4_idx6_inb : ∀ (v38 : IVec S16 32) (v44 : IVec S16 32) (k4_hw6 : k4_chk6 v38 v44), ∀ a x, ((![v38, v44] : Fin 2 → IVec S16 32) a x).toNat < S32x768.size a := fun v38 v44 k4_hw6 => k4_hw6
def k4_off11 (k4_t6 : Fin k4_t6_loop.trips) : Fin 2 → Nat :=
  let c32_i32_55 : BitVec 32 := 32#32
  let c2_i32_53 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k4_t6
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c32_i32_55 v46
  let v49 : Index := Scalar.indexCast v48
  let c0_56 : Index := 0#32
  ![v49.toNat, 0]
def k4_off12 (k4_t6 : Fin k4_t6_loop.trips) : Fin 2 → Nat :=
  let c32_i32_57 : BitVec 32 := 32#32
  let c2_i32_53 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k4_t6
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c32_i32_57 v46
  let v52 : Index := Scalar.indexCast v51
  let c16_58 : Index := 16#32
  ![v52.toNat, 16]

def k4_chk7 (v47 : IVec S16 32) (v50 : IVec S16 32) : Prop :=
  (∀ a x, ((![v47, v50] : Fin 2 → IVec S16 32) a x).toNat < S32x768.size a)
theorem k4_idx7_inb : ∀ (v47 : IVec S16 32) (v50 : IVec S16 32) (k4_hw7 : k4_chk7 v47 v50), ∀ a x, ((![v47, v50] : Fin 2 → IVec S16 32) a x).toNat < S32x768.size a := fun v47 v50 k4_hw7 => k4_hw7

def k4_chk8 (v47 : IVec S16 32) (v53 : IVec S16 32) : Prop :=
  (∀ a x, ((![v47, v53] : Fin 2 → IVec S16 32) a x).toNat < S32x768.size a)
theorem k4_idx8_inb : ∀ (v47 : IVec S16 32) (v53 : IVec S16 32) (k4_hw8 : k4_chk8 v47 v53), ∀ a x, ((![v47, v53] : Fin 2 → IVec S16 32) a x).toNat < S32x768.size a := fun v47 v53 k4_hw8 => k4_hw8
@[reducible] def k4_t7_loop : Scf.Loop 32 :=
  let c0_i32_21 : BitVec 32 := 0#32
  let c32_i32_22 : BitVec 32 := 32#32
  let v18 : BitVec 32 := Scalar.addi c0_i32_21 c32_i32_22
  let c1_i32_23 : BitVec 32 := 1#32
  ⟨c0_i32_21, v18, c1_i32_23⟩
def k4_off13 (k4_t7 : Fin k4_t7_loop.trips) : Fin 2 → Nat :=
  let c0_i32_49 : BitVec 32 := 0#32
  let c0_i32_48 : BitVec 32 := 0#32
  let c0_i32_21 : BitVec 32 := 0#32
  let c1_i32_23 : BitVec 32 := 1#32
  let arg9 : BitVec 32 := Scf.iv c0_i32_21 c1_i32_23 k4_t7
  let c1_i32_47 : BitVec 32 := 1#32
  let v34 : BitVec 32 := Scalar.muli arg9 c1_i32_47
  let v35 : BitVec 32 := Scalar.addi c0_i32_48 v34
  let v37 : BitVec 32 := Scalar.addi c0_i32_49 v35
  let v38 : Index := Scalar.indexCast v37
  let c0 : Index := 0#32
  ![v38.toNat, 0]
def k4_off14 (k4_t7 : Fin k4_t7_loop.trips) : Fin 2 → Nat :=
  let c0_i32_50 : BitVec 32 := 0#32
  let c0_i32_48 : BitVec 32 := 0#32
  let c0_i32_21 : BitVec 32 := 0#32
  let c1_i32_23 : BitVec 32 := 1#32
  let arg9 : BitVec 32 := Scf.iv c0_i32_21 c1_i32_23 k4_t7
  let c1_i32_47 : BitVec 32 := 1#32
  let v34 : BitVec 32 := Scalar.muli arg9 c1_i32_47
  let v35 : BitVec 32 := Scalar.addi c0_i32_48 v34
  let v40 : BitVec 32 := Scalar.addi c0_i32_50 v35
  let v41 : Index := Scalar.indexCast v40
  let c16 : Index := 16#32
  ![v41.toNat, 16]

def k4_chk9 (v36 : IVec S16 32) (v39 : IVec S16 32) : Prop :=
  (∀ a x, ((![v36, v39] : Fin 2 → IVec S16 32) a x).toNat < S32x768.size a)
theorem k4_idx9_inb : ∀ (v36 : IVec S16 32) (v39 : IVec S16 32) (k4_hw9 : k4_chk9 v36 v39), ∀ a x, ((![v36, v39] : Fin 2 → IVec S16 32) a x).toNat < S32x768.size a := fun v36 v39 k4_hw9 => k4_hw9

def k4_chk10 (v36 : IVec S16 32) (v42 : IVec S16 32) : Prop :=
  (∀ a x, ((![v36, v42] : Fin 2 → IVec S16 32) a x).toNat < S32x768.size a)
theorem k4_idx10_inb : ∀ (v36 : IVec S16 32) (v42 : IVec S16 32) (k4_hw10 : k4_chk10 v36 v42), ∀ a x, ((![v36, v42] : Fin 2 → IVec S16 32) a x).toNat < S32x768.size a := fun v36 v42 k4_hw10 => k4_hw10
@[reducible] def k4_t8_loop : Scf.Loop 32 :=
  let c0_i32_25 : BitVec 32 := 0#32
  let c16_i32_26 : BitVec 32 := 16#32
  let v19 : BitVec 32 := Scalar.addi c0_i32_25 c16_i32_26
  let c1_i32_27 : BitVec 32 := 1#32
  ⟨c0_i32_25, v19, c1_i32_27⟩
def k4_off15 (k4_t8 : Fin k4_t8_loop.trips) : Fin 2 → Nat :=
  let c64_i32_51 : BitVec 32 := 64#32
  let c2_i32_49 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k4_t8
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c64_i32_51 v37
  let v40 : Index := Scalar.indexCast v39
  let c0 : Index := 0#32
  ![v40.toNat, 0]
def k4_off16 (k4_t8 : Fin k4_t8_loop.trips) : Fin 2 → Nat :=
  let c64_i32_52 : BitVec 32 := 64#32
  let c2_i32_49 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k4_t8
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c64_i32_52 v37
  let v43 : Index := Scalar.indexCast v42
  let c16 : Index := 16#32
  ![v43.toNat, 16]

def k4_chk11 (v38 : IVec S16 32) (v41 : IVec S16 32) : Prop :=
  (∀ a x, ((![v38, v41] : Fin 2 → IVec S16 32) a x).toNat < S32x768.size a)
theorem k4_idx11_inb : ∀ (v38 : IVec S16 32) (v41 : IVec S16 32) (k4_hw11 : k4_chk11 v38 v41), ∀ a x, ((![v38, v41] : Fin 2 → IVec S16 32) a x).toNat < S32x768.size a := fun v38 v41 k4_hw11 => k4_hw11

def k4_chk12 (v38 : IVec S16 32) (v44 : IVec S16 32) : Prop :=
  (∀ a x, ((![v38, v44] : Fin 2 → IVec S16 32) a x).toNat < S32x768.size a)
theorem k4_idx12_inb : ∀ (v38 : IVec S16 32) (v44 : IVec S16 32) (k4_hw12 : k4_chk12 v38 v44), ∀ a x, ((![v38, v44] : Fin 2 → IVec S16 32) a x).toNat < S32x768.size a := fun v38 v44 k4_hw12 => k4_hw12
def k4_off17 (k4_t8 : Fin k4_t8_loop.trips) : Fin 2 → Nat :=
  let c64_i32_55 : BitVec 32 := 64#32
  let c2_i32_53 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k4_t8
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c64_i32_55 v46
  let v49 : Index := Scalar.indexCast v48
  let c0_56 : Index := 0#32
  ![v49.toNat, 0]
def k4_off18 (k4_t8 : Fin k4_t8_loop.trips) : Fin 2 → Nat :=
  let c64_i32_57 : BitVec 32 := 64#32
  let c2_i32_53 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k4_t8
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c64_i32_57 v46
  let v52 : Index := Scalar.indexCast v51
  let c16_58 : Index := 16#32
  ![v52.toNat, 16]

def k4_chk13 (v47 : IVec S16 32) (v50 : IVec S16 32) : Prop :=
  (∀ a x, ((![v47, v50] : Fin 2 → IVec S16 32) a x).toNat < S32x768.size a)
theorem k4_idx13_inb : ∀ (v47 : IVec S16 32) (v50 : IVec S16 32) (k4_hw13 : k4_chk13 v47 v50), ∀ a x, ((![v47, v50] : Fin 2 → IVec S16 32) a x).toNat < S32x768.size a := fun v47 v50 k4_hw13 => k4_hw13

def k4_chk14 (v47 : IVec S16 32) (v53 : IVec S16 32) : Prop :=
  (∀ a x, ((![v47, v53] : Fin 2 → IVec S16 32) a x).toNat < S32x768.size a)
theorem k4_idx14_inb : ∀ (v47 : IVec S16 32) (v53 : IVec S16 32) (k4_hw14 : k4_chk14 v47 v53), ∀ a x, ((![v47, v53] : Fin 2 → IVec S16 32) a x).toNat < S32x768.size a := fun v47 v53 k4_hw14 => k4_hw14
@[reducible] def k4_t9_loop : Scf.Loop 32 :=
  let c0_i32_33 : BitVec 32 := 0#32
  let c32_i32_34 : BitVec 32 := 32#32
  let v25 : BitVec 32 := Scalar.addi c0_i32_33 c32_i32_34
  let c1_i32_35 : BitVec 32 := 1#32
  ⟨c0_i32_33, v25, c1_i32_35⟩
def k4_off19 (k4_t9 : Fin k4_t9_loop.trips) : Fin 2 → Nat :=
  let c32_i32_49 : BitVec 32 := 32#32
  let c0_i32_48 : BitVec 32 := 0#32
  let c0_i32_33 : BitVec 32 := 0#32
  let c1_i32_35 : BitVec 32 := 1#32
  let arg9 : BitVec 32 := Scf.iv c0_i32_33 c1_i32_35 k4_t9
  let c1_i32_47 : BitVec 32 := 1#32
  let v34 : BitVec 32 := Scalar.muli arg9 c1_i32_47
  let v35 : BitVec 32 := Scalar.addi c0_i32_48 v34
  let v37 : BitVec 32 := Scalar.addi c32_i32_49 v35
  let v38 : Index := Scalar.indexCast v37
  let c0 : Index := 0#32
  ![v38.toNat, 0]
def k4_off20 (k4_t9 : Fin k4_t9_loop.trips) : Fin 2 → Nat :=
  let c32_i32_50 : BitVec 32 := 32#32
  let c0_i32_48 : BitVec 32 := 0#32
  let c0_i32_33 : BitVec 32 := 0#32
  let c1_i32_35 : BitVec 32 := 1#32
  let arg9 : BitVec 32 := Scf.iv c0_i32_33 c1_i32_35 k4_t9
  let c1_i32_47 : BitVec 32 := 1#32
  let v34 : BitVec 32 := Scalar.muli arg9 c1_i32_47
  let v35 : BitVec 32 := Scalar.addi c0_i32_48 v34
  let v40 : BitVec 32 := Scalar.addi c32_i32_50 v35
  let v41 : Index := Scalar.indexCast v40
  let c16 : Index := 16#32
  ![v41.toNat, 16]

def k4_chk15 (v36 : IVec S16 32) (v39 : IVec S16 32) : Prop :=
  (∀ a x, ((![v36, v39] : Fin 2 → IVec S16 32) a x).toNat < S32x768.size a)
theorem k4_idx15_inb : ∀ (v36 : IVec S16 32) (v39 : IVec S16 32) (k4_hw15 : k4_chk15 v36 v39), ∀ a x, ((![v36, v39] : Fin 2 → IVec S16 32) a x).toNat < S32x768.size a := fun v36 v39 k4_hw15 => k4_hw15

def k4_chk16 (v36 : IVec S16 32) (v42 : IVec S16 32) : Prop :=
  (∀ a x, ((![v36, v42] : Fin 2 → IVec S16 32) a x).toNat < S32x768.size a)
theorem k4_idx16_inb : ∀ (v36 : IVec S16 32) (v42 : IVec S16 32) (k4_hw16 : k4_chk16 v36 v42), ∀ a x, ((![v36, v42] : Fin 2 → IVec S16 32) a x).toNat < S32x768.size a := fun v36 v42 k4_hw16 => k4_hw16
@[reducible] def k4_t10_loop : Scf.Loop 32 :=
  let c0_i32_37 : BitVec 32 := 0#32
  let c16_i32_38 : BitVec 32 := 16#32
  let v26 : BitVec 32 := Scalar.addi c0_i32_37 c16_i32_38
  let c1_i32_39 : BitVec 32 := 1#32
  ⟨c0_i32_37, v26, c1_i32_39⟩
def k4_off21 (k4_t10 : Fin k4_t10_loop.trips) : Fin 2 → Nat :=
  let c96_i32_51 : BitVec 32 := 96#32
  let c2_i32_49 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k4_t10
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c96_i32_51 v37
  let v40 : Index := Scalar.indexCast v39
  let c0 : Index := 0#32
  ![v40.toNat, 0]
def k4_off22 (k4_t10 : Fin k4_t10_loop.trips) : Fin 2 → Nat :=
  let c96_i32_52 : BitVec 32 := 96#32
  let c2_i32_49 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k4_t10
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c96_i32_52 v37
  let v43 : Index := Scalar.indexCast v42
  let c16 : Index := 16#32
  ![v43.toNat, 16]

def k4_chk17 (v38 : IVec S16 32) (v41 : IVec S16 32) : Prop :=
  (∀ a x, ((![v38, v41] : Fin 2 → IVec S16 32) a x).toNat < S32x768.size a)
theorem k4_idx17_inb : ∀ (v38 : IVec S16 32) (v41 : IVec S16 32) (k4_hw17 : k4_chk17 v38 v41), ∀ a x, ((![v38, v41] : Fin 2 → IVec S16 32) a x).toNat < S32x768.size a := fun v38 v41 k4_hw17 => k4_hw17

def k4_chk18 (v38 : IVec S16 32) (v44 : IVec S16 32) : Prop :=
  (∀ a x, ((![v38, v44] : Fin 2 → IVec S16 32) a x).toNat < S32x768.size a)
theorem k4_idx18_inb : ∀ (v38 : IVec S16 32) (v44 : IVec S16 32) (k4_hw18 : k4_chk18 v38 v44), ∀ a x, ((![v38, v44] : Fin 2 → IVec S16 32) a x).toNat < S32x768.size a := fun v38 v44 k4_hw18 => k4_hw18
def k4_off23 (k4_t10 : Fin k4_t10_loop.trips) : Fin 2 → Nat :=
  let c96_i32_55 : BitVec 32 := 96#32
  let c2_i32_53 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k4_t10
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c96_i32_55 v46
  let v49 : Index := Scalar.indexCast v48
  let c0_56 : Index := 0#32
  ![v49.toNat, 0]
def k4_off24 (k4_t10 : Fin k4_t10_loop.trips) : Fin 2 → Nat :=
  let c96_i32_57 : BitVec 32 := 96#32
  let c2_i32_53 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k4_t10
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c96_i32_57 v46
  let v52 : Index := Scalar.indexCast v51
  let c16_58 : Index := 16#32
  ![v52.toNat, 16]

def k4_chk19 (v47 : IVec S16 32) (v50 : IVec S16 32) : Prop :=
  (∀ a x, ((![v47, v50] : Fin 2 → IVec S16 32) a x).toNat < S32x768.size a)
theorem k4_idx19_inb : ∀ (v47 : IVec S16 32) (v50 : IVec S16 32) (k4_hw19 : k4_chk19 v47 v50), ∀ a x, ((![v47, v50] : Fin 2 → IVec S16 32) a x).toNat < S32x768.size a := fun v47 v50 k4_hw19 => k4_hw19

def k4_chk20 (v47 : IVec S16 32) (v53 : IVec S16 32) : Prop :=
  (∀ a x, ((![v47, v53] : Fin 2 → IVec S16 32) a x).toNat < S32x768.size a)
theorem k4_idx20_inb : ∀ (v47 : IVec S16 32) (v53 : IVec S16 32) (k4_hw20 : k4_chk20 v47 v53), ∀ a x, ((![v47, v53] : Fin 2 → IVec S16 32) a x).toNat < S32x768.size a := fun v47 v53 k4_hw20 => k4_hw20
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage5_0 : Fin 2 → Memref sig .tc .vmem S1024x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S768x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1024x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨2, ![2, 16], ![false, false]⟩

def k6_off1 (i : grid6.Coords) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let c0_i32_47_r0 : BitVec 32 := 0#32
  ![v3.toNat, 0]
@[reducible] def k6_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
@[reducible] def k6_t2_loop : Scf.Loop 32 :=
  let c0_i32_49 : BitVec 32 := 0#32
  let c12_i32 : BitVec 32 := 12#32
  let v36 : BitVec 32 := Scalar.addi c0_i32_49 c12_i32
  let c1_i32_50 : BitVec 32 := 1#32
  ⟨c0_i32_49, v36, c1_i32_50⟩
def k6_off2 (k6_t1 : Fin k6_t1_loop.trips) (k6_t2 : Fin k6_t2_loop.trips) (c0_i32_55 : BitVec 32) : Fin 2 → Nat :=
  let c0_i32_48 : BitVec 32 := 0#32
  let c0_i32 : BitVec 32 := 0#32
  let c1_i32 : BitVec 32 := 1#32
  let arg9 : BitVec 32 := Scf.iv c0_i32 c1_i32 k6_t1
  let c1_i32_47 : BitVec 32 := 1#32
  let v34 : BitVec 32 := Scalar.muli arg9 c1_i32_47
  let v35 : BitVec 32 := Scalar.addi c0_i32_48 v34
  let v41 : Index := Scalar.indexCast v35
  let c0_i32_53 : BitVec 32 := 0#32
  let c0_i32_49 : BitVec 32 := 0#32
  let c1_i32_50 : BitVec 32 := 1#32
  let arg10 : BitVec 32 := Scf.iv c0_i32_49 c1_i32_50 k6_t2
  let c64_i32_52 : BitVec 32 := 64#32
  let v37 : BitVec 32 := Scalar.muli arg10 c64_i32_52
  let v38 : BitVec 32 := Scalar.addi c0_i32_53 v37
  let v40 : BitVec 32 := Scalar.addi v38 c0_i32_55
  let v42 : Index := Scalar.indexCast v40
  ![v41.toNat, v42.toNat]
@[reducible] def k6_t3_loop : Scf.Loop 32 :=
  let c0_i32_2 : BitVec 32 := 0#32
  let c16_i32 : BitVec 32 := 16#32
  let v7 : BitVec 32 := Scalar.addi c0_i32_2 c16_i32
  let c1_i32_3 : BitVec 32 := 1#32
  ⟨c0_i32_2, v7, c1_i32_3⟩
def k6_off3 (k6_t3 : Fin k6_t3_loop.trips) : Fin 2 → Nat :=
  let c0_i32_51 : BitVec 32 := 0#32
  let c2_i32_49 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k6_t3
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c0_i32_51 v37
  let v40 : Index := Scalar.indexCast v39
  let c0 : Index := 0#32
  ![v40.toNat, 0]
def k6_off4 (k6_t3 : Fin k6_t3_loop.trips) : Fin 2 → Nat :=
  let c0_i32_52 : BitVec 32 := 0#32
  let c2_i32_49 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k6_t3
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c0_i32_52 v37
  let v43 : Index := Scalar.indexCast v42
  let c16 : Index := 16#32
  ![v43.toNat, 16]

def k6_chk1 (v38 : IVec S16 32) (v41 : IVec S16 32) : Prop :=
  (∀ a x, ((![v38, v41] : Fin 2 → IVec S16 32) a x).toNat < S32x768.size a)
theorem k6_idx1_inb : ∀ (v38 : IVec S16 32) (v41 : IVec S16 32) (k6_hw1 : k6_chk1 v38 v41), ∀ a x, ((![v38, v41] : Fin 2 → IVec S16 32) a x).toNat < S32x768.size a := fun v38 v41 k6_hw1 => k6_hw1

def k6_chk2 (v38 : IVec S16 32) (v44 : IVec S16 32) : Prop :=
  (∀ a x, ((![v38, v44] : Fin 2 → IVec S16 32) a x).toNat < S32x768.size a)
theorem k6_idx2_inb : ∀ (v38 : IVec S16 32) (v44 : IVec S16 32) (k6_hw2 : k6_chk2 v38 v44), ∀ a x, ((![v38, v44] : Fin 2 → IVec S16 32) a x).toNat < S32x768.size a := fun v38 v44 k6_hw2 => k6_hw2
def k6_off5 (k6_t3 : Fin k6_t3_loop.trips) : Fin 2 → Nat :=
  let c0_i32_55 : BitVec 32 := 0#32
  let c2_i32_53 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k6_t3
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c0_i32_55 v46
  let v49 : Index := Scalar.indexCast v48
  let c0_56 : Index := 0#32
  ![v49.toNat, 0]
def k6_off6 (k6_t3 : Fin k6_t3_loop.trips) : Fin 2 → Nat :=
  let c0_i32_57 : BitVec 32 := 0#32
  let c2_i32_53 : BitVec 32 := 2#32
  let c0_i32_48 : BitVec 32 := 0#32
  let c0_i32_2 : BitVec 32 := 0#32
  let c1_i32_3 : BitVec 32 := 1#32
  let arg9 : BitVec 32 := Scf.iv c0_i32_2 c1_i32_3 k6_t3
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c0_i32_57 v46
  let v52 : Index := Scalar.indexCast v51
  let c16_58 : Index := 16#32
  ![v52.toNat, 16]

def k6_chk3 (v47 : IVec S16 32) (v50 : IVec S16 32) : Prop :=
  (∀ a x, ((![v47, v50] : Fin 2 → IVec S16 32) a x).toNat < S32x768.size a)
theorem k6_idx3_inb : ∀ (v47 : IVec S16 32) (v50 : IVec S16 32) (k6_hw3 : k6_chk3 v47 v50), ∀ a x, ((![v47, v50] : Fin 2 → IVec S16 32) a x).toNat < S32x768.size a := fun v47 v50 k6_hw3 => k6_hw3

def k6_chk4 (v47 : IVec S16 32) (v53 : IVec S16 32) : Prop :=
  (∀ a x, ((![v47, v53] : Fin 2 → IVec S16 32) a x).toNat < S32x768.size a)
theorem k6_idx4_inb : ∀ (v47 : IVec S16 32) (v53 : IVec S16 32) (k6_hw4 : k6_chk4 v47 v53), ∀ a x, ((![v47, v53] : Fin 2 → IVec S16 32) a x).toNat < S32x768.size a := fun v47 v53 k6_hw4 => k6_hw4
def k6_off7 (i : grid6.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v8 : BitVec 32 := Scalar.addi v2 c0_i32_5
  let c0_i32_6 : BitVec 32 := 0#32
  ![v8.toNat, 0]
@[reducible] def k6_t4_loop : Scf.Loop 32 :=
  let c0_i32_8 : BitVec 32 := 0#32
  let c32_i32_9 : BitVec 32 := 32#32
  let v11 : BitVec 32 := Scalar.addi c0_i32_8 c32_i32_9
  let c1_i32_10 : BitVec 32 := 1#32
  ⟨c0_i32_8, v11, c1_i32_10⟩
@[reducible] def k6_t5_loop : Scf.Loop 32 :=
  let c0_i32_49 : BitVec 32 := 0#32
  let c12_i32 : BitVec 32 := 12#32
  let v36 : BitVec 32 := Scalar.addi c0_i32_49 c12_i32
  let c1_i32_50 : BitVec 32 := 1#32
  ⟨c0_i32_49, v36, c1_i32_50⟩
def k6_off8 (k6_t4 : Fin k6_t4_loop.trips) (k6_t5 : Fin k6_t5_loop.trips) (c0_i32_55 : BitVec 32) : Fin 2 → Nat :=
  let c0_i32_48 : BitVec 32 := 0#32
  let c0_i32_8 : BitVec 32 := 0#32
  let c1_i32_10 : BitVec 32 := 1#32
  let arg9 : BitVec 32 := Scf.iv c0_i32_8 c1_i32_10 k6_t4
  let c1_i32_47 : BitVec 32 := 1#32
  let v34 : BitVec 32 := Scalar.muli arg9 c1_i32_47
  let v35 : BitVec 32 := Scalar.addi c0_i32_48 v34
  let v41 : Index := Scalar.indexCast v35
  let c0_i32_53 : BitVec 32 := 0#32
  let c0_i32_49 : BitVec 32 := 0#32
  let c1_i32_50 : BitVec 32 := 1#32
  let arg10 : BitVec 32 := Scf.iv c0_i32_49 c1_i32_50 k6_t5
  let c64_i32_52 : BitVec 32 := 64#32
  let v37 : BitVec 32 := Scalar.muli arg10 c64_i32_52
  let v38 : BitVec 32 := Scalar.addi c0_i32_53 v37
  let v40 : BitVec 32 := Scalar.addi v38 c0_i32_55
  let v42 : Index := Scalar.indexCast v40
  ![v41.toNat, v42.toNat]
@[reducible] def k6_t6_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k6_off9 (k6_t6 : Fin k6_t6_loop.trips) : Fin 2 → Nat :=
  let c32_i32_51 : BitVec 32 := 32#32
  let c2_i32_49 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k6_t6
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c32_i32_51 v37
  let v40 : Index := Scalar.indexCast v39
  let c0 : Index := 0#32
  ![v40.toNat, 0]
def k6_off10 (k6_t6 : Fin k6_t6_loop.trips) : Fin 2 → Nat :=
  let c32_i32_52 : BitVec 32 := 32#32
  let c2_i32_49 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k6_t6
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c32_i32_52 v37
  let v43 : Index := Scalar.indexCast v42
  let c16 : Index := 16#32
  ![v43.toNat, 16]

def k6_chk5 (v38 : IVec S16 32) (v41 : IVec S16 32) : Prop :=
  (∀ a x, ((![v38, v41] : Fin 2 → IVec S16 32) a x).toNat < S32x768.size a)
theorem k6_idx5_inb : ∀ (v38 : IVec S16 32) (v41 : IVec S16 32) (k6_hw5 : k6_chk5 v38 v41), ∀ a x, ((![v38, v41] : Fin 2 → IVec S16 32) a x).toNat < S32x768.size a := fun v38 v41 k6_hw5 => k6_hw5

def k6_chk6 (v38 : IVec S16 32) (v44 : IVec S16 32) : Prop :=
  (∀ a x, ((![v38, v44] : Fin 2 → IVec S16 32) a x).toNat < S32x768.size a)
theorem k6_idx6_inb : ∀ (v38 : IVec S16 32) (v44 : IVec S16 32) (k6_hw6 : k6_chk6 v38 v44), ∀ a x, ((![v38, v44] : Fin 2 → IVec S16 32) a x).toNat < S32x768.size a := fun v38 v44 k6_hw6 => k6_hw6
def k6_off11 (k6_t6 : Fin k6_t6_loop.trips) : Fin 2 → Nat :=
  let c32_i32_55 : BitVec 32 := 32#32
  let c2_i32_53 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k6_t6
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c32_i32_55 v46
  let v49 : Index := Scalar.indexCast v48
  let c0_56 : Index := 0#32
  ![v49.toNat, 0]
def k6_off12 (k6_t6 : Fin k6_t6_loop.trips) : Fin 2 → Nat :=
  let c32_i32_57 : BitVec 32 := 32#32
  let c2_i32_53 : BitVec 32 := 2#32
  let c0_i32_48 : BitVec 32 := 0#32
  let c0_i32_12 : BitVec 32 := 0#32
  let c1_i32_14 : BitVec 32 := 1#32
  let arg9 : BitVec 32 := Scf.iv c0_i32_12 c1_i32_14 k6_t6
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c32_i32_57 v46
  let v52 : Index := Scalar.indexCast v51
  let c16_58 : Index := 16#32
  ![v52.toNat, 16]

def k6_chk7 (v47 : IVec S16 32) (v50 : IVec S16 32) : Prop :=
  (∀ a x, ((![v47, v50] : Fin 2 → IVec S16 32) a x).toNat < S32x768.size a)
theorem k6_idx7_inb : ∀ (v47 : IVec S16 32) (v50 : IVec S16 32) (k6_hw7 : k6_chk7 v47 v50), ∀ a x, ((![v47, v50] : Fin 2 → IVec S16 32) a x).toNat < S32x768.size a := fun v47 v50 k6_hw7 => k6_hw7

def k6_chk8 (v47 : IVec S16 32) (v53 : IVec S16 32) : Prop :=
  (∀ a x, ((![v47, v53] : Fin 2 → IVec S16 32) a x).toNat < S32x768.size a)
theorem k6_idx8_inb : ∀ (v47 : IVec S16 32) (v53 : IVec S16 32) (k6_hw8 : k6_chk8 v47 v53), ∀ a x, ((![v47, v53] : Fin 2 → IVec S16 32) a x).toNat < S32x768.size a := fun v47 v53 k6_hw8 => k6_hw8
@[reducible] def k6_t7_loop : Scf.Loop 32 :=
  let c0_i32_21 : BitVec 32 := 0#32
  let c32_i32_22 : BitVec 32 := 32#32
  let v18 : BitVec 32 := Scalar.addi c0_i32_21 c32_i32_22
  let c1_i32_23 : BitVec 32 := 1#32
  ⟨c0_i32_21, v18, c1_i32_23⟩
def k6_off13 (k6_t7 : Fin k6_t7_loop.trips) : Fin 2 → Nat :=
  let c0_i32_49 : BitVec 32 := 0#32
  let c0_i32_48 : BitVec 32 := 0#32
  let c0_i32_21 : BitVec 32 := 0#32
  let c1_i32_23 : BitVec 32 := 1#32
  let arg9 : BitVec 32 := Scf.iv c0_i32_21 c1_i32_23 k6_t7
  let c1_i32_47 : BitVec 32 := 1#32
  let v34 : BitVec 32 := Scalar.muli arg9 c1_i32_47
  let v35 : BitVec 32 := Scalar.addi c0_i32_48 v34
  let v37 : BitVec 32 := Scalar.addi c0_i32_49 v35
  let v38 : Index := Scalar.indexCast v37
  let c0 : Index := 0#32
  ![v38.toNat, 0]
def k6_off14 (k6_t7 : Fin k6_t7_loop.trips) : Fin 2 → Nat :=
  let c0_i32_50 : BitVec 32 := 0#32
  let c0_i32_48 : BitVec 32 := 0#32
  let c0_i32_21 : BitVec 32 := 0#32
  let c1_i32_23 : BitVec 32 := 1#32
  let arg9 : BitVec 32 := Scf.iv c0_i32_21 c1_i32_23 k6_t7
  let c1_i32_47 : BitVec 32 := 1#32
  let v34 : BitVec 32 := Scalar.muli arg9 c1_i32_47
  let v35 : BitVec 32 := Scalar.addi c0_i32_48 v34
  let v40 : BitVec 32 := Scalar.addi c0_i32_50 v35
  let v41 : Index := Scalar.indexCast v40
  let c16 : Index := 16#32
  ![v41.toNat, 16]

def k6_chk9 (v36 : IVec S16 32) (v39 : IVec S16 32) : Prop :=
  (∀ a x, ((![v36, v39] : Fin 2 → IVec S16 32) a x).toNat < S32x768.size a)
theorem k6_idx9_inb : ∀ (v36 : IVec S16 32) (v39 : IVec S16 32) (k6_hw9 : k6_chk9 v36 v39), ∀ a x, ((![v36, v39] : Fin 2 → IVec S16 32) a x).toNat < S32x768.size a := fun v36 v39 k6_hw9 => k6_hw9

def k6_chk10 (v36 : IVec S16 32) (v42 : IVec S16 32) : Prop :=
  (∀ a x, ((![v36, v42] : Fin 2 → IVec S16 32) a x).toNat < S32x768.size a)
theorem k6_idx10_inb : ∀ (v36 : IVec S16 32) (v42 : IVec S16 32) (k6_hw10 : k6_chk10 v36 v42), ∀ a x, ((![v36, v42] : Fin 2 → IVec S16 32) a x).toNat < S32x768.size a := fun v36 v42 k6_hw10 => k6_hw10
@[reducible] def k6_t8_loop : Scf.Loop 32 :=
  let c0_i32_25 : BitVec 32 := 0#32
  let c16_i32_26 : BitVec 32 := 16#32
  let v19 : BitVec 32 := Scalar.addi c0_i32_25 c16_i32_26
  let c1_i32_27 : BitVec 32 := 1#32
  ⟨c0_i32_25, v19, c1_i32_27⟩
def k6_off15 (k6_t8 : Fin k6_t8_loop.trips) : Fin 2 → Nat :=
  let c64_i32_51 : BitVec 32 := 64#32
  let c2_i32_49 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k6_t8
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c64_i32_51 v37
  let v40 : Index := Scalar.indexCast v39
  let c0 : Index := 0#32
  ![v40.toNat, 0]
def k6_off16 (k6_t8 : Fin k6_t8_loop.trips) : Fin 2 → Nat :=
  let c64_i32_52 : BitVec 32 := 64#32
  let c2_i32_49 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k6_t8
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c64_i32_52 v37
  let v43 : Index := Scalar.indexCast v42
  let c16 : Index := 16#32
  ![v43.toNat, 16]

def k6_chk11 (v38 : IVec S16 32) (v41 : IVec S16 32) : Prop :=
  (∀ a x, ((![v38, v41] : Fin 2 → IVec S16 32) a x).toNat < S32x768.size a)
theorem k6_idx11_inb : ∀ (v38 : IVec S16 32) (v41 : IVec S16 32) (k6_hw11 : k6_chk11 v38 v41), ∀ a x, ((![v38, v41] : Fin 2 → IVec S16 32) a x).toNat < S32x768.size a := fun v38 v41 k6_hw11 => k6_hw11

def k6_chk12 (v38 : IVec S16 32) (v44 : IVec S16 32) : Prop :=
  (∀ a x, ((![v38, v44] : Fin 2 → IVec S16 32) a x).toNat < S32x768.size a)
theorem k6_idx12_inb : ∀ (v38 : IVec S16 32) (v44 : IVec S16 32) (k6_hw12 : k6_chk12 v38 v44), ∀ a x, ((![v38, v44] : Fin 2 → IVec S16 32) a x).toNat < S32x768.size a := fun v38 v44 k6_hw12 => k6_hw12
def k6_off17 (k6_t8 : Fin k6_t8_loop.trips) : Fin 2 → Nat :=
  let c64_i32_55 : BitVec 32 := 64#32
  let c2_i32_53 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k6_t8
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c64_i32_55 v46
  let v49 : Index := Scalar.indexCast v48
  let c0_56 : Index := 0#32
  ![v49.toNat, 0]
def k6_off18 (k6_t8 : Fin k6_t8_loop.trips) : Fin 2 → Nat :=
  let c64_i32_57 : BitVec 32 := 64#32
  let c2_i32_53 : BitVec 32 := 2#32
  let c0_i32_48 : BitVec 32 := 0#32
  let c0_i32_25 : BitVec 32 := 0#32
  let c1_i32_27 : BitVec 32 := 1#32
  let arg9 : BitVec 32 := Scf.iv c0_i32_25 c1_i32_27 k6_t8
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c64_i32_57 v46
  let v52 : Index := Scalar.indexCast v51
  let c16_58 : Index := 16#32
  ![v52.toNat, 16]

def k6_chk13 (v47 : IVec S16 32) (v50 : IVec S16 32) : Prop :=
  (∀ a x, ((![v47, v50] : Fin 2 → IVec S16 32) a x).toNat < S32x768.size a)
theorem k6_idx13_inb : ∀ (v47 : IVec S16 32) (v50 : IVec S16 32) (k6_hw13 : k6_chk13 v47 v50), ∀ a x, ((![v47, v50] : Fin 2 → IVec S16 32) a x).toNat < S32x768.size a := fun v47 v50 k6_hw13 => k6_hw13

def k6_chk14 (v47 : IVec S16 32) (v53 : IVec S16 32) : Prop :=
  (∀ a x, ((![v47, v53] : Fin 2 → IVec S16 32) a x).toNat < S32x768.size a)
theorem k6_idx14_inb : ∀ (v47 : IVec S16 32) (v53 : IVec S16 32) (k6_hw14 : k6_chk14 v47 v53), ∀ a x, ((![v47, v53] : Fin 2 → IVec S16 32) a x).toNat < S32x768.size a := fun v47 v53 k6_hw14 => k6_hw14
@[reducible] def k6_t9_loop : Scf.Loop 32 :=
  let c0_i32_33 : BitVec 32 := 0#32
  let c32_i32_34 : BitVec 32 := 32#32
  let v25 : BitVec 32 := Scalar.addi c0_i32_33 c32_i32_34
  let c1_i32_35 : BitVec 32 := 1#32
  ⟨c0_i32_33, v25, c1_i32_35⟩
def k6_off19 (k6_t9 : Fin k6_t9_loop.trips) : Fin 2 → Nat :=
  let c32_i32_49 : BitVec 32 := 32#32
  let c0_i32_48 : BitVec 32 := 0#32
  let c0_i32_33 : BitVec 32 := 0#32
  let c1_i32_35 : BitVec 32 := 1#32
  let arg9 : BitVec 32 := Scf.iv c0_i32_33 c1_i32_35 k6_t9
  let c1_i32_47 : BitVec 32 := 1#32
  let v34 : BitVec 32 := Scalar.muli arg9 c1_i32_47
  let v35 : BitVec 32 := Scalar.addi c0_i32_48 v34
  let v37 : BitVec 32 := Scalar.addi c32_i32_49 v35
  let v38 : Index := Scalar.indexCast v37
  let c0 : Index := 0#32
  ![v38.toNat, 0]
def k6_off20 (k6_t9 : Fin k6_t9_loop.trips) : Fin 2 → Nat :=
  let c32_i32_50 : BitVec 32 := 32#32
  let c0_i32_48 : BitVec 32 := 0#32
  let c0_i32_33 : BitVec 32 := 0#32
  let c1_i32_35 : BitVec 32 := 1#32
  let arg9 : BitVec 32 := Scf.iv c0_i32_33 c1_i32_35 k6_t9
  let c1_i32_47 : BitVec 32 := 1#32
  let v34 : BitVec 32 := Scalar.muli arg9 c1_i32_47
  let v35 : BitVec 32 := Scalar.addi c0_i32_48 v34
  let v40 : BitVec 32 := Scalar.addi c32_i32_50 v35
  let v41 : Index := Scalar.indexCast v40
  let c16 : Index := 16#32
  ![v41.toNat, 16]

def k6_chk15 (v36 : IVec S16 32) (v39 : IVec S16 32) : Prop :=
  (∀ a x, ((![v36, v39] : Fin 2 → IVec S16 32) a x).toNat < S32x768.size a)
theorem k6_idx15_inb : ∀ (v36 : IVec S16 32) (v39 : IVec S16 32) (k6_hw15 : k6_chk15 v36 v39), ∀ a x, ((![v36, v39] : Fin 2 → IVec S16 32) a x).toNat < S32x768.size a := fun v36 v39 k6_hw15 => k6_hw15

def k6_chk16 (v36 : IVec S16 32) (v42 : IVec S16 32) : Prop :=
  (∀ a x, ((![v36, v42] : Fin 2 → IVec S16 32) a x).toNat < S32x768.size a)
theorem k6_idx16_inb : ∀ (v36 : IVec S16 32) (v42 : IVec S16 32) (k6_hw16 : k6_chk16 v36 v42), ∀ a x, ((![v36, v42] : Fin 2 → IVec S16 32) a x).toNat < S32x768.size a := fun v36 v42 k6_hw16 => k6_hw16
@[reducible] def k6_t10_loop : Scf.Loop 32 :=
  let c0_i32_37 : BitVec 32 := 0#32
  let c16_i32_38 : BitVec 32 := 16#32
  let v26 : BitVec 32 := Scalar.addi c0_i32_37 c16_i32_38
  let c1_i32_39 : BitVec 32 := 1#32
  ⟨c0_i32_37, v26, c1_i32_39⟩
def k6_off21 (k6_t10 : Fin k6_t10_loop.trips) : Fin 2 → Nat :=
  let c96_i32_51 : BitVec 32 := 96#32
  let c2_i32_49 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k6_t10
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v39 : BitVec 32 := Scalar.addi c96_i32_51 v37
  let v40 : Index := Scalar.indexCast v39
  let c0 : Index := 0#32
  ![v40.toNat, 0]
def k6_off22 (k6_t10 : Fin k6_t10_loop.trips) : Fin 2 → Nat :=
  let c96_i32_52 : BitVec 32 := 96#32
  let c2_i32_49 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k6_t10
  let c1_i32_47 : BitVec 32 := 1#32
  let v34 : BitVec 32 := Scalar.muli arg9 c1_i32_47
  let v35 : BitVec 32 := Scalar.addi c0_i32_48 v34
  let v36 : BitVec 32 := Scalar.muli c2_i32_49 v35
  let c0_i32_50 : BitVec 32 := 0#32
  let v37 : BitVec 32 := Scalar.addi v36 c0_i32_50
  let v42 : BitVec 32 := Scalar.addi c96_i32_52 v37
  let v43 : Index := Scalar.indexCast v42
  let c16 : Index := 16#32
  ![v43.toNat, 16]

def k6_chk17 (v38 : IVec S16 32) (v41 : IVec S16 32) : Prop :=
  (∀ a x, ((![v38, v41] : Fin 2 → IVec S16 32) a x).toNat < S32x768.size a)
theorem k6_idx17_inb : ∀ (v38 : IVec S16 32) (v41 : IVec S16 32) (k6_hw17 : k6_chk17 v38 v41), ∀ a x, ((![v38, v41] : Fin 2 → IVec S16 32) a x).toNat < S32x768.size a := fun v38 v41 k6_hw17 => k6_hw17

def k6_chk18 (v38 : IVec S16 32) (v44 : IVec S16 32) : Prop :=
  (∀ a x, ((![v38, v44] : Fin 2 → IVec S16 32) a x).toNat < S32x768.size a)
theorem k6_idx18_inb : ∀ (v38 : IVec S16 32) (v44 : IVec S16 32) (k6_hw18 : k6_chk18 v38 v44), ∀ a x, ((![v38, v44] : Fin 2 → IVec S16 32) a x).toNat < S32x768.size a := fun v38 v44 k6_hw18 => k6_hw18
def k6_off23 (k6_t10 : Fin k6_t10_loop.trips) : Fin 2 → Nat :=
  let c96_i32_55 : BitVec 32 := 96#32
  let c2_i32_53 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k6_t10
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v48 : BitVec 32 := Scalar.addi c96_i32_55 v46
  let v49 : Index := Scalar.indexCast v48
  let c0_56 : Index := 0#32
  ![v49.toNat, 0]
def k6_off24 (k6_t10 : Fin k6_t10_loop.trips) : Fin 2 → Nat :=
  let c96_i32_57 : BitVec 32 := 96#32
  let c2_i32_53 : BitVec 32 := 2#32
  let c0_i32_48 : BitVec 32 := 0#32
  let c0_i32_37 : BitVec 32 := 0#32
  let c1_i32_39 : BitVec 32 := 1#32
  let arg9 : BitVec 32 := Scf.iv c0_i32_37 c1_i32_39 k6_t10
  let c1_i32_47 : BitVec 32 := 1#32
  let v34 : BitVec 32 := Scalar.muli arg9 c1_i32_47
  let v35 : BitVec 32 := Scalar.addi c0_i32_48 v34
  let v45 : BitVec 32 := Scalar.muli c2_i32_53 v35
  let c1_i32_54 : BitVec 32 := 1#32
  let v46 : BitVec 32 := Scalar.addi v45 c1_i32_54
  let v51 : BitVec 32 := Scalar.addi c96_i32_57 v46
  let v52 : Index := Scalar.indexCast v51
  let c16_58 : Index := 16#32
  ![v52.toNat, 16]

def k6_chk19 (v47 : IVec S16 32) (v50 : IVec S16 32) : Prop :=
  (∀ a x, ((![v47, v50] : Fin 2 → IVec S16 32) a x).toNat < S32x768.size a)
theorem k6_idx19_inb : ∀ (v47 : IVec S16 32) (v50 : IVec S16 32) (k6_hw19 : k6_chk19 v47 v50), ∀ a x, ((![v47, v50] : Fin 2 → IVec S16 32) a x).toNat < S32x768.size a := fun v47 v50 k6_hw19 => k6_hw19

def k6_chk20 (v47 : IVec S16 32) (v53 : IVec S16 32) : Prop :=
  (∀ a x, ((![v47, v53] : Fin 2 → IVec S16 32) a x).toNat < S32x768.size a)
theorem k6_idx20_inb : ∀ (v47 : IVec S16 32) (v53 : IVec S16 32) (k6_hw20 : k6_chk20 v47 v53), ∀ a x, ((![v47, v53] : Fin 2 → IVec S16 32) a x).toNat < S32x768.size a := fun v47 v53 k6_hw20 => k6_hw20
abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

abbrev stage7_0 : Fin 2 → Memref sig .tc .vmem S1024x768 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S768x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S512x256 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S1024x1 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S16384x32 : Shape := ⟨2, ![16384, 32]⟩
abbrev S768x256 : Shape := ⟨2, ![768, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S16384x32x1 : Shape := ⟨3, ![16384, 32, 1]⟩
abbrev S1x1x1 : Shape := ⟨3, ![1, 1, 1]⟩
abbrev S16384x32x256 : Shape := ⟨3, ![16384, 32, 256]⟩
abbrev S16384x256 : Shape := ⟨2, ![16384, 256]⟩
abbrev S16384x512 : Shape := ⟨2, ![16384, 512]⟩
abbrev S1x512 : Shape := ⟨2, ![1, 512]⟩
abbrev S1x256 : Shape := ⟨2, ![1, 256]⟩
abbrev S16384x1 : Shape := ⟨2, ![16384, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S768x256, .f32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .i32⟩
  | .hbm, ⟨9, _⟩ => ⟨S16384x32, .i32⟩
  | .hbm, ⟨10, _⟩ => ⟨S16384x32, .i1⟩
  | .hbm, ⟨11, _⟩ => ⟨S_, .i32⟩
  | .hbm, ⟨12, _⟩ => ⟨S16384x32, .i32⟩
  | .hbm, ⟨13, _⟩ => ⟨S16384x32, .i32⟩
  | .hbm, ⟨14, _⟩ => ⟨S16384x32, .i32⟩
  | .hbm, ⟨15, _⟩ => ⟨S16384x32x1, .i32⟩
  | .hbm, ⟨16, _⟩ => ⟨S1, .i32⟩
  | .hbm, ⟨17, _⟩ => ⟨S_, .i32⟩
  | .hbm, ⟨18, _⟩ => ⟨S16384x32x1, .i32⟩
  | .hbm, ⟨19, _⟩ => ⟨S16384x32x1, .i1⟩
  | .hbm, ⟨20, _⟩ => ⟨S1x1x1, .i32⟩
  | .hbm, ⟨21, _⟩ => ⟨S16384x32x1, .i32⟩
  | .hbm, ⟨22, _⟩ => ⟨S16384x32x1, .i1⟩
  | .hbm, ⟨23, _⟩ => ⟨S16384x32x1, .i1⟩
  | .hbm, ⟨24, _⟩ => ⟨S_, .i1⟩
  | .hbm, ⟨25, _⟩ => ⟨S16384x32, .i1⟩
  | .hbm, ⟨26, _⟩ => ⟨S16384x32x256, .f32⟩
  | .hbm, ⟨27, _⟩ => ⟨S16384x32x256, .i1⟩
  | .hbm, ⟨28, _⟩ => ⟨S_, .f32⟩
  | .hbm, ⟨29, _⟩ => ⟨S16384x32x256, .f32⟩
  | .hbm, ⟨30, _⟩ => ⟨S16384x32x256, .f32⟩
  | .hbm, ⟨31, _⟩ => ⟨S_, .f32⟩
  | .hbm, ⟨32, _⟩ => ⟨S16384x256, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x256, .f32⟩
  | .hbm, ⟨41, _⟩ => ⟨S1x256, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x1, .f32⟩
  | .hbm, ⟨48, _⟩ => ⟨S1x1, .f32⟩
  | .hbm, ⟨49, _⟩ => ⟨S16384x1, .f32⟩
  | .hbm, ⟨50, _⟩ => ⟨S16384x1, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_call1_cst : Ref sig .tc := ⟨.hbm, 37, rfl⟩
abbrev main_call1_v0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call2_cst : Ref sig .tc := ⟨.hbm, 44, rfl⟩
abbrev main_call2_v0 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩

abbrev nD : Nat := 1
abbrev τ : Topo := Topo.v7x

variable {F : FTy → Type} [FloatOps F]
-- ==== Proof.Base.lean ====
/-
  The set-up the proof shares: the program as the launch theorem sees it, and the resource algebra.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the local transfers' counters -/

abbrev UH : Type := URounds (GSem nD τ sig) ℕ
abbrev UR : Type := URounds (GSem nD τ sig) Unit
abbrev UU : Type := UH × (UR × Counters)

/-- The model of the proof's assertions. -/
abbrev MM (F : FTy → Type) : Type := MT nD τ sig (HIx 4) (Elt F) ℕ UU ℕ

abbrev EH : Emb UH (MM F) := embL

def EP : Emb UR (MM F) :=
  ((Emb.inl : Emb UR (UR × Counters)).trans (Emb.inr : Emb (UR × Counters) UU)).trans
    (uEmb (nD := nD) (sig := sig) (Ix := HIx 4) (Val := Elt F) (Name := ℕ) (U := UU) (Lvl := ℕ)).toEmb

instance EP_landsIn : (EP : Emb UR (MM F)).LandsIn (upEmb : UEmb _ (MM F)) := by unfold EP; infer_instance

end Cert.Proof
-- ==== Proof.Prog.lean ====
module

public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

section Pieces

/-- The programs of one vector subcore. -/
abbrev TileProg (F : FTy → Type) (a : Fin τ.nSC) (b : Fin τ.nSub) : Type → Type _ := Prog (TpuEff nD τ sig (Elt F) Λ₀ (.scVector a b))

variable {a : Fin τ.nSC} {b : Fin τ.nSub}

/-- One row of the index table into the count array: its two halves of sixteen lanes are read and
    checked, and `v` is scattered at row `w` and the columns they name. -/
def rowStep (idx : Memref sig .scVector .vmem S128x32 .i32) (arr : Memref sig .scVector .vmem S32x768 .f32) (w : BitVec 32)
    (v : FVec F S16 .f32) (add : Bool) (o o' : Fin 2 → Nat) (ho : ∀ a, o a + S1x16.size a ≤ S128x32.size a)
    (ho' : ∀ a, o' a + S1x16.size a ≤ S128x32.size a) : TileProg F a b PUnit := do
  let x : Vec F S1x16 .i32 ← Prog.lift (.load idx (Rect.unit (s := S128x32) o S1x16.size ho).toLoadRect (View.loadsAt_vmem h_S1x16))
  let x' : Vec F S16 .i32 := shapeCast S16 x shapeCasts_S1x16_S16
  have hx : k0_chk1 (broadcast S16 w) x' := (← Prog.lift (TpuEff.assume (k0_chk1 (broadcast S16 w) x') (k0_chk1.dec (broadcast S16 w) x'))).down
  let y : Vec F S1x16 .i32 ← Prog.lift (.load idx (Rect.unit (s := S128x32) o' S1x16.size ho').toLoadRect (View.loadsAt_vmem h_S1x16))
  let y' : Vec F S16 .i32 := shapeCast S16 y shapeCasts_S1x16_S16
  have hy : k0_chk1 (broadcast S16 w) y' := (← Prog.lift (TpuEff.assume (k0_chk1 (broadcast S16 w) y') (k0_chk1.dec (broadcast S16 w) y'))).down
  SparseCore.vectorStoreIdx arr ![broadcast S16 w, x'] v (fun _ => 1#1) add (k0_idx1_inb _ _ hx) (View.stores_vmem_bits_univ h_S32x768 rfl)
  SparseCore.vectorStoreIdx arr ![broadcast S16 w, y'] v (fun _ => 1#1) add (k0_idx1_inb _ _ hy) (View.stores_vmem_bits_univ h_S32x768 rfl)

/-- Sixteen lanes of the count array set to zero: they are read, and the zero vector is stored over them. -/
def zeroLanes (arr : Memref sig .scVector .vmem S32x768 .f32) (o : Fin 2 → Nat) (ho : ∀ a, o a + S1x16.size a ≤ S32x768.size a) : TileProg F a b PUnit := do
  let _ ← Prog.lift (.load arr (Rect.unit (s := S32x768) o S1x16.size ho).toLoadRect (View.loadsAt_vmem h_S1x16))
  Prog.lift (.store arr (Rect.unit (s := S32x768) o S1x16.size ho) (shapeCast S1x16 (k0_pay2 (F := F)) shapeCasts_S16_S1x16) Finset.univ
    (View.stores_vmem_bits_univ h_S1x16 rfl) (.inl rfl))

/-- The row word of trip `t` of a histogram loop: `2 * t + k`. -/
abbrev pairRow (t : Fin k0_t3_loop.trips) (k : BitVec 32) : BitVec 32 :=
  Scalar.addi (Scalar.muli 2#32 (Scalar.addi 0#32 (Scalar.muli (Scf.iv 0#32 1#32 t) 1#32))) k

/-- The row word of trip `t` of a clearing loop: `t`. -/
abbrev oneRow (t : Fin k0_t7_loop.trips) : BitVec 32 := Scalar.addi 0#32 (Scalar.muli (Scf.iv 0#32 1#32 t) 1#32)

/-- The count array filled with zeros, sixteen lanes at a time. -/
def zeroFill (arr : Memref sig .scVector .vmem S32x768 .f32) : TileProg F a b Unit :=
  Scf.Loop.for k0_t1_loop k0_t1_ok ⟨⟩ fun t _ => do
    Scf.Loop.for k0_t2_loop k0_t2_ok ⟨⟩ fun u _ => do
      zeroLanes arr (k0_off2 t u 0#32) (k0_off2_inb t u 0)
      zeroLanes arr (k0_off2 t u 16#32) (k0_off2_inb t u 1)
      zeroLanes arr (k0_off2 t u 32#32) (k0_off2_inb t u 2)
      zeroLanes arr (k0_off2 t u 48#32) (k0_off2_inb t u 3)
      pure ⟨⟩
    pure ⟨⟩

/-- The offsets of the index loads of a loop, one per trip. -/
abbrev Offs (n : ℕ) : Type := { o : Fin n → Fin 2 → Nat // ∀ t a, o t a + S1x16.size a ≤ S128x32.size a }

/-- Ones scattered with addition: thirty-two rows of the index table, two per trip. -/
def histRows (idx : Memref sig .scVector .vmem S128x32 .i32) (arr : Memref sig .scVector .vmem S32x768 .f32)
    (o₁ o₂ o₃ o₄ : Offs k0_t3_loop.trips) (v : FVec F S16 .f32) : TileProg F a b Unit :=
  Scf.Loop.for k0_t3_loop k0_t3_ok ⟨⟩ fun t _ => do
    rowStep idx arr (pairRow t 0#32) v true (o₁.1 t) (o₂.1 t) (o₁.2 t) (o₂.2 t)
    rowStep idx arr (pairRow t 1#32) v true (o₃.1 t) (o₄.1 t) (o₃.2 t) (o₄.2 t)
    pure ⟨⟩

/-- Zeros scattered where ones had been: the same rows, one per trip. -/
def clearRows (idx : Memref sig .scVector .vmem S128x32 .i32) (arr : Memref sig .scVector .vmem S32x768 .f32)
    (o₁ o₂ : Offs k0_t7_loop.trips) (v : FVec F S16 .f32) : TileProg F a b Unit :=
  Scf.Loop.for k0_t7_loop k0_t7_ok ⟨⟩ fun t _ => do
    rowStep idx arr (oneRow t) v false (o₁.1 t) (o₂.1 t) (o₁.2 t) (o₂.2 t)
    pure ⟨⟩

/-- Thirty-two rows of the result, at the offsets `o`. -/
abbrev outRows (out : Memref sig .scVector .hbm S4096x768 .f32) (o : Fin 2 → Nat) (ho : ∀ a, o a + S32x768.size a ≤ S4096x768.size a) :
    Memref sig .scVector .hbm S32x768 .f32 :=
  out.slice (Rect.unit (s := S4096x768) o S32x768.size ho) (fun _ => rfl)

/-- The subcore's 128 rows of the index argument, at the offsets `o`. -/
abbrev inRows (x : Memref sig .scVector .hbm S16384x32 .i32) (o : Fin 2 → Nat) (ho : ∀ a, o a + S128x32.size a ≤ S16384x32.size a) :
    Memref sig .scVector .hbm S128x32 .i32 :=
  x.slice (Rect.unit (s := S16384x32) o S128x32.size ho) (fun _ => rfl)

end Pieces

variable (i : grid0.Coords) (arg2 : Memref sig .scVector .hbm S16384x32 .i32) (harg2 : arg2.IsWhole) (arg3 : Memref sig .scVector .hbm S4096x768 .f32) (harg3 : arg3.IsWhole)
  (arg4 : Memref sig .scVector .vmem S128x32 .i32) (harg4 : arg4.IsWhole) (arg5 : Memref sig .scVector .vmem S32x768 .f32) (harg5 : arg5.IsWhole)
  (arg6 : Memref sig .scVector .vmem S32x768 .f32) (harg6 : arg6.IsWhole) (arg7 arg8 v34_r0 : DmaSems sig S_)
  (o : Fin 2 → Nat) (ho : ∀ a, o a + S128x32.size a ≤ S16384x32.size a)

/-- The programs of the subcore at the coordinates `i`. -/
abbrev AtProg (F : FTy → Type) (i : grid0.Coords) : Type → Type _ := TileProg F ((i 0).castLE hcore0) ((i 1).castLE hsub0)

/-- The first half of the subcore's program. -/
def histPart1 : AtProg F i (Σ' (v2 : BitVec 32) (v4 : FVec F S16 .f32), FVec F S16 .f32) := do
  Prog.lift (.enqueueDma (inRows arg2 o ho) (.here arg4) (.dma v34_r0.sem) (View.wordExact_bits rfl) harg4.wordExact ⟨Or.inl rfl, trivial⟩)
  Prog.lift (.waitDma2 v34_r0.sem (inRows arg2 o ho) arg4 (View.wordExact_bits rfl) harg4.wordExact)
  zeroFill arg5
  histRows arg4 arg5 ⟨k0_off3, k0_off3_inb⟩ ⟨k0_off4, k0_off4_inb⟩ ⟨k0_off5, k0_off5_inb⟩ ⟨k0_off6, k0_off6_inb⟩ k0_pay1
  Prog.lift (.enqueueDma arg5 (.here (outRows arg3 (k0_off7 i 0#32) (k0_off7_inb i 0))) (.dma arg7.sem) harg5.wordExact (View.wordExact_bits rfl) ⟨Or.inl rfl, trivial⟩)
  zeroFill arg6
  histRows arg4 arg6 ⟨k0_off9, k0_off9_inb⟩ ⟨k0_off10, k0_off10_inb⟩ ⟨k0_off11, k0_off11_inb⟩ ⟨k0_off12, k0_off12_inb⟩ k0_pay1
  pure ⟨Scalar.muli (Scalar.addi (Scalar.muli (BitVec.ofNat 32 (i 1).val) 2#32) (BitVec.ofNat 32 (i 0).val)) 128#32, k0_pay1 (F := F), k0_pay2 (F := F)⟩

/-- The subcore's program: the rows' counts in four groups of thirty-two, two count arrays taking turns. -/
def histProg : AtProg F i PUnit := do
  (do
    let ⟨_, v4, v5⟩ : Σ' (v2 : BitVec 32) (v4 : FVec F S16 .f32), FVec F S16 .f32 ←
      histPart1 i arg2 arg3 arg4 harg4 arg5 harg5 arg6 arg7 v34_r0 o ho
    Prog.lift (.enqueueDma arg6 (.here (outRows arg3 (k0_off7 i 32#32) (k0_off7_inb i 1))) (.dma arg8.sem) harg6.wordExact (View.wordExact_bits rfl) ⟨Or.inl rfl, trivial⟩)
    Prog.lift (.waitDma2 arg7.sem arg5 (outRows arg3 (k0_off7 i 0#32) (k0_off7_inb i 0)) harg5.wordExact (View.wordExact_bits rfl))
    clearRows arg4 arg5 ⟨k0_off13, k0_off13_inb⟩ ⟨k0_off14, k0_off14_inb⟩ v5
    histRows arg4 arg5 ⟨k0_off15, k0_off15_inb⟩ ⟨k0_off16, k0_off16_inb⟩ ⟨k0_off17, k0_off17_inb⟩ ⟨k0_off18, k0_off18_inb⟩ v4
    Prog.lift (.enqueueDma arg5 (.here (outRows arg3 (k0_off7 i 64#32) (k0_off7_inb i 2))) (.dma arg7.sem) harg5.wordExact (View.wordExact_bits rfl) ⟨Or.inl rfl, trivial⟩)
    Prog.lift (.waitDma2 arg8.sem arg6 (outRows arg3 (k0_off7 i 32#32) (k0_off7_inb i 1)) harg6.wordExact (View.wordExact_bits rfl))
    clearRows arg4 arg6 ⟨k0_off19, k0_off19_inb⟩ ⟨k0_off20, k0_off20_inb⟩ v5
    histRows arg4 arg6 ⟨k0_off21, k0_off21_inb⟩ ⟨k0_off22, k0_off22_inb⟩ ⟨k0_off23, k0_off23_inb⟩ ⟨k0_off24, k0_off24_inb⟩ v4
    Prog.lift (.enqueueDma arg6 (.here (outRows arg3 (k0_off7 i 96#32) (k0_off7_inb i 3))) (.dma arg8.sem) harg6.wordExact (View.wordExact_bits rfl) ⟨Or.inl rfl, trivial⟩)
    Prog.lift (.waitDma2 arg7.sem arg5 (outRows arg3 (k0_off7 i 64#32) (k0_off7_inb i 2)) harg5.wordExact (View.wordExact_bits rfl))
    Prog.lift (.waitDma2 arg8.sem arg6 (outRows arg3 (k0_off7 i 96#32) (k0_off7_inb i 3)) harg6.wordExact (View.wordExact_bits rfl))
    pure ⟨⟩)
  pure ⟨⟩

theorem body0_eq : cc0__sc_hist_body (F := F) i arg2 harg2 arg3 harg3 arg4 harg4 arg5 harg5 arg6 harg6 arg7 arg8 v34_r0
    = histProg i arg2 arg3 arg4 harg4 arg5 harg5 arg6 harg6 arg7 arg8 v34_r0 (k0_off1 i) (k0_off1_inb i) := by
  rfl

theorem body2_eq : cc2__sc_hist_body (F := F) i arg2 harg2 arg3 harg3 arg4 harg4 arg5 harg5 arg6 harg6 arg7 arg8 v34_r0
    = histProg i arg2 arg3 arg4 harg4 arg5 harg5 arg6 harg6 arg7 arg8 v34_r0 (k2_off1 i) (k2_off1_inb i) := by
  rfl

theorem body4_eq : cc4__sc_hist_body (F := F) i arg2 harg2 arg3 harg3 arg4 harg4 arg5 harg5 arg6 harg6 arg7 arg8 v34_r0
    = histProg i arg2 arg3 arg4 harg4 arg5 harg5 arg6 harg6 arg7 arg8 v34_r0 (k4_off1 i) (k4_off1_inb i) := by
  rfl

theorem body6_eq : cc6__sc_hist_body (F := F) i arg2 harg2 arg3 harg3 arg4 harg4 arg5 harg5 arg6 harg6 arg7 arg8 v34_r0
    = histProg i arg2 arg3 arg4 harg4 arg5 harg5 arg6 harg6 arg7 arg8 v34_r0 (k6_off1 i) (k6_off1_inb i) := by
  rfl

end Cert.Proof
-- ==== Proof.Count.lean ====
/-
  What the scatters leave, lane by lane: the closed forms of a row's counts.
-/
module

public import proofs.«01_k».proof.Proof.Prog

@[expose] public section

noncomputable section

namespace Cert.Proof

open Cert.KernelIdeal Cert.KernelIdeal.Gen
open Idealize.ShloMosaic Idealize.SL.Sem

variable {F : FTy → Type} [FloatOps F]

/-- One element under a scatter of the constant `c` at the columns `l`, lowest lane first: changed once for each lane
    that names the element's own column. -/
def laneFold {n : ℕ} (add : Bool) (c : F .f32) (l : Fin n → BitVec 32) (col : ℕ) (x : F .f32) : F .f32 :=
  (List.finRange n).foldl (fun acc k => if (l k).toNat = col then (if add then FloatOps.idxAddf acc c else c) else acc) x

/-- The element of the index table at row `r` and column `k`. -/
def cell (r : Fin 128) (k : Fin 32) : S128x32.Idx := fun a => match a with | 0 => r | 1 => k

/-- An index row's two halves of sixteen lanes. -/
def half (X : S128x32.Idx → BitVec 32) (r : Fin 128) (h : Fin 2) (k : Fin 16) : BitVec 32 :=
  X (cell r ⟨16 * h.val + k.val, by have := h.isLt; have := k.isLt; omega⟩)

/-- One element under the scatter of a whole index row: the lower half's lanes, then the upper half's. -/
def rowFold (add : Bool) (c : F .f32) (X : S128x32.Idx → BitVec 32) (r : Fin 128) (col : ℕ) (x : F .f32) : F .f32 :=
  laneFold add c (half X r 1) col (laneFold add c (half X r 0) col x)

/-- The literals the kernel scatters. -/
abbrev oneF : F .f32 := Scalar.ofBits .f32 0x3F800000#32
abbrev zeroF : F .f32 := Scalar.ofBits .f32 0x00000000#32

/-- How often row `r` of the index table names `col`, as the scatters accumulate it. -/
def rowCount (X : S128x32.Idx → BitVec 32) (r : Fin 128) (col : ℕ) : F .f32 := rowFold true oneF X r col zeroF

/-- Scattering a constant changes an element to that constant, or not at all. -/
theorem laneFold_set {n : ℕ} (c : F .f32) (l : Fin n → BitVec 32) (col : ℕ) (x : F .f32) :
    laneFold false c l col x = if ∃ k, (l k).toNat = col then c else x := by
  unfold laneFold
  have h : ∀ (L : List (Fin n)) (x : F .f32),
      L.foldl (fun acc k => if (l k).toNat = col then (if false = true then FloatOps.idxAddf acc c else c) else acc) x
        = if ∃ k ∈ L, (l k).toNat = col then c else x := by
    intro L
    induction L with
    | nil => intro x; simp
    | cons k L ih =>
      intro x
      rw [List.foldl_cons, ih]
      by_cases hk : (l k).toNat = col <;> by_cases hL : ∃ k ∈ L, (l k).toNat = col <;> simp [hk, hL]
  have := h (List.finRange n) x
  simpa using this

/-- A scatter that names an element nowhere leaves it. -/
theorem laneFold_miss {n : ℕ} (add : Bool) (c : F .f32) (l : Fin n → BitVec 32) (col : ℕ) (x : F .f32) (h : ∀ k, (l k).toNat ≠ col) :
    laneFold add c l col x = x := by
  unfold laneFold
  generalize List.finRange n = L
  induction L generalizing x with
  | nil => rfl
  | cons k L ih => rw [List.foldl_cons, if_neg (h k), ih]

/-- Clearing a row where its ones were added leaves zeros everywhere. -/
theorem rowFold_clear (X : S128x32.Idx → BitVec 32) (r : Fin 128) (col : ℕ) :
    rowFold false (zeroF (F := F)) X r col (rowCount X r col) = zeroF := by
  unfold rowFold
  rw [laneFold_set, laneFold_set]
  by_cases h1 : ∃ k, (half X r 1 k).toNat = col
  · rw [if_pos h1]
  by_cases h0 : ∃ k, (half X r 0 k).toNat = col
  · rw [if_neg h1, if_pos h0]
  · rw [if_neg h1, if_neg h0]
    unfold rowCount rowFold
    rw [laneFold_miss _ _ _ _ _ (fun k hk => h1 ⟨k, hk⟩), laneFold_miss _ _ _ _ _ (fun k hk => h0 ⟨k, hk⟩)]

/-- A scatter of a constant at one row of the count array, element by element. -/
theorem storeIdx_row (f : S32x768.Idx → F .f32) (w : BitVec 32) (l : S16.Idx → BitVec 32) (c : F .f32) (add : Bool)
    (h : ∀ a x, ((![broadcast S16 w, l] : Fin 2 → IVec S16 32) a x).toNat < S32x768.size a) (j : S32x768.Idx) :
    storeIdx (F := F) (e := .f32) f ![broadcast S16 w, l] (broadcast S16 c) (fun _ => 1#1) add h j
      = if (j 0).val = w.toNat then laneFold add c (fun k : Fin 16 => l (Shape.ofLane k)) (j 1).val (f j) else f j := by
  have hstep : storeIdx (F := F) (e := .f32) f ![broadcast S16 w, l] (broadcast S16 c) (fun _ => 1#1) add h
      = (List.finRange 16).foldl (fun (g : S32x768.Idx → F .f32) (k : Fin 16) => fun j : S32x768.Idx =>
          if (j 0).val = w.toNat ∧ (j 1).val = (l (Shape.ofLane k)).toNat then (if add then FloatOps.idxAddf (g j) c else c) else g j) f := by
    unfold storeIdx
    refine congrArg (fun st => List.foldl st f (List.finRange 16)) ?_
    funext g k j
    have hall : (∀ a, (j a).val = (idxAt (s := S32x768) ![broadcast S16 w, l] h (Shape.ofLane k) a).val)
        ↔ (j 0).val = w.toNat ∧ (j 1).val = (l (Shape.ofLane k)).toNat := by
      rw [Fin.forall_fin_two]; rfl
    refine (congrFun (if_pos rfl) j).trans ?_
    by_cases hj : (j 0).val = w.toNat ∧ (j 1).val = (l (Shape.ofLane k)).toNat
    · have he : idxAt (s := S32x768) ![broadcast S16 w, l] h (Shape.ofLane k) = j := funext fun a => Fin.ext (hall.mpr hj a).symm
      refine (if_pos (hall.mpr hj)).trans ?_
      rw [if_pos hj]
      show (if add then FloatOps.idxAddf (g (idxAt (s := S32x768) ![broadcast S16 w, l] h (Shape.ofLane k))) c else c) = _
      rw [he]
    · exact (if_neg (fun hh => hj (hall.mp hh))).trans (if_neg hj).symm
  rw [hstep]
  unfold laneFold
  generalize List.finRange 16 = L
  clear hstep
  induction L generalizing f with
  | nil => simp
  | cons k L ih =>
    rw [List.foldl_cons, ih, List.foldl_cons]
    by_cases h0 : (j 0).val = w.toNat
    · rw [if_pos h0, if_pos h0]
      congr 1
      by_cases h1 : (j 1).val = (l (Shape.ofLane k)).toNat
      · rw [if_pos ⟨h0, h1⟩, if_pos h1.symm]
      · rw [if_neg fun hh => h1 hh.2, if_neg fun hh => h1 hh.symm]
    · rw [if_neg h0, if_neg h0, if_neg fun hh => h0 hh.1]

end Cert.Proof
-- ==== Proof.Steps.lean ====
/-
  The steps of one vector subcore's program, over memrefs owned at what they read.
-/
module

public import proofs.«01_k».proof.Proof.Base
public import proofs.«01_k».proof.Proof.Count
public import Idealize.ShloMosaic.Lib.Memref
public import Idealize.ShloMosaic.Lib.WordExact

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- Equal assertions entail each other. -/
theorem ent_eq {P Q : sProp (MM F)} (h : P = Q) : P ⊢ Q := h ▸ .rfl

theorem ent_fupd {P Q : sProp (MM F)} (h : P = Q) : P ⊢ iprop(|={Set.univ}[frame]=> Q) := h ▸ fupd_intro

section Own

variable {d : Dev nD} {a : Fin τ.nSC} {b : Fin τ.nSub} {α : Type} {Q : α → sProp (MM F)}

/-- A vector subcore's ownership of a memref's elements, at what it reads through the memref. -/
abbrev own' (d : Dev nD) (a : Fin τ.nSC) (b : Fin τ.nSub) {sp : Space} {s : Shape} {e : EltTy} (m : Memref sig .scVector sp s e)
    (X : s.Idx → Elt F e) : sProp (MM F) :=
  owns (V d a b) m fullShare X

/-- The weakest precondition of a program of the subcore. -/
abbrev wpV (d : Dev nD) (a : Fin τ.nSC) (b : Fin τ.nSub) {α : Type} (p : TileProg F a b α) (Q : α → sProp (MM F)) : sProp (MM F) :=
  wp frame (wpE (defs₀ (F := F)) 𝒱₀ (V d a b) none) Set.univ p Q

theorem wp_load_own {cs : CoreSpace} {s : Shape} {e : EltTy} {m : Memref sig .scVector cs s e} {r : LoadRect s} {hl : m.view.LoadsAt r}
    {k : (r.shape.Idx → Elt F e) → TileProg F a b α} {X : s.Idx → Elt F e} :
    own' d a b m X ⊢ iprop((own' d a b m X -∗ wpV d a b (k fun j => X (r.idx j)) Q) -∗ wpV d a b (.op (.load m r hl) k) Q) := by
  unfold own' owns wpV
  iintro ⟨%f, %hf, H⟩ Hk
  iapply (wp_load 𝒱₀ (V d a b) none Set.univ (m := m) (View.setOn_subset_set _ _)) $$ H
  iintro H
  rw [show m.view.readAt (Elt F) r f = fun j => X (r.idx j) from funext fun j => by rw [View.readAt_apply, hf]]
  iapply Hk
  iexists f
  isplitr; · ipureintro; exact hf
  iexact H

theorem wp_scatter_own {s : Shape} {e : EltTy} {n : Fin 1 → Nat} {base : Memref sig .scVector .vmem s e} {idxs : Fin s.rank → IVec ⟨1, n⟩ 32} {v : Vec F ⟨1, n⟩ e}
    {mask : IVec ⟨1, n⟩ 1} {add : Bool} {h : ∀ a x, (idxs a x).toNat < s.size a} {hs : (base.access (.whole s)).Stores Finset.univ}
    {k : PUnit → TileProg F a b α} {G : s.Idx → Elt F e} :
    own' d a b base G ⊢ iprop((own' d a b base (storeIdx G idxs v mask add h) -∗ wpV d a b (k ⟨⟩) Q)
      -∗ wpV d a b (SparseCore.vectorStoreIdx base idxs v mask add h hs >>= k) Q) := by
  unfold own' owns wpV
  have hset : (base.access (.whole s)).set = base.view.set := View.set_slice_rectWhole base.view
  have hread : ∀ f, (base.access (.whole s)).read (Elt F) f = base.view.read (Elt F) f := fun f => funext fun x => by
    show base.view.read (Elt F) f ((Rect.whole s).emb x) = _
    rw [Rect.emb_whole_apply]
  iintro ⟨%f, %hf, H⟩ Hk
  iapply (SparseCore.wp_vectorStoreIdx 𝒱₀ (V d a b) none Set.univ (base := base) (f := f)) $$ [H]
  · rw [hset]; iexact H
  iintro H
  iapply Hk
  iexists ((base.access (.whole s)).write (Elt F) f (storeIdx ((base.access (.whole s)).read (Elt F) f) idxs v mask add h) Finset.univ)
  isplitr
  · ipureintro
    rw [← hread, View.read_write_univ, hread, hf]
  · rw [hset]; iexact H

theorem wp_scatter_last {s : Shape} {e : EltTy} {n : Fin 1 → Nat} {base : Memref sig .scVector .vmem s e} {idxs : Fin s.rank → IVec ⟨1, n⟩ 32} {v : Vec F ⟨1, n⟩ e}
    {mask : IVec ⟨1, n⟩ 1} {add : Bool} {h : ∀ a x, (idxs a x).toNat < s.size a} {hs : (base.access (.whole s)).Stores Finset.univ}
    {Q : PUnit → sProp (MM F)} {G : s.Idx → Elt F e} :
    own' d a b base G ⊢ iprop((own' d a b base (storeIdx G idxs v mask add h) -∗ Q ⟨⟩)
      -∗ wpV d a b (SparseCore.vectorStoreIdx base idxs v mask add h hs) Q) := by
  have e : wpV d a b (SparseCore.vectorStoreIdx base idxs v mask add h hs) Q
      = wpV d a b (SparseCore.vectorStoreIdx base idxs v mask add h hs >>= fun _ => pure ⟨⟩) Q :=
    congrArg (fun p => wpV d a b p Q) (Prog.bind_pure _).symm
  rw [e]
  iintro H Hk
  iapply wp_scatter_own $$ H
  iintro H
  unfold wpV
  rw [wp_pure]
  iapply Hk $$ H

theorem wp_store_own {s : Shape} {e : EltTy} {cs : CoreSpace} {m : Memref sig .scVector cs s e} {r : Rect s} {w : r.shape.Idx → Elt F e}
    {hx : (m.access r).Stores Finset.univ} {hm : (Finset.univ : Finset r.shape.Idx) = Finset.univ ∨ ∀ a, r.stride a = 1}
    {k : PUnit → TileProg F a b α} {G G' : s.Idx → Elt F e} (h₁ : ∀ x, G' (r.emb x) = w x) (h₂ : ∀ y, y ∉ r.set → G' y = G y) :
    own' d a b m G ⊢ iprop((own' d a b m G' -∗ wpV d a b (k ⟨⟩) Q) -∗ wpV d a b (.op (.store m r w Finset.univ hx hm) k) Q) := by
  unfold own' owns wpV
  iintro ⟨%f, %hf, H⟩ Hk
  iapply (wp_store 𝒱₀ (V d a b) none Set.univ (m := m) (r := r) (w := w) (Mk := Finset.univ) (hx := hx) (hm := hm) (k := k) (S := m.view.set) (f := f)
    (View.set_slice_subset m.view r)) $$ H
  iintro H
  iapply Hk
  iexists ((m.access r).write (Elt F) f w Finset.univ)
  isplitr
  · ipureintro
    funext y
    by_cases hy : y ∈ r.set
    · obtain ⟨x, rfl⟩ : ∃ x, r.emb x = y := r.exists_idx_of_mem hy
      rw [View.read_slice_write_emb r _ _ (Finset.mem_univ x), h₁]
    · rw [View.read_slice_write_of_not_mem r _ _ _ (by rwa [Rect.map_emb_univ]), hf, h₂ y hy]
  · iexact H

end Own

end Cert.Proof
-- ==== Proof.Rows.lean ====
/-
  The index rows of one vector subcore, scattered into and cleared from a count array.
-/
module

public import proofs.«01_k».proof.Proof.Steps
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable {d : Dev nD} {a : Fin τ.nSC} {b : Fin τ.nSub}
variable {idx : Memref sig .scVector .vmem S128x32 .i32} {arr : Memref sig .scVector .vmem S32x768 .f32}
variable {X : S128x32.Idx → BitVec 32}

/-- A check that holds is passed. -/
theorem wp_check {α : Type} {Q : α → sProp (MM F)} {P : Prop} {dec : Decidable P} {k : PLift P → TileProg F a b α} (h : P) :
    wpV d a b (k ⟨h⟩) Q ⊢ wpV d a b (.op (.assume P dec) k) Q := by
  unfold wpV; rw [wp_assume_of 𝒱₀ (V d a b) none Set.univ h]

/-- Sixteen lanes of row `r` from column `16 * h` on, as the load reads them and the cast flattens them. -/
theorem lanes_eq {o : Fin 2 → Nat} {ho : ∀ a, o a + S1x16.size a ≤ S128x32.size a} {r : Fin 128} {h : Fin 2} (hr : o = ![r.val, 16 * h.val]) (k : Fin 16) :
    shapeCast S16 (fun j => X ((Rect.unit (s := S128x32) o S1x16.size ho).toLoadRect.idx j)) shapeCasts_S1x16_S16 (Shape.ofLane k) = half X r h k := by
  subst hr
  refine (shapeCast_apply _ _ _ (fun a => match a with | 0 => (0 : Fin 1) | 1 => k : S1x16.Idx) ?_).trans ?_
  · rw [Shape.rowMajor_val_two, Shape.rowMajor_val_one]
    show 0 * 16 + k.val = k.val
    omega
  · unfold half
    refine congrArg X (funext fun a => Fin.ext ?_)
    rw [LoadRect.idx_apply]
    fin_cases a
    · show r.val + 1 * 0 = r.val; omega
    · show 16 * h.val + 1 * k.val = 16 * h.val + k.val; omega

/-- An index row scattered: the constant `c` at the columns it names, in row `w` of the count array. -/
theorem wp_rowStep {o o' : Fin 2 → Nat} {ho : ∀ a, o a + S1x16.size a ≤ S128x32.size a} {ho' : ∀ a, o' a + S1x16.size a ≤ S128x32.size a}
    {w : BitVec 32} {c : F .f32} {add : Bool} {G : S32x768.Idx → F .f32} (r : Fin 128) (hw : w.toNat < 32)
    (e₀ : o = ![r.val, 0]) (e₁ : o' = ![r.val, 16]) (hX : ∀ j, (X j).toNat < 768) :
    iprop(own' (F := F) d a b idx X ∗ own' d a b arr G)
      ⊢ wpV d a b (rowStep idx arr w (broadcast S16 c) add o o' ho ho') fun _ =>
          iprop(own' (F := F) d a b idx X ∗ own' d a b arr (fun j => if (j 0).val = w.toNat then rowFold add c X r (j 1).val (G j) else G j)) := by
  have hchk : ∀ (p : S16.Idx → BitVec 32), (∀ x, (p x).toNat < 768) → k0_chk1 (broadcast S16 w) p := by
    intro p hp a x
    fin_cases a
    · exact hw
    · exact hp x
  unfold rowStep
  iintro ⟨Hi, Ha⟩
  simp only [Prog.lift, Prog.bind_op, Prog.bind_ret]
  iapply wp_load_own $$ Hi
  iintro Hi
  iapply wp_check (hchk (shapeCast S16 (fun j => X ((Rect.unit (s := S128x32) o S1x16.size ho).toLoadRect.idx j)) shapeCasts_S1x16_S16) (fun x => hX _))
  iapply wp_load_own $$ Hi
  iintro Hi
  iapply wp_check (hchk (shapeCast S16 (fun j => X ((Rect.unit (s := S128x32) o' S1x16.size ho').toLoadRect.idx j)) shapeCasts_S1x16_S16) (fun x => hX _))
  iapply wp_scatter_own $$ Ha
  iintro Ha
  iapply wp_scatter_last $$ Ha
  iintro Ha
  have hG : storeIdx (F := F) (e := .f32) (storeIdx (F := F) (e := .f32) G ![broadcast S16 w, shapeCast S16 (fun j => X ((Rect.unit (s := S128x32) o S1x16.size ho).toLoadRect.idx j)) shapeCasts_S1x16_S16] (broadcast S16 c) (fun _ => 1#1) add (k0_idx1_inb _ _ (hchk _ (fun x => hX _))))
        ![broadcast S16 w, shapeCast S16 (fun j => X ((Rect.unit (s := S128x32) o' S1x16.size ho').toLoadRect.idx j)) shapeCasts_S1x16_S16] (broadcast S16 c) (fun _ => 1#1) add (k0_idx1_inb _ _ (hchk _ (fun x => hX _)))
      = fun j => if (j 0).val = w.toNat then rowFold add c X r (j 1).val (G j) else G j := by
    funext j
    rw [storeIdx_row, storeIdx_row]
    simp only [lanes_eq (h := 0) e₀, lanes_eq (h := 1) e₁]
    unfold rowFold
    by_cases h0 : (j 0).val = w.toNat <;> simp only [h0, if_true, if_false]
  rw [hG]
  isplitl [Hi] <;> iassumption

/-- Sixteen lanes set to zero. -/
theorem wp_zeroLanes {o : Fin 2 → Nat} {ho : ∀ a, o a + S1x16.size a ≤ S32x768.size a} {G : S32x768.Idx → F .f32} (r l : ℕ) (e : o = ![r, l]) :
    own' (F := F) d a b arr G ⊢ wpV d a b (zeroLanes arr o ho) fun _ =>
      own' (F := F) d a b arr (fun j => if (j 0).val = r ∧ l ≤ (j 1).val ∧ (j 1).val < l + 16 then zeroF else G j) := by
  subst e
  unfold zeroLanes
  iintro Ha
  simp only [Prog.lift, Prog.bind_op, Prog.bind_ret]
  iapply wp_load_own $$ Ha
  iintro Ha
  iapply (wp_store_own (G := G) (G' := fun j => if (j 0).val = r ∧ l ≤ (j 1).val ∧ (j 1).val < l + 16 then zeroF else G j) ?_ ?_) $$ Ha
  · intro x
    have h0 : (x 0).val < 1 := (x 0).isLt
    have h1 : (x 1).val < 16 := (x 1).isLt
    have e0 : (((Rect.unit (s := S32x768) ![r, l] S1x16.size ho).emb x) 0).val = r + 1 * (x 0).val := rfl
    have e1 : (((Rect.unit (s := S32x768) ![r, l] S1x16.size ho).emb x) 1).val = l + 1 * (x 1).val := rfl
    have hc : (((Rect.unit (s := S32x768) ![r, l] S1x16.size ho).emb x) 0).val = r ∧ l ≤ (((Rect.unit (s := S32x768) ![r, l] S1x16.size ho).emb x) 1).val
        ∧ (((Rect.unit (s := S32x768) ![r, l] S1x16.size ho).emb x) 1).val < l + 16 := by
      rw [e0, e1]
      exact ⟨by omega, by omega, by omega⟩
    exact (if_pos hc).trans rfl
  · intro y hy
    refine if_neg fun ⟨q0, q1, q2⟩ => hy ?_
    rw [Rect.mem_set_unit]
    intro c
    fin_cases c
    · show r ≤ (y 0).val ∧ (y 0).val < r + 1; omega
    · show l ≤ (y 1).val ∧ (y 1).val < l + 16; omega
  iintro Ha
  unfold wpV
  rw [wp_ret]
  iexact Ha

/-- The trips of the loops. -/
theorem trips1 : k0_t1_loop.trips = 32 := by decide +kernel
theorem trips2 : k0_t2_loop.trips = 12 := by decide +kernel
theorem trips3 : k0_t3_loop.trips = 16 := by decide +kernel
theorem trips7 : k0_t7_loop.trips = 32 := by decide +kernel

/-- The rows the loops' words name. -/
theorem pairRow0 : ∀ t : Fin k0_t3_loop.trips, (pairRow t 0#32).toNat = 2 * t.val := by decide +kernel
theorem pairRow1 : ∀ t : Fin k0_t3_loop.trips, (pairRow t 1#32).toNat = 2 * t.val + 1 := by decide +kernel
theorem oneRow0 : ∀ t : Fin k0_t7_loop.trips, (oneRow t).toNat = t.val := by decide +kernel

/-- Row `n` of the index table's group `g` of thirty-two rows. -/
def grpRow (g : Fin 4) (n : Fin 32) : Fin 128 := ⟨32 * g.val + n.val, by omega⟩

/-- The counts of group `g` of the index table. -/
def grpCount (X : S128x32.Idx → BitVec 32) (g : Fin 4) : S32x768.Idx → F .f32 := fun j => rowCount X (grpRow g (j 0)) (j 1).val

/-- A loop of the subcore's program at an invariant, at the head of a program. -/
theorem wp_loop {n : ℕ} (l : Scf.Loop n) (hok : l.OK) (body : Fin l.trips → Unit → TileProg F a b Unit) (I : ℕ → sProp (MM F))
    (hbody : ∀ k, I k.val ⊢ wpV d a b (body k ()) fun _ => I (k.val + 1)) :
    I 0 ⊢ wpV d a b (Scf.Loop.for l hok ⟨⟩ body) fun _ => I l.trips := by
  refine (show I 0 ⊢ iprop(I 0 ∗ (∀ acc : Unit, I (Scf.trips l.lb l.ub l.st) -∗ I l.trips)) from ?_).trans
    (Scf.wp_for frame (wpE (defs₀ (F := F)) 𝒱₀ (V d a b) none) Set.univ l.lb l.ub l.st hok ⟨⟩ body (fun t _ => I t) (fun k _ => hbody k))
  iintro H
  isplitl [H]
  · iexact H
  · iintro %acc H; iexact H

/-- The count array filled with zeros, whatever it held. -/
theorem wp_zeroFill {G : S32x768.Idx → F .f32} :
    own' (F := F) d a b arr G ⊢ wpV d a b (zeroFill arr) fun _ => own' (F := F) d a b arr (fun _ => zeroF) := by
  have inner : ∀ (t : Fin k0_t1_loop.trips) (u : Fin k0_t2_loop.trips) (G : S32x768.Idx → F .f32) (r : Fin 4) (o) (ho), o = k0_off2 t u (BitVec.ofNat 32 (16 * r.val)) →
      own' (F := F) d a b arr (fun j => if (j 0).val < t.val ∨ (j 0).val = t.val ∧ (j 1).val < 64 * u.val + 16 * r.val then zeroF else G j)
        ⊢ wpV d a b (zeroLanes arr o ho)
          fun _ => own' (F := F) d a b arr (fun j => if (j 0).val < t.val ∨ (j 0).val = t.val ∧ (j 1).val < 64 * u.val + 16 * (r.val + 1) then zeroF else G j) := by
    intro t u G r o ho e
    refine (wp_zeroLanes t.val (64 * u.val + 16 * r.val) (e.trans (k0_off2_eq t u r))).trans (wp_mono _ _ _ fun _ => ent_eq ?_)
    congr 1
    funext j
    dsimp only
    by_cases h : (j 0).val < t.val ∨ (j 0).val = t.val ∧ (j 1).val < 64 * u.val + 16 * (r.val + 1)
    · rw [if_pos h]
      by_cases h' : (j 0).val = t.val ∧ 64 * u.val + 16 * r.val ≤ (j 1).val ∧ (j 1).val < 64 * u.val + 16 * r.val + 16
      · rw [if_pos h']
      · rw [if_neg h', if_pos (by omega)]
    · rw [if_neg h, if_neg (by omega), if_neg (by omega)]
  have outer := wp_loop (F := F) (d := d) (a := a) (b := b) k0_t1_loop k0_t1_ok
    (fun t _ => do
      Scf.Loop.for k0_t2_loop k0_t2_ok ⟨⟩ fun u _ => do
        zeroLanes arr (k0_off2 t u 0#32) (k0_off2_inb t u 0)
        zeroLanes arr (k0_off2 t u 16#32) (k0_off2_inb t u 1)
        zeroLanes arr (k0_off2 t u 32#32) (k0_off2_inb t u 2)
        zeroLanes arr (k0_off2 t u 48#32) (k0_off2_inb t u 3)
        pure ⟨⟩
      pure ⟨⟩)
    (fun t => own' (F := F) d a b arr (fun j => if (j 0).val < t then zeroF else G j)) ?_
  · unfold zeroFill
    refine BI.Entails.trans (ent_eq ?_) (outer.trans (wp_mono _ _ _ fun _ => ent_eq ?_))
    · congr 1
    · congr 1
      funext j
      exact if_pos (by have := (j 0).isLt; change _ < 32 at this; rw [trips1]; exact this)
  · intro t
    have loop := wp_loop (F := F) (d := d) (a := a) (b := b) k0_t2_loop k0_t2_ok
      (fun u _ => do
        zeroLanes arr (k0_off2 t u 0#32) (k0_off2_inb t u 0)
        zeroLanes arr (k0_off2 t u 16#32) (k0_off2_inb t u 1)
        zeroLanes arr (k0_off2 t u 32#32) (k0_off2_inb t u 2)
        zeroLanes arr (k0_off2 t u 48#32) (k0_off2_inb t u 3)
        pure ⟨⟩)
      (fun u => own' (F := F) d a b arr (fun j => if (j 0).val < t.val ∨ (j 0).val = t.val ∧ (j 1).val < 64 * u then zeroF else G j)) ?_
    · unfold wpV
      simp only [wp_bind, wp_pure]
      refine BI.Entails.trans (ent_eq ?_) (loop.trans (wp_mono _ _ _ fun _ => ent_fupd ?_))
      · congr 1
        funext j
        congr 1
        exact propext ⟨fun h => Or.inl h, fun h => by omega⟩
      · congr 1
        funext j
        congr 1
        have := (j 1).isLt; change _ < 768 at this
        rw [trips2]
        exact propext ⟨fun h => by omega, fun h => by omega⟩
    · intro u
      unfold wpV
      simp only [wp_bind, wp_pure]
      refine BI.Entails.trans (ent_eq ?_) ((inner t u G 0 _ _ rfl).trans (wp_mono _ _ _ fun _ => (inner t u G 1 _ _ rfl).trans (wp_mono _ _ _ fun _ =>
        (inner t u G 2 _ _ rfl).trans (wp_mono _ _ _ fun _ => (inner t u G 3 _ _ rfl).trans (wp_mono _ _ _ fun _ => ent_fupd ?_)))))
      · rfl
      · rfl

/-- Ones added for every index of group `g`: from zeros, the group's counts. -/
theorem wp_histRows {o₁ o₂ o₃ o₄ : Offs k0_t3_loop.trips} (g : Fin 4) (hX : ∀ j, (X j).toNat < 768)
    (e₁ : ∀ t, o₁.1 t = ![32 * g.val + 2 * t.val, 0]) (e₂ : ∀ t, o₂.1 t = ![32 * g.val + 2 * t.val, 16])
    (e₃ : ∀ t, o₃.1 t = ![32 * g.val + (2 * t.val + 1), 0]) (e₄ : ∀ t, o₄.1 t = ![32 * g.val + (2 * t.val + 1), 16]) :
    iprop(own' (F := F) d a b idx X ∗ own' d a b arr (fun _ => zeroF))
      ⊢ wpV d a b (histRows idx arr o₁ o₂ o₃ o₄ (k0_pay1 (F := F))) fun _ => iprop(own' (F := F) d a b idx X ∗ own' d a b arr (grpCount X g)) := by
  have hp : k0_pay1 (F := F) = broadcast S16 oneF := rfl
  have loop := wp_loop (F := F) (d := d) (a := a) (b := b) k0_t3_loop k0_t3_ok
    (fun t _ => do
      rowStep idx arr (pairRow t 0#32) k0_pay1 true (o₁.1 t) (o₂.1 t) (o₁.2 t) (o₂.2 t)
      rowStep idx arr (pairRow t 1#32) k0_pay1 true (o₃.1 t) (o₄.1 t) (o₃.2 t) (o₄.2 t)
      pure ⟨⟩)
    (fun t => iprop(own' (F := F) d a b idx X ∗ own' d a b arr (fun j => if (j 0).val < 2 * t then grpCount X g j else zeroF))) ?_
  · unfold histRows
    refine BI.Entails.trans (ent_eq ?_) (loop.trans (wp_mono _ _ _ fun _ => ent_eq ?_))
    · congr 1
    · congr 2
      funext j
      exact if_pos (by have := (j 0).isLt; change _ < 32 at this; rw [trips3]; exact this)
  · intro t
    have ht : t.val < 16 := lt_of_lt_of_eq t.isLt trips3
    unfold wpV
    simp only [wp_bind, wp_pure]
    rw [hp]
    refine (wp_rowStep (grpRow g ⟨2 * t.val, by omega⟩) (by rw [pairRow0]; omega) (e₁ t) (e₂ t) hX).trans (wp_mono _ _ _ fun _ =>
      (wp_rowStep (grpRow g ⟨2 * t.val + 1, by omega⟩) (by rw [pairRow1]; omega) (e₃ t) (e₄ t) hX).trans (wp_mono _ _ _ fun _ => ent_fupd ?_))
    congr 2
    funext j
    rw [pairRow0, pairRow1]
    by_cases h1 : (j 0).val = 2 * t.val + 1
    · have hj : (⟨2 * t.val + 1, by omega⟩ : Fin 32) = j 0 := Fin.ext h1.symm
      rw [if_pos h1, if_neg (by omega), if_neg (by omega), if_pos (by omega), hj]
      rfl
    · rw [if_neg h1]
      by_cases h0 : (j 0).val = 2 * t.val
      · have hj : (⟨2 * t.val, by omega⟩ : Fin 32) = j 0 := Fin.ext h0.symm
        rw [if_pos h0, if_neg (by omega), if_pos (by omega), hj]
        rfl
      · rw [if_neg h0]
        by_cases h : (j 0).val < 2 * t.val
        · rw [if_pos h, if_pos (by omega)]
        · rw [if_neg h, if_neg (by omega)]

/-- Zeros scattered at every index of group `g`: the group's counts become zeros again. -/
theorem wp_clearRows {o₁ o₂ : Offs k0_t7_loop.trips} (g : Fin 4) (hX : ∀ j, (X j).toNat < 768)
    (e₁ : ∀ t, o₁.1 t = ![32 * g.val + t.val, 0]) (e₂ : ∀ t, o₂.1 t = ![32 * g.val + t.val, 16]) :
    iprop(own' (F := F) d a b idx X ∗ own' d a b arr (grpCount X g))
      ⊢ wpV d a b (clearRows idx arr o₁ o₂ (k0_pay2 (F := F))) fun _ => iprop(own' (F := F) d a b idx X ∗ own' d a b arr (fun _ => zeroF)) := by
  have hp : k0_pay2 (F := F) = broadcast S16 zeroF := rfl
  have loop := wp_loop (F := F) (d := d) (a := a) (b := b) k0_t7_loop k0_t7_ok
    (fun t _ => do
      rowStep idx arr (oneRow t) k0_pay2 false (o₁.1 t) (o₂.1 t) (o₁.2 t) (o₂.2 t)
      pure ⟨⟩)
    (fun t => iprop(own' (F := F) d a b idx X ∗ own' d a b arr (fun j => if (j 0).val < t then zeroF else grpCount X g j))) ?_
  · unfold clearRows
    refine BI.Entails.trans (ent_eq ?_) (loop.trans (wp_mono _ _ _ fun _ => ent_eq ?_))
    · congr 1
    · congr 2
      funext j
      exact if_pos (by have := (j 0).isLt; change _ < 32 at this; rw [trips7]; exact this)
  · intro t
    have ht : t.val < 32 := lt_of_lt_of_eq t.isLt trips7
    unfold wpV
    simp only [wp_bind, wp_pure]
    rw [hp]
    refine (wp_rowStep (grpRow g ⟨t.val, ht⟩) (by rw [oneRow0]; omega) (e₁ t) (e₂ t) hX).trans (wp_mono _ _ _ fun _ => ent_fupd ?_)
    congr 2
    funext j
    rw [oneRow0]
    by_cases h1 : (j 0).val = t.val
    · have hj : (⟨t.val, ht⟩ : Fin 32) = j 0 := Fin.ext h1.symm
      rw [if_pos h1, if_neg (by omega), if_pos (by omega), hj]
      exact rowFold_clear _ _ _
    · rw [if_neg h1]
      by_cases h : (j 0).val < t.val
      · rw [if_pos h, if_pos (by omega)]
      · rw [if_neg h, if_neg (by omega)]

end Cert.Proof
-- ==== Proof.Tile.lean ====
/-
  One vector subcore's program from end to end: its copies, and the run of its four groups of rows.
-/
module

public import proofs.«01_k».proof.Proof.Rows
public import Idealize.ShloMosaic.Lib.Transfers

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

section Copies

variable {d : Dev nD} {a : Fin τ.nSC} {b : Fin τ.nSub} {α : Type} {Q : α → sProp (MM F)}

/-- A copy under way on the cell `sm`, `N` units of credit: its wait yields `R`. -/
def InFlight (d : Dev nD) (a : Fin τ.nSC) (b : Fin τ.nSub) (sm : DmaSem sig) (N : ℕ) (R : sProp (MM F)) : sProp (MM F) :=
  iprop(∃ E : sProp (MM F), ⌜E ⊢ R⌝ ∗ Flight countersEmb (V d a b) (.dma sm) none N E)

/-- What the subcore owes, and the waits it has recorded: those of `W`, and waits of its own. -/
def Owing (d : Dev nD) (a : Fin τ.nSC) (b : Fin τ.nSub) (O : CellTallies nD τ sig (HIx 4)) (W : Waits sig (HIx 4)) : sProp (MM F) :=
  iprop(∃ W', ⌜∀ p ∈ W', p ∈ W ∨ p.2 = none⌝ ∗ owes (V d a b) O W')

theorem wp_copy_own {sp sp' : Space} {s : Shape} {e : EltTy} {src : Memref sig .scVector sp s e} {dst : Memref sig .scVector sp' s e} {sm : DmaSem sig}
    {hsrc : src.view.WordExact} {hdst : dst.view.WordExact} {hsem : DmaTarget.Typed (nD := nD) (τ := τ) (p := .scVector a b) sp (.dma sm) (.here dst)}
    {k : PUnit → TileProg F a b α} {q : PosShare TreeShare} {X Y : s.Idx → Elt F e} (hs : 0 < s.numel) :
    iprop(owns (V d a b) src q X ∗ own' d a b dst Y ∗ semVal (V d a b, .dma sm) 0)
      ⊢ iprop((InFlight d a b sm dst.view.dmaCredit iprop(owns (V d a b) src q X ∗ own' d a b dst X) -∗ wpV d a b (k ⟨⟩) Q)
        -∗ wpV d a b (.op (.enqueueDma src (.here dst) (.dma sm) hsrc hdst hsem) k) Q) := by
  unfold own' owns wpV
  iintro ⟨⟨%f, %hf, Hs⟩, ⟨%g, %hg, Hd⟩, Hv⟩ Hk
  iapply (wp_dmaLocal countersEmb 𝒱₀ (V d a b) none none dst.view.dmaCredit rfl (View.dmaCredit_pos _ hs) (Finset.Subset.refl _)) $$ [Hs Hd Hv]
  · isplitl [Hs]; · iexact Hs
    isplitl [Hd]; · iexact Hd
    iexact Hv
  iintro HF
  iapply Hk
  unfold InFlight
  iexists _
  isplitr
  rotate_left
  · iexact HF
  · ipureintro
    iintro ⟨Hd, Hs⟩
    isplitl [Hs]
    · iexists f
      isplitr; · ipureintro; exact hf
      iexact Hs
    · iexists (dst.view.write (Elt F) g (ReadAs.same.apply (src.view.read (Elt F) f)) Finset.univ)
      isplitr
      · ipureintro
        rw [View.read_write_univ]
        exact hf
      · iexact Hd

theorem wp_wait_own {sp sp' : Space} {s s' : Shape} {e e' : EltTy} {src : Memref sig .scVector sp s' e'} {dst : Memref sig .scVector sp' s e} {sm : DmaSem sig}
    {hsrc : src.view.WordExact} {hdst : dst.view.WordExact} {k : PUnit → TileProg F a b α} {R : sProp (MM F)} {O : CellTallies nD τ sig (HIx 4)} {W : Waits sig (HIx 4)} :
    iprop(MayWaits (V d a b) none O ∗ InFlight d a b sm dst.view.dmaCredit R ∗ Owing d a b O W)
      ⊢ iprop((iprop(R ∗ semVal (V d a b, .dma sm) 0 ∗ Owing d a b O W) -∗ wpV d a b (k ⟨⟩) Q)
        -∗ wpV d a b (.op (.waitDma2 sm src dst hsrc hdst) k) Q) := by
  unfold InFlight Owing wpV
  iintro ⟨#Hmw, ⟨%E, %hE, HF⟩, ⟨%W', %hW, HO⟩⟩ Hk
  iapply (wp_waitLocalO countersEmb 𝒱₀ (V d a b) none none (rfl : dst.view.dmaCredit = _)) $$ [HF HO]
  · isplitl [HF]; · iexact HF
    isplitl [HO]; · iexact HO
    iapply (MayWaits.elim (SemLoc.dma sm)) $$ Hmw
  iintro ⟨HD, Hv, HO⟩
  iapply Hk
  isplitl [HD]
  · iapply hE $$ HD
  isplitl [Hv]; · iexact Hv
  iexists (insert (SemLoc.dma sm, none) W')
  isplitr
  · ipureintro
    intro p hp
    rcases Finset.mem_insert.mp hp with rfl | hp
    · exact Or.inr rfl
    · exact hW p hp
  · iexact HO

/-- A program met by an entailment, at the head of another. -/
theorem wp_seq {P R : sProp (MM F)} {p : TileProg F a b PUnit} {k : PUnit → TileProg F a b α} (h : P ⊢ wpV d a b p fun _ => R) :
    P ⊢ iprop((R -∗ wpV d a b (k ⟨⟩) Q) -∗ wpV d a b (p >>= k) Q) := by
  unfold wpV
  rw [wp_bind]
  iintro HP Hk
  iapply (wp_wand frame (wpE (defs₀ (F := F)) 𝒱₀ (V d a b) none)) $$ [HP]
  · iapply h $$ HP
  · iintro %x H
    iapply Hk $$ H

end Copies

section Run

variable (d : Dev nD) (i : grid0.Coords) (arg2 : Memref sig .scVector .hbm S16384x32 .i32) (arg3 : Memref sig .scVector .hbm S4096x768 .f32)
  (arg4 : Memref sig .scVector .vmem S128x32 .i32) (arg5 arg6 : Memref sig .scVector .vmem S32x768 .f32) (arg7 arg8 v34_r0 : DmaSems sig S_)
  (o : Fin 2 → Nat) (ho : ∀ a, o a + S128x32.size a ≤ S16384x32.size a)

/-- The SparseCore and the subcore at the coordinates. -/
abbrev coreOf (i : grid0.Coords) : Fin τ.nSC := (i 0).castLE hcore0
abbrev subOf (i : grid0.Coords) : Fin τ.nSub := (i 1).castLE hsub0

/-- The subcore's group `r` of result rows. -/
abbrev outGrp (r : Fin 4) : Memref sig .scVector .hbm S32x768 .f32 := outRows arg3 (k0_off7 i (BitVec.ofNat 32 (32 * r.val))) (k0_off7_inb i r)

/-- A subcore's share of a memref's elements, at what it reads through the memref. -/
abbrev ownAt (d : Dev nD) (a : Fin τ.nSC) (b : Fin τ.nSub) {sp : Space} {s : Shape} {e : EltTy} (m : Memref sig .scVector sp s e) (q : PosShare TreeShare)
    (X : s.Idx → Elt F e) : sProp (MM F) :=
  owns (V d a b) m q X

/-- The subcore's own buffers and semaphores, at whatever the buffers hold. -/
def tileOwn : sProp (MM F) :=
  iprop((∃ Y, own' (F := F) d (coreOf i) (subOf i) arg4 Y) ∗ (∃ Y, own' (F := F) d (coreOf i) (subOf i) arg5 Y) ∗ (∃ Y, own' (F := F) d (coreOf i) (subOf i) arg6 Y)
    ∗ semVal (V d (coreOf i) (subOf i), .dma arg7.sem) 0 ∗ semVal (V d (coreOf i) (subOf i), .dma arg8.sem) 0 ∗ semVal (V d (coreOf i) (subOf i), .dma v34_r0.sem) 0)

variable {d i arg2 arg3 arg4 arg5 arg6 arg7 arg8 v34_r0 o ho}

/-- The subcore's run: its rows of the index argument read, and their counts left in its rows of the result. -/
theorem histProg_run {harg4 : arg4.IsWhole} {harg5 : arg5.IsWhole} {harg6 : arg6.IsWhole} {q : PosShare TreeShare} {X : S128x32.Idx → BitVec 32} (hX : ∀ j, (X j).toNat < 768)
    {O : CellTallies nD τ sig (HIx 4)} {W : Waits sig (HIx 4)} :
    iprop(MayWaits (V d (coreOf i) (subOf i)) none O ∗ ownAt (F := F) d (coreOf i) (subOf i) (inRows arg2 o ho) q X
        ∗ (∃ Y, own' (F := F) d (coreOf i) (subOf i) (outGrp i arg3 0) Y) ∗ (∃ Y, own' (F := F) d (coreOf i) (subOf i) (outGrp i arg3 1) Y)
        ∗ (∃ Y, own' (F := F) d (coreOf i) (subOf i) (outGrp i arg3 2) Y) ∗ (∃ Y, own' (F := F) d (coreOf i) (subOf i) (outGrp i arg3 3) Y)
        ∗ tileOwn (F := F) d i arg4 arg5 arg6 arg7 arg8 v34_r0 ∗ Owing d (coreOf i) (subOf i) O W)
      ⊢ wpV d (coreOf i) (subOf i) (histProg (F := F) i arg2 arg3 arg4 harg4 arg5 harg5 arg6 harg6 arg7 arg8 v34_r0 o ho) fun _ =>
        iprop(ownAt (F := F) d (coreOf i) (subOf i) (inRows arg2 o ho) q X
          ∗ own' (F := F) d (coreOf i) (subOf i) (outGrp i arg3 0) (grpCount X 0) ∗ own' (F := F) d (coreOf i) (subOf i) (outGrp i arg3 1) (grpCount X 1)
          ∗ own' (F := F) d (coreOf i) (subOf i) (outGrp i arg3 2) (grpCount X 2) ∗ own' (F := F) d (coreOf i) (subOf i) (outGrp i arg3 3) (grpCount X 3)
          ∗ tileOwn (F := F) d i arg4 arg5 arg6 arg7 arg8 v34_r0 ∗ Owing d (coreOf i) (subOf i) O W) := by
  have n0 : ∀ n : ℕ, (![n, 0] : Fin 2 → ℕ) = ![32 * (0 : Fin 4).val + n, 0] := fun n => by rw [show 32 * (0 : Fin 4).val + n = n from Nat.zero_add n]
  have n16 : ∀ n : ℕ, (![n, 16] : Fin 2 → ℕ) = ![32 * (0 : Fin 4).val + n, 16] := fun n => by rw [show 32 * (0 : Fin 4).val + n = n from Nat.zero_add n]
  have sw : ∀ (g : Fin 4) (n c : ℕ), (![n + 32 * g.val, c] : Fin 2 → ℕ) = ![32 * g.val + n, c] := fun g n c => by rw [Nat.add_comm]
  have sw1 : ∀ (g : Fin 4) (n c : ℕ), (![n + (32 * g.val + 1), c] : Fin 2 → ℕ) = ![32 * g.val + (n + 1), c] := fun g n c => by
    rw [show n + (32 * g.val + 1) = 32 * g.val + (n + 1) by omega]
  unfold tileOwn
  iintro ⟨#Hmw, Hin, ⟨%Y0, Ho0⟩, ⟨%Y1, Ho1⟩, ⟨%Y2, Ho2⟩, ⟨%Y3, Ho3⟩, ⟨⟨%Z4, H4⟩, ⟨%Z5, H5⟩, ⟨%Z6, H6⟩, Hs7, Hs8, Hs0⟩, HO⟩
  unfold histProg histPart1
  simp only [Prog.lift, Prog.bind_op, Prog.bind_ret, Prog.bind_assoc]
  -- the index rows come in
  iapply (wp_copy_own (by decide)) $$ [Hin H4 Hs0]
  · isplitl [Hin]; · iexact Hin
    isplitl [H4] <;> iassumption
  iintro HF
  iapply wp_wait_own $$ [HF HO]
  · isplitr; · iexact Hmw
    isplitl [HF] <;> iassumption
  iintro ⟨⟨Hin, H4⟩, Hs0, HO⟩
  -- group 0
  iapply (wp_seq wp_zeroFill) $$ H5
  iintro H5
  iapply (wp_seq (wp_histRows 0 hX (fun t => (k0_off3_eq t).trans (n0 _)) (fun t => (k0_off4_eq t).trans (n16 _)) (fun t => (k0_off5_eq t).trans (n0 _))
    (fun t => (k0_off6_eq t).trans (n16 _)))) $$ [H4 H5]
  · isplitl [H4] <;> iassumption
  iintro ⟨H4, H5⟩
  iapply (wp_copy_own (by decide)) $$ [H5 Ho0 Hs7]
  · isplitl [H5]; · iexact H5
    isplitl [Ho0] <;> iassumption
  iintro HF7
  -- group 1
  iapply (wp_seq wp_zeroFill) $$ H6
  iintro H6
  iapply (wp_seq (wp_histRows 1 hX (fun t => (k0_off9_eq t).trans (sw 1 _ _)) (fun t => (k0_off10_eq t).trans (sw 1 _ _)) (fun t => (k0_off11_eq t).trans (sw1 1 _ _))
    (fun t => (k0_off12_eq t).trans (sw1 1 _ _)))) $$ [H4 H6]
  · isplitl [H4] <;> iassumption
  iintro ⟨H4, H6⟩
  iapply (wp_copy_own (by decide)) $$ [H6 Ho1 Hs8]
  · isplitl [H6]; · iexact H6
    isplitl [Ho1] <;> iassumption
  iintro HF8
  -- group 2
  iapply wp_wait_own $$ [HF7 HO]
  · isplitr; · iexact Hmw
    isplitl [HF7] <;> iassumption
  iintro ⟨⟨H5, Ho0⟩, Hs7, HO⟩
  iapply (wp_seq (wp_clearRows 0 hX (fun t => (k0_off13_eq t).trans (n0 _)) (fun t => (k0_off14_eq t).trans (n16 _)))) $$ [H4 H5]
  · isplitl [H4] <;> iassumption
  iintro ⟨H4, H5⟩
  iapply (wp_seq (wp_histRows 2 hX (fun t => (k0_off15_eq t).trans (sw 2 _ _)) (fun t => (k0_off16_eq t).trans (sw 2 _ _)) (fun t => (k0_off17_eq t).trans (sw1 2 _ _))
    (fun t => (k0_off18_eq t).trans (sw1 2 _ _)))) $$ [H4 H5]
  · isplitl [H4] <;> iassumption
  iintro ⟨H4, H5⟩
  iapply (wp_copy_own (by decide)) $$ [H5 Ho2 Hs7]
  · isplitl [H5]; · iexact H5
    isplitl [Ho2] <;> iassumption
  iintro HF7
  -- group 3
  iapply wp_wait_own $$ [HF8 HO]
  · isplitr; · iexact Hmw
    isplitl [HF8] <;> iassumption
  iintro ⟨⟨H6, Ho1⟩, Hs8, HO⟩
  iapply (wp_seq (wp_clearRows 1 hX (fun t => (k0_off19_eq t).trans (sw 1 _ _)) (fun t => (k0_off20_eq t).trans (sw 1 _ _)))) $$ [H4 H6]
  · isplitl [H4] <;> iassumption
  iintro ⟨H4, H6⟩
  iapply (wp_seq (wp_histRows 3 hX (fun t => (k0_off21_eq t).trans (sw 3 _ _)) (fun t => (k0_off22_eq t).trans (sw 3 _ _)) (fun t => (k0_off23_eq t).trans (sw1 3 _ _))
    (fun t => (k0_off24_eq t).trans (sw1 3 _ _)))) $$ [H4 H6]
  · isplitl [H4] <;> iassumption
  iintro ⟨H4, H6⟩
  iapply (wp_copy_own (by decide)) $$ [H6 Ho3 Hs8]
  · isplitl [H6]; · iexact H6
    isplitl [Ho3] <;> iassumption
  iintro HF8
  -- the last two copies
  iapply wp_wait_own $$ [HF7 HO]
  · isplitr; · iexact Hmw
    isplitl [HF7] <;> iassumption
  iintro ⟨⟨H5, Ho2⟩, Hs7, HO⟩
  iapply wp_wait_own $$ [HF8 HO]
  · isplitr; · iexact Hmw
    isplitl [HF8] <;> iassumption
  iintro ⟨⟨H6, Ho3⟩, Hs8, HO⟩
  unfold wpV
  simp only [Prog.pure_eq_ret, Prog.bind_ret]
  rw [wp_ret]
  imodintro
  isplitl [Hin]; · iexact Hin
  isplitl [Ho0]; · iexact Ho0
  isplitl [Ho1]; · iexact Ho1
  isplitl [Ho2]; · iexact Ho2
  isplitl [Ho3]; · iexact Ho3
  isplitr [HO]
  · isplitl [H4]; · iexists _; iexact H4
    isplitl [H5]; · iexists _; iexact H5
    isplitl [H6]; · iexists _; iexact H6
    isplitl [Hs7]; · iexact Hs7
    isplitl [Hs8] <;> iassumption
  · iexact HO

end Run

end Cert.Proof
-- ==== Proof.Calls.lean ====
/-
  The four SparseCore calls: what each hands its vector subcores, and their bodies met.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-- The operands of one SparseCore call: the result array, a subcore's scratch, and where its index rows begin. -/
structure Call where
  out : Memref sig .scVector .hbm S4096x768 .f32
  a4 : Memref sig .scVector .vmem S128x32 .i32
  h4 : a4.IsWhole
  a5 : Memref sig .scVector .vmem S32x768 .f32
  h5 : a5.IsWhole
  a6 : Memref sig .scVector .vmem S32x768 .f32
  h6 : a6.IsWhole
  a7 : DmaSems sig S_
  a8 : DmaSems sig S_
  a0 : DmaSems sig S_
  off : grid0.Coords → Fin 2 → Nat
  inb : ∀ i a, off i a + S128x32.size a ≤ S16384x32.size a

/-- The index argument, as a subcore names it. -/
abbrev xW : Memref sig .scVector .hbm S16384x32 .i32 := Memref.whole main_arg0_scv

/-- The calls' operands. -/
def call : Fin 4 → Call
  | 0 => ⟨Memref.whole main_v7_scv, Memref.whole cc0_scratch0, Memref.isWhole_whole _, Memref.whole cc0_scratch1, Memref.isWhole_whole _, Memref.whole cc0_scratch2,
      Memref.isWhole_whole _, cc0_scratch3, cc0_scratch4, cc0_scoped0, k0_off1, k0_off1_inb⟩
  | 1 => ⟨Memref.whole main_v9_scv, Memref.whole cc2_scratch0, Memref.isWhole_whole _, Memref.whole cc2_scratch1, Memref.isWhole_whole _, Memref.whole cc2_scratch2,
      Memref.isWhole_whole _, cc2_scratch3, cc2_scratch4, cc2_scoped0, k2_off1, k2_off1_inb⟩
  | 2 => ⟨Memref.whole main_v11_scv, Memref.whole cc4_scratch0, Memref.isWhole_whole _, Memref.whole cc4_scratch1, Memref.isWhole_whole _, Memref.whole cc4_scratch2,
      Memref.isWhole_whole _, cc4_scratch3, cc4_scratch4, cc4_scoped0, k4_off1, k4_off1_inb⟩
  | 3 => ⟨Memref.whole main_v13_scv, Memref.whole cc6_scratch0, Memref.isWhole_whole _, Memref.whole cc6_scratch1, Memref.isWhole_whole _, Memref.whole cc6_scratch2,
      Memref.isWhole_whole _, cc6_scratch3, cc6_scratch4, cc6_scoped0, k6_off1, k6_off1_inb⟩

/-- The subcore's first index row: the call's 4096 rows, cut by worker `2 * s + c`. -/
def firstRow (q : Fin 4) (i : grid0.Coords) : ℕ := 4096 * q.val + (256 * (i 1).val + 128 * (i 0).val)

theorem firstRow_le (q : Fin 4) (i : grid0.Coords) : firstRow q i + 128 ≤ 16384 := by
  have h0 : (i 0).val < 2 := (i 0).isLt
  have h1 : (i 1).val < 16 := (i 1).isLt
  have := q.isLt
  unfold firstRow; omega

theorem call_off (q : Fin 4) (i : grid0.Coords) : (call q).off i = ![firstRow q i, 0] := by
  fin_cases q
  · refine (k0_off1_eq i).trans ?_; unfold firstRow; congr 1; simp
  · refine (k2_off1_eq i).trans ?_; unfold firstRow; congr 1; simp; omega
  · refine (k4_off1_eq i).trans ?_; unfold firstRow; congr 1; simp; omega
  · refine (k6_off1_eq i).trans ?_; unfold firstRow; congr 1; simp; omega

/-- The subcore's index rows, out of the whole table. -/
def rowsOf (x : S16384x32.Idx → BitVec 32) (q : Fin 4) (i : grid0.Coords) : S128x32.Idx → BitVec 32 := fun p =>
  x fun a => match a with
    | 0 => (⟨firstRow q i + (p 0).val, by have := firstRow_le q i; have : (p 0).val < 128 := (p 0).isLt; show _ < 16384; omega⟩ : Fin 16384)
    | 1 => (p 1 : Fin 32)

section Payload

variable (x : S16384x32.Idx → BitVec 32) (d : Dev nD)

/-- What a subcore is handed: its index rows, and its result rows at whatever they hold. -/
def goOf (q : Fin 4) (i : grid0.Coords) : sProp (MM F) :=
  iprop(ownAt (F := F) d (coreOf i) (subOf i) (inRows xW ((call q).off i) ((call q).inb i)) fullShare (rowsOf x q i)
    ∗ bigSep Finset.univ fun r : Fin 4 => iprop(∃ Y, own' (F := F) d (coreOf i) (subOf i) (outGrp i (call q).out r) Y))

variable [FloatOps F]

/-- What it hands back: the index rows, and its result rows at their counts. -/
def tdOf (q : Fin 4) (i : grid0.Coords) : sProp (MM F) :=
  iprop(ownAt (F := F) d (coreOf i) (subOf i) (inRows xW ((call q).off i) ((call q).inb i)) fullShare (rowsOf x q i)
    ∗ bigSep Finset.univ fun r : Fin 4 => own' (F := F) d (coreOf i) (subOf i) (outGrp i (call q).out r) (grpCount (rowsOf x q i) r))

end Payload

theorem nCore_eq (q : Fin 4) : (K (F := F)).nCore q = 2 := by fin_cases q <;> rfl
theorem nSub_eq (q : Fin 4) : (K (F := F)).nSub q = 16 := by fin_cases q <;> rfl

/-- The grid coordinates of subcore `s` of SparseCore `c`. -/
def mkCo (c : Fin 2) (s : Fin 16) : grid0.Coords
  | 0 => c
  | 1 => s
  | ⟨_ + 2, h⟩ => absurd h (Nat.not_lt.2 (Nat.le_add_left _ _))

/-- The grid coordinates of a call's subcore. -/
def coordsOf (q : Fin 4) (c : Fin ((K (F := F)).nCore q)) (s : Fin ((K (F := F)).nSub q)) : grid0.Coords :=
  mkCo ⟨c.val, lt_of_lt_of_eq c.isLt (nCore_eq q)⟩ ⟨s.val, lt_of_lt_of_eq s.isLt (nSub_eq q)⟩

/-! ## A subcore's own buffers and semaphores -/

section Scoped

variable (d : Dev nD) (a : Fin τ.nSC) (b : Fin τ.nSub)

abbrev anyBuf (r : Ref sig .scVector) : sProp (MM F) := iprop(∃ f, (V d a b).loc r ↦{fullShare} f)

/-- Three of a subcore's own buffers, and the rest of them. -/
theorem ownBufs_three (x y z : Ref sig .scVector) (ox : ((Proc.scVector a b).devRef x : DevRef τ sig).owner = .proc (.scVector a b))
    (oy : ((Proc.scVector a b).devRef y : DevRef τ sig).owner = .proc (.scVector a b)) (oz : ((Proc.scVector a b).devRef z : DevRef τ sig).owner = .proc (.scVector a b))
    (hxy : y ≠ x) (hxz : z ≠ x) (hyz : z ≠ y) :
    ∃ R : sProp (MM F), (ownBufs (V d a b) : sProp (MM F)) = iprop(anyBuf d a b x ∗ anyBuf d a b y ∗ anyBuf d a b z ∗ R) := by
  refine ⟨bigSep ((((ownRefs (τ := τ) (.scVector a b)).erase ((Proc.scVector a b).devRef x)).erase ((Proc.scVector a b).devRef y)).erase ((Proc.scVector a b).devRef z))
    fun b => iprop(∃ f, ((d, b) : Loc nD τ sig) ↦{fullShare} f), ?_⟩
  unfold SparseCore.Cfg.ownBufs
  refine (SparseCore.bigSep_erase' (SparseCore.Cfg.mem_ownRefs_of_owner ox)).trans ?_
  rw [SparseCore.bigSep_erase' (Finset.mem_erase.mpr ⟨fun e => hxy (Proc.devRef_injective _ e), SparseCore.Cfg.mem_ownRefs_of_owner oy⟩),
    SparseCore.bigSep_erase' (Finset.mem_erase.mpr ⟨fun e => hyz (Proc.devRef_injective _ e),
      Finset.mem_erase.mpr ⟨fun e => hxz (Proc.devRef_injective _ e), SparseCore.Cfg.mem_ownRefs_of_owner oz⟩⟩)]

/-- Three of a subcore's own semaphores, and the rest of them. -/
theorem ownSems_three (x y z : DmaSem sig) (sx : (SemLoc.dma x : SemLoc sig).isScoped .scVector = true) (sy : (SemLoc.dma y : SemLoc sig).isScoped .scVector = true)
    (sz : (SemLoc.dma z : SemLoc sig).isScoped .scVector = true) (hxy : y ≠ x) (hxz : z ≠ x) (hyz : z ≠ y) :
    ∃ R : sProp (MM F), (ownSems0 (V d a b) : sProp (MM F))
      = iprop(semVal (V d a b, .dma x) 0 ∗ semVal (V d a b, .dma y) 0 ∗ semVal (V d a b, .dma z) 0 ∗ R) := by
  have ne : ∀ {u v : DmaSem sig}, u ≠ v → ((V d a b, SemLoc.dma u) : GSem nD τ sig) ≠ (V d a b, SemLoc.dma v) := fun h e =>
    h (SemLoc.dma.inj (Prod.mk.inj e).2)
  refine ⟨bigSep ((((ownCells (V d a b)).erase (V d a b, .dma x)).erase (V d a b, .dma y)).erase (V d a b, .dma z)) fun g => semVal g 0, ?_⟩
  unfold SparseCore.Cfg.ownSems0
  rw [SparseCore.bigSep_erase' ((mem_ownCells (g := (V d a b, SemLoc.dma x))).mpr ⟨rfl, sx⟩),
    SparseCore.bigSep_erase' (Finset.mem_erase.mpr ⟨ne hxy, (mem_ownCells (g := (V d a b, SemLoc.dma y))).mpr ⟨rfl, sy⟩⟩),
    SparseCore.bigSep_erase' (Finset.mem_erase.mpr ⟨ne hyz, Finset.mem_erase.mpr ⟨ne hxz, (mem_ownCells (g := (V d a b, SemLoc.dma z))).mpr ⟨rfl, sz⟩⟩⟩)]

end Scoped

/-- A call's scratch is the subcore's own, beside the rest of what it owns. -/
theorem tile_scoped (d : Dev nD) (q : Fin 4) (i : grid0.Coords) :
    ∃ R R' : sProp (MM F), (ownBufs (V d (coreOf i) (subOf i)) : sProp (MM F))
        = iprop((∃ Y, own' (F := F) d (coreOf i) (subOf i) (call q).a4 Y) ∗ (∃ Y, own' (F := F) d (coreOf i) (subOf i) (call q).a5 Y) ∗ (∃ Y, own' (F := F) d (coreOf i) (subOf i) (call q).a6 Y) ∗ R)
      ∧ (ownSems0 (V d (coreOf i) (subOf i)) : sProp (MM F))
        = iprop(semVal (V d (coreOf i) (subOf i), .dma (call q).a7.sem) 0 ∗ semVal (V d (coreOf i) (subOf i), .dma (call q).a8.sem) 0
            ∗ semVal (V d (coreOf i) (subOf i), .dma (call q).a0.sem) 0 ∗ R') := by
  have hw : ∀ r : Ref sig .scVector, (iprop(∃ Y, owns (V d (coreOf i) (subOf i)) (Memref.whole r) fullShare Y) : sProp (MM F)) = anyBuf d (coreOf i) (subOf i) r := fun r => by
    simp only [owns_whole]
  match q with
  | 0 =>
    obtain ⟨R, hR⟩ := ownBufs_three (F := F) d (coreOf i) (subOf i) cc0_scratch0 cc0_scratch1 cc0_scratch2 rfl rfl rfl (by decide) (by decide) (by decide)
    obtain ⟨R', hR'⟩ := ownSems_three (F := F) d (coreOf i) (subOf i) cc0_scratch3.sem cc0_scratch4.sem cc0_scoped0.sem (by decide) (by decide) (by decide) (by decide) (by decide) (by decide)
    exact ⟨R, R', hR.trans (by rw [← hw, ← hw, ← hw]; rfl), hR'⟩
  | 1 =>
    obtain ⟨R, hR⟩ := ownBufs_three (F := F) d (coreOf i) (subOf i) cc2_scratch0 cc2_scratch1 cc2_scratch2 rfl rfl rfl (by decide) (by decide) (by decide)
    obtain ⟨R', hR'⟩ := ownSems_three (F := F) d (coreOf i) (subOf i) cc2_scratch3.sem cc2_scratch4.sem cc2_scoped0.sem (by decide) (by decide) (by decide) (by decide) (by decide) (by decide)
    exact ⟨R, R', hR.trans (by rw [← hw, ← hw, ← hw]; rfl), hR'⟩
  | 2 =>
    obtain ⟨R, hR⟩ := ownBufs_three (F := F) d (coreOf i) (subOf i) cc4_scratch0 cc4_scratch1 cc4_scratch2 rfl rfl rfl (by decide) (by decide) (by decide)
    obtain ⟨R', hR'⟩ := ownSems_three (F := F) d (coreOf i) (subOf i) cc4_scratch3.sem cc4_scratch4.sem cc4_scoped0.sem (by decide) (by decide) (by decide) (by decide) (by decide) (by decide)
    exact ⟨R, R', hR.trans (by rw [← hw, ← hw, ← hw]; rfl), hR'⟩
  | 3 =>
    obtain ⟨R, hR⟩ := ownBufs_three (F := F) d (coreOf i) (subOf i) cc6_scratch0 cc6_scratch1 cc6_scratch2 rfl rfl rfl (by decide) (by decide) (by decide)
    obtain ⟨R', hR'⟩ := ownSems_three (F := F) d (coreOf i) (subOf i) cc6_scratch3.sem cc6_scratch4.sem cc6_scoped0.sem (by decide) (by decide) (by decide) (by decide) (by decide) (by decide)
    exact ⟨R, R', hR.trans (by rw [← hw, ← hw, ← hw]; rfl), hR'⟩

theorem bigSep_fin4 (A : Fin 4 → sProp (MM F)) : bigSep Finset.univ A = iprop(A 0 ∗ A 1 ∗ A 2 ∗ A 3) := by
  rw [show (Finset.univ : Finset (Fin 4)) = insert 0 (insert 1 (insert 2 {3})) by decide, SparseCore.bigSep_insert' (by decide), SparseCore.bigSep_insert' (by decide),
    SparseCore.bigSep_insert' (by decide), bigSep_singleton]

/-! ## A call's body at a subcore -/

section Body

variable [FloatOps F] {x : S16384x32.Idx → BitVec 32} {d : Dev nD}

/-- The body a call runs at a subcore. -/
def bodyOf (q : Fin 4) (i : grid0.Coords) : AtProg F i PUnit :=
  histProg i xW (call q).out (call q).a4 (call q).h4 (call q).a5 (call q).h5 (call q).a6 (call q).h6 (call q).a7 (call q).a8 (call q).a0 ((call q).off i) ((call q).inb i)

/-- From its operands and its own storage, a subcore's body leaves the counts and its storage. -/
theorem body_run (q : Fin 4) (i : grid0.Coords) (hx : ∀ j, (x j).toNat < 768) {O : CellTallies nD τ sig (HIx 4)} {W : Waits sig (HIx 4)} (hO : ∀ g, O g none = 0) :
    iprop(levAts (K (F := F)).L (K (F := F)).lev ∗ goOf (F := F) x d q i ∗ scopedBufs (V d (coreOf i) (subOf i)) ∗ scopedSems0 (V d (coreOf i) (subOf i)) ∗ owes (V d (coreOf i) (subOf i)) O W)
      ⊢ wpV d (coreOf i) (subOf i) (bodyOf (F := F) q i) fun _ =>
        iprop(tdOf (F := F) x d q i ∗ scopedBufs (V d (coreOf i) (subOf i)) ∗ scopedSems0 (V d (coreOf i) (subOf i)) ∗ Owing d (coreOf i) (subOf i) O W) := by
  obtain ⟨R, R', hR, hR'⟩ := tile_scoped (F := F) d q i
  rw [(K (F := F)).scopedBufs_V facts d (coreOf i) (subOf i), SparseCore.Cfg.scopedSems0_V (Val := Elt F) d (coreOf i) (subOf i), hR, hR']
  unfold goOf tdOf
  simp only [bigSep_fin4]
  iintro ⟨#Hlev, ⟨Hin, Ho0, Ho1, Ho2, Ho3⟩, ⟨H4, H5, H6, HR⟩, ⟨Hs7, Hs8, Hs0, HR'⟩, HO⟩
  ihave #Hmw := ((K (F := F)).mayWaits_none (thr := V d (coreOf i) (subOf i)) hO) $$ Hlev
  iapply wp_wand $$ [Hin Ho0 Ho1 Ho2 Ho3 H4 H5 H6 Hs7 Hs8 Hs0 HO]
  · iapply (histProg_run (F := F) (d := d) (i := i) (O := O) (W := W) (q := fullShare) (X := rowsOf x q i) (fun j => hx _))
    isplitr; · iexact Hmw
    isplitl [Hin]; · iexact Hin
    isplitl [Ho0]; · iexact Ho0
    isplitl [Ho1]; · iexact Ho1
    isplitl [Ho2]; · iexact Ho2
    isplitl [Ho3]; · iexact Ho3
    isplitr [HO]
    · unfold tileOwn
      isplitl [H4]; · iexact H4
      isplitl [H5]; · iexact H5
      isplitl [H6]; · iexact H6
      isplitl [Hs7]; · iexact Hs7
      isplitl [Hs8] <;> iassumption
    · unfold Owing
      iexists W
      isplitr; · ipureintro; exact fun p hp => Or.inl hp
      iexact HO
  iintro %_ ⟨Hin, Ho0, Ho1, Ho2, Ho3, Hown, HO⟩
  unfold tileOwn
  icases Hown with ⟨H4, H5, H6, Hs7, Hs8, Hs0⟩
  isplitl [Hin Ho0 Ho1 Ho2 Ho3]
  · isplitl [Hin]; · iexact Hin
    isplitl [Ho0]; · iexact Ho0
    isplitl [Ho1]; · iexact Ho1
    isplitl [Ho2] <;> iassumption
  isplitl [H4 H5 H6 HR]
  · isplitl [H4]; · iexact H4
    isplitl [H5]; · iexact H5
    isplitl [H6] <;> iassumption
  isplitl [Hs7 Hs8 Hs0 HR']
  · isplitl [Hs7]; · iexact Hs7
    isplitl [Hs8]; · iexact Hs8
    isplitl [Hs0] <;> iassumption
  iexact HO

end Body

/-! ## The certificate of the four calls -/

section Cert

variable [FloatOps F] (m : (ℓ : Loc nD τ sig) → Buf (Elt F) ℓ)

/-- The index table the run starts from. -/
abbrev idsOf (d : Dev nD) : S16384x32.Idx → BitVec 32 := m ((SparseCore.T d).loc main_arg0)

/-- What each call carries: its subcores' operands in, their results out. -/
def P : (K (F := F)).Pay (nD := nD) (Val := Elt F) (Name := ℕ) (U := UU) where
  st q d c := bigSep Finset.univ fun s : Fin ((K (F := F)).nSub q) => goOf (F := F) (idsOf m d) d q (coordsOf (F := F) q c s)
  dn q d c := bigSep Finset.univ fun s : Fin ((K (F := F)).nSub q) => tdOf (F := F) (idsOf m d) d q (coordsOf (F := F) q c s)
  go q d c s := goOf (F := F) (idsOf m d) d q (coordsOf (F := F) q c s)
  td q d c s := tdOf (F := F) (idsOf m d) d q (coordsOf (F := F) q c s)
  x _ _ := iprop(emp)

instance P_storable : (P (F := F) m).IsStorable where
  st _ _ _ := by unfold P goOf; infer_instance
  dn _ _ _ := by unfold P tdOf; infer_instance
  go _ _ _ _ := by unfold P goOf; infer_instance
  td _ _ _ _ := by unfold P tdOf; infer_instance

theorem vec_split (q : Fin 4) : (K (F := F)).VecSplit (P m) q :=
  SparseCore.Cfg.VecSplit.of_plain fun d c => by
    show (bigSep Finset.univ fun s => goOf (F := F) (idsOf m d) d q (coordsOf (F := F) q c s) : sProp (MM F))
      ⊢ |={Set.univ}=> iprop((bigSep Finset.univ fun s => goOf (F := F) (idsOf m d) d q (coordsOf (F := F) q c s))
        ∗ ((bigSep Finset.univ fun s => tdOf (F := F) (idsOf m d) d q (coordsOf (F := F) q c s)) -∗ bigSep Finset.univ fun s => tdOf (F := F) (idsOf m d) d q (coordsOf (F := F) q c s)))
    iintro H
    imodintro
    isplitl [H]; · iexact H
    iintro H; iexact H

theorem drop_emp (A B : sProp (MM F)) : iprop(A ∗ emp ∗ B) ⊢ iprop(A ∗ B) := by
  iintro ⟨HA, -, HB⟩
  isplitl [HA] <;> iassumption

/-- A body's post gives the launch's: its waits were all at the index every wait may take. -/
theorem post_of {q : Fin 4} {A B C : sProp (MM F)} {thr : Thread nD τ} {W : Waits sig (HIx 4)} {O : CellTallies nD τ sig (HIx 4)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HS, ⟨%W', %hW', HO⟩⟩
  isplitl [HA]; · iexact HA
  isplitl [HB]; · iexact HB
  isplitl [HS]; · iexact HS
  iexists W'
  isplitr; · ipureintro; exact fun p hp => (hW' p hp).imp_right Or.inl
  iexact HO

/-- What a subcore of call 0 runs is the call's body at its coordinates. -/
theorem body_at0 (c : Fin ((K (F := F)).nCore 0)) (s : Fin ((K (F := F)).nSub 0)) :
    defs₀ (F := F) (.scVector ((K (F := F)).core 0 c) ((K (F := F)).sub 0 s)) 0 () = bodyOf (F := F) 0 (coordsOf (F := F) 0 c s) := by
  have hc : ((K (F := F)).core 0 c).val < grid0.bound 0 ∧ ((K (F := F)).sub 0 s).val < grid0.bound 1 := ⟨c.isLt, s.isLt⟩
  refine (dif_pos (α := TileProg F ((K (F := F)).core 0 c) ((K (F := F)).sub 0 s) PUnit) hc).trans ?_
  exact body0_eq (F := F) (coordsOf (F := F) 0 c s) ..

/-- What a subcore of call 1 runs is the call's body at its coordinates. -/
theorem body_at1 (c : Fin ((K (F := F)).nCore 1)) (s : Fin ((K (F := F)).nSub 1)) :
    defs₀ (F := F) (.scVector ((K (F := F)).core 1 c) ((K (F := F)).sub 1 s)) 2 () = bodyOf (F := F) 1 (coordsOf (F := F) 1 c s) := by
  have hc : ((K (F := F)).core 1 c).val < grid0.bound 0 ∧ ((K (F := F)).sub 1 s).val < grid0.bound 1 := ⟨c.isLt, s.isLt⟩
  refine (dif_pos (α := TileProg F ((K (F := F)).core 1 c) ((K (F := F)).sub 1 s) PUnit) hc).trans ?_
  exact body2_eq (F := F) (coordsOf (F := F) 1 c s) ..

/-- What a subcore of call 2 runs is the call's body at its coordinates. -/
theorem body_at2 (c : Fin ((K (F := F)).nCore 2)) (s : Fin ((K (F := F)).nSub 2)) :
    defs₀ (F := F) (.scVector ((K (F := F)).core 2 c) ((K (F := F)).sub 2 s)) 4 () = bodyOf (F := F) 2 (coordsOf (F := F) 2 c s) := by
  have hc : ((K (F := F)).core 2 c).val < grid0.bound 0 ∧ ((K (F := F)).sub 2 s).val < grid0.bound 1 := ⟨c.isLt, s.isLt⟩
  refine (dif_pos (α := TileProg F ((K (F := F)).core 2 c) ((K (F := F)).sub 2 s) PUnit) hc).trans ?_
  exact body4_eq (F := F) (coordsOf (F := F) 2 c s) ..

/-- What a subcore of call 3 runs is the call's body at its coordinates. -/
theorem body_at3 (c : Fin ((K (F := F)).nCore 3)) (s : Fin ((K (F := F)).nSub 3)) :
    defs₀ (F := F) (.scVector ((K (F := F)).core 3 c) ((K (F := F)).sub 3 s)) 6 () = bodyOf (F := F) 3 (coordsOf (F := F) 3 c s) := by
  have hc : ((K (F := F)).core 3 c).val < grid0.bound 0 ∧ ((K (F := F)).sub 3 s).val < grid0.bound 1 := ⟨c.isLt, s.isLt⟩
  refine (dif_pos (α := TileProg F ((K (F := F)).core 3 c) ((K (F := F)).sub 3 s) PUnit) hc).trans ?_
  exact body6_eq (F := F) (coordsOf (F := F) 3 c s) ..

/-- A call's body at a subcore, as the launch runs it. -/
theorem lifted_run (q : Fin 4) (d : Dev nD) (i : grid0.Coords) (hx : ∀ j, (idsOf m d j).toNat < 768) {O : CellTallies nD τ sig (HIx 4)} {W : Waits sig (HIx 4)} (hO : ∀ g, O g none = 0) :
    iprop(levAts (K (F := F)).L (K (F := F)).lev ∗ (emp : sProp (MM F)) ∗ goOf (F := F) (idsOf m d) d q i ∗ scopedBufs (V d (coreOf i) (subOf i)) ∗ scopedSems0 (V d (coreOf i) (subOf i))
        ∗ owes (V d (coreOf i) (subOf i)) O W)
      ⊢ wp frame (wpE (D (F := F)) 𝒱 (V d (coreOf i) (subOf i)) (some v₀)) Set.univ (Pipeline.liftProg (bodyOf (F := F) q i)) fun _ =>
        iprop(tdOf (F := F) (idsOf m d) d q i ∗ scopedBufs (V d (coreOf i) (subOf i)) ∗ scopedSems0 (V d (coreOf i) (subOf i))
          ∗ ∃ W', ⌜∀ p ∈ W', p ∈ W ∨ p.2 = none ∨ p.2 = some q⌝ ∗ owes (V d (coreOf i) (subOf i)) O W') := by
  refine BI.Entails.trans ?_ (Pipeline.wp_liftProg (D (F := F)) (Pipeline.defs_kernel pcfgs defs₀) 𝒱₀ _ Set.univ none _ _)
  exact (drop_emp _ _).trans <| (body_run (F := F) q i hx hO).trans (wp_mono frame _ _ fun _ => post_of)

set_option maxRecDepth 1024 in
theorem tile_obl0 (hx : ∀ d j, (idsOf m d j).toNat < 768) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  rw [body_at0]
  exact lifted_run m 0 d (coordsOf (F := F) 0 c i) (hx d) hO

set_option maxRecDepth 1024 in
theorem tile_obl1 (hx : ∀ d j, (idsOf m d j).toNat < 768) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  rw [body_at1]
  exact lifted_run m 1 d (coordsOf (F := F) 1 c i) (hx d) hO

set_option maxRecDepth 1024 in
theorem tile_obl2 (hx : ∀ d j, (idsOf m d j).toNat < 768) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  rw [body_at2]
  exact lifted_run m 2 d (coordsOf (F := F) 2 c i) (hx d) hO

set_option maxRecDepth 1024 in
theorem tile_obl3 (hx : ∀ d j, (idsOf m d j).toNat < 768) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 6 ())) _
  rw [body_at3]
  exact lifted_run m 3 d (coordsOf (F := F) 3 c i) (hx d) hO

/-- Every call's subcores meet what the launch asks of them. -/
theorem tile_obl (hx : ∀ d j, (idsOf m d j).toNat < 768) : ∀ q, (K (F := F)).TileObl (D (F := F)) 𝒱 (P m) v₀ q
  | 0 => tile_obl0 m hx
  | 1 => tile_obl1 m hx
  | 2 => tile_obl2 m hx
  | 3 => tile_obl3 m hx

end Cert

end Cert.Proof
-- ==== Proof.Split.lean ====
/-
  The index table and the count arrays, cut into the pieces the subcores work on and put together again.
-/
module

public import proofs.«01_k».proof.Proof.Calls

@[expose] public section

noncomputable section

namespace Cert.Proof

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem unit_emb_val {s : Shape} (off size : Fin s.rank → ℕ) (h : ∀ a, off a + size a ≤ s.size a) (j : (Rect.unit off size h).shape.Idx) (a : Fin s.rank) :
    ((Rect.unit off size h).emb j a).val = off a + (j a).val :=
  congrArg (off a + ·) (Nat.one_mul _)

/-- The index rows of subcore `i` of call `q`. -/
def inRect (t : Fin 4 × Fin 2 × Fin 16) : Rect S16384x32 := Rect.unit ((call t.1).off (mkCo t.2.1 t.2.2)) S128x32.size ((call t.1).inb (mkCo t.2.1 t.2.2))

/-- The result rows of group `r` of subcore `i`. -/
def outRect (t : Fin 2 × Fin 16 × Fin 4) : Rect S4096x768 :=
  Rect.unit (k0_off7 (mkCo t.1 t.2.1) (BitVec.ofNat 32 (32 * t.2.2.val))) S32x768.size (k0_off7_inb (mkCo t.1 t.2.1) t.2.2)

theorem mem_inRect (t : Fin 4 × Fin 2 × Fin 16) (j : S16384x32.Idx) :
    j ∈ (inRect t).set ↔ 4096 * t.1.val + 256 * t.2.2.val + 128 * t.2.1.val ≤ (j 0).val ∧ (j 0).val < 4096 * t.1.val + 256 * t.2.2.val + 128 * t.2.1.val + 128 := by
  have h1 : (j 1).val < 32 := (j 1).isLt
  unfold inRect
  rw [Rect.mem_set_unit, call_off]
  constructor
  · intro h
    have h0 := h 0
    change firstRow t.1 (mkCo t.2.1 t.2.2) ≤ (j 0).val ∧ (j 0).val < firstRow t.1 (mkCo t.2.1 t.2.2) + 128 at h0
    change 4096 * t.1.val + (256 * t.2.2.val + 128 * t.2.1.val) ≤ (j 0).val ∧ (j 0).val < 4096 * t.1.val + (256 * t.2.2.val + 128 * t.2.1.val) + 128 at h0
    omega
  · intro h a
    match a with
    | 0 =>
      change 4096 * t.1.val + (256 * t.2.2.val + 128 * t.2.1.val) ≤ (j 0).val ∧ (j 0).val < 4096 * t.1.val + (256 * t.2.2.val + 128 * t.2.1.val) + 128
      omega
    | 1 =>
      change 0 ≤ (j 1).val ∧ (j 1).val < 0 + 32
      omega

theorem mem_outRect (t : Fin 2 × Fin 16 × Fin 4) (j : S4096x768.Idx) :
    j ∈ (outRect t).set ↔ 256 * t.2.1.val + 128 * t.1.val + 32 * t.2.2.val ≤ (j 0).val ∧ (j 0).val < 256 * t.2.1.val + 128 * t.1.val + 32 * t.2.2.val + 32 := by
  have h1 : (j 1).val < 768 := (j 1).isLt
  unfold outRect
  rw [Rect.mem_set_unit, k0_off7_eq]
  constructor
  · intro h
    have h0 := h 0
    change 256 * t.2.1.val + 128 * t.1.val + 32 * t.2.2.val ≤ (j 0).val ∧ (j 0).val < 256 * t.2.1.val + 128 * t.1.val + 32 * t.2.2.val + 32 at h0
    exact h0
  · intro h a
    match a with
    | 0 => exact h
    | 1 =>
      change 0 ≤ (j 1).val ∧ (j 1).val < 0 + 768
      omega

theorem in_disjoint (t t' : Fin 4 × Fin 2 × Fin 16) (h : t ≠ t') : Disjoint (inRect t).set (inRect t').set := by
  rw [Finset.disjoint_left]
  intro j hj hj'
  rw [mem_inRect] at hj hj'
  apply h
  have := t.2.1.isLt; have := t.2.2.isLt; have := t'.2.1.isLt; have := t'.2.2.isLt
  exact Prod.ext (Fin.ext (by omega)) (Prod.ext (Fin.ext (by omega)) (Fin.ext (by omega)))

theorem in_cover : (Finset.univ : Finset (Fin 4 × Fin 2 × Fin 16)).biUnion (fun t => (inRect t).set) = Finset.univ := by
  ext j
  have h0 : (j 0).val < 16384 := (j 0).isLt
  simp only [Finset.mem_biUnion, Finset.mem_univ, true_and, iff_true]
  refine ⟨(⟨(j 0).val / 4096, by omega⟩, ⟨(j 0).val / 128 % 2, by omega⟩, ⟨(j 0).val / 256 % 16, by omega⟩), (mem_inRect _ _).mpr ?_⟩
  dsimp only; omega

theorem out_disjoint (t t' : Fin 2 × Fin 16 × Fin 4) (h : t ≠ t') : Disjoint (outRect t).set (outRect t').set := by
  rw [Finset.disjoint_left]
  intro j hj hj'
  rw [mem_outRect] at hj hj'
  apply h
  have := t.1.isLt; have := t.2.2.isLt; have := t'.1.isLt; have := t'.2.2.isLt
  exact Prod.ext (Fin.ext (by omega)) (Prod.ext (Fin.ext (by omega)) (Fin.ext (by omega)))

theorem out_cover : (Finset.univ : Finset (Fin 2 × Fin 16 × Fin 4)).biUnion (fun t => (outRect t).set) = Finset.univ := by
  ext j
  have h0 : (j 0).val < 4096 := (j 0).isLt
  simp only [Finset.mem_biUnion, Finset.mem_univ, true_and, iff_true]
  refine ⟨(⟨(j 0).val / 128 % 2, by omega⟩, ⟨(j 0).val / 256, by omega⟩, ⟨(j 0).val / 32 % 4, by omega⟩), (mem_outRect _ _).mpr ?_⟩
  dsimp only; omega

/-- A call's count array: each of its 4096 samples' counts. -/
def cntArr (x : S16384x32.Idx → BitVec 32) (q : Fin 4) : S4096x768.Idx → F .f32 := fun j =>
  rowCount (rowsOf x q (mkCo ⟨(j 0).val / 128 % 2, by omega⟩ ⟨(j 0).val / 256, by have : (j 0).val < 4096 := (j 0).isLt; omega⟩)) ⟨(j 0).val % 128, by omega⟩ (j 1).val

theorem in_part (x : S16384x32.Idx → BitVec 32) (t : Fin 4 × Fin 2 × Fin 16) : (fun j => x ((inRect t).emb j)) = rowsOf x t.1 (mkCo t.2.1 t.2.2) := by
  have e : ∀ j a, (((inRect t).emb j) a).val = (![firstRow t.1 (mkCo t.2.1 t.2.2), 0] : Fin 2 → ℕ) a + (j a).val := fun j a => by
    rw [← call_off]; unfold inRect; exact unit_emb_val ..
  funext j
  unfold rowsOf
  congr 1
  funext a
  match a with
  | 0 => exact Fin.ext (e j 0)
  | 1 => exact Fin.ext ((e j 1).trans (Nat.zero_add _))

theorem out_part (x : S16384x32.Idx → BitVec 32) (q : Fin 4) (t : Fin 2 × Fin 16 × Fin 4) :
    (fun j => cntArr (F := F) x q ((outRect t).emb j)) = grpCount (rowsOf x q (mkCo t.1 t.2.1)) t.2.2 := by
  have e : ∀ j a, (((outRect t).emb j) a).val = (![256 * t.2.1.val + 128 * t.1.val + 32 * t.2.2.val, 0] : Fin 2 → ℕ) a + (j a).val := fun j a => by
    have := congrFun (k0_off7_eq (mkCo t.1 t.2.1) t.2.2) a
    unfold outRect; refine (unit_emb_val ..).trans ?_; rw [this]; rfl
  funext j
  have e0 : (((outRect t).emb j) 0).val = 256 * t.2.1.val + 128 * t.1.val + 32 * t.2.2.val + (j 0).val := e j 0
  have e1 : (((outRect t).emb j) 1).val = (j 1).val := (e j 1).trans (Nat.zero_add _)
  have hj : (j 0).val < 32 := (j 0).isLt
  have h1 := t.1.isLt; have h2 := t.2.2.isLt
  unfold cntArr grpCount
  congr 1
  · congr 2
    · exact Fin.ext (by show _ / 128 % 2 = _; omega)
    · exact Fin.ext (by show _ / 256 = _; omega)
  · exact Fin.ext (by show _ % 128 = 32 * t.2.2.val + (j 0).val; omega)

/-! ## In the logic -/

section Pieces

variable (d : Dev nD) [∀ e, Nonempty (Elt F e)]

/-- A piece of a count array is one thing at every subcore's thread: the array lies in the device's main memory. -/
theorem own_out_at (q : Fin 4) (i : grid0.Coords) (r : Fin 4) (Y : S32x768.Idx → F .f32) :
    (own' (F := F) d (coreOf i) (subOf i) (outGrp i (call q).out r) Y : sProp (MM F)) = owns (V d 0 0) (outGrp i (call q).out r) fullShare Y := by
  match q with
  | 0 => rfl
  | 1 => rfl
  | 2 => rfl
  | 3 => rfl

/-- The index rows of one call's subcores. -/
def chunk (x : S16384x32.Idx → BitVec 32) (q : Fin 4) : sProp (MM F) :=
  bigSep Finset.univ fun c : Fin 2 => bigSep Finset.univ fun s : Fin 16 =>
    ownAt (F := F) d (coreOf (mkCo c s)) (subOf (mkCo c s)) (inRows xW ((call q).off (mkCo c s)) ((call q).inb (mkCo c s))) fullShare (rowsOf x q (mkCo c s))

/-- A call's count array at given contents, as its subcores hold it. -/
def outAt (q : Fin 4) (Y : S4096x768.Idx → F .f32) : sProp (MM F) := owns (V d 0 0) (call q).out fullShare Y

theorem table_chunks (x : S16384x32.Idx → BitVec 32) : ((SparseCore.T d).loc main_arg0 ↦{fullShare} x : sProp (MM F)) = bigSep Finset.univ fun q => chunk (F := F) d x q := by
  have hw : (owns (V d 0 0) xW fullShare x : sProp (MM F)) = ((SparseCore.T d).loc main_arg0 ↦{fullShare} x) := owns_whole ..
  rw [← hw]
  have hp : (bigSep Finset.univ fun t => owns (V d 0 0) (xW.slice (inRect t) (fun _ => rfl)) fullShare (fun j => x ((inRect t).emb j)) : sProp (MM F))
      = bigSep Finset.univ fun q => chunk (F := F) d x q := by
    rw [bigSep_univ_prod]
    refine bigSep_congr fun q _ => ?_
    rw [bigSep_univ_prod]
    unfold chunk
    refine bigSep_congr fun c _ => bigSep_congr fun s _ => ?_
    rw [in_part x (q, c, s)]
    rfl
  rw [← hp]
  exact BI.Entails.antisymm (owns_rects (Val := Elt F) (V d 0 0) xW fullShare inRect (fun _ _ => rfl) in_disjoint in_cover x)
    (owns_of_rects (Val := Elt F) (V d 0 0) xW fullShare inRect (fun _ _ => rfl) in_disjoint in_cover x)

theorem piece_any {α : Type} {A : α → sProp (MM F)} {B : sProp (MM F)} {a : α} (h : A a = B) : B ⊢ iprop(∃ a, A a) := by
  rw [← h]
  iintro H
  iexists a
  iexact H

theorem out_pieces (q : Fin 4) (Y : S4096x768.Idx → F .f32) :
    outAt (F := F) d q Y ⊢ bigSep Finset.univ fun c : Fin 2 => bigSep Finset.univ fun s : Fin 16 => bigSep Finset.univ fun r : Fin 4 =>
      iprop(∃ Z, own' (F := F) d (coreOf (mkCo c s)) (subOf (mkCo c s)) (outGrp (mkCo c s) (call q).out r) Z) := by
  unfold outAt
  refine (owns_rects (Val := Elt F) (V d 0 0) (call q).out fullShare outRect (fun _ _ => rfl) out_disjoint out_cover Y).trans ?_
  simp only [bigSep_univ_prod]
  refine bigSep_mono fun c _ => bigSep_mono fun s _ => bigSep_mono fun r _ => ?_
  exact piece_any (own_out_at d q (mkCo c s) r _)

theorem out_whole (x : S16384x32.Idx → BitVec 32) (q : Fin 4) :
    (bigSep Finset.univ fun c : Fin 2 => bigSep Finset.univ fun s : Fin 16 => bigSep Finset.univ fun r : Fin 4 =>
      own' (F := F) d (coreOf (mkCo c s)) (subOf (mkCo c s)) (outGrp (mkCo c s) (call q).out r) (grpCount (rowsOf x q (mkCo c s)) r)) ⊢ outAt (F := F) d q (cntArr x q) := by
  unfold outAt
  refine BIBase.Entails.trans ?_ (owns_of_rects (Val := Elt F) (V d 0 0) (call q).out fullShare outRect (fun _ _ => rfl) out_disjoint out_cover (cntArr x q))
  simp only [bigSep_univ_prod]
  refine bigSep_mono fun c _ => bigSep_mono fun s _ => bigSep_mono fun r _ => ?_
  rw [out_part x q (c, s, r), own_out_at]
  exact (ent_eq rfl)

/-- A call's operands, as its subcores are handed them. -/
theorem go_pieces (x : S16384x32.Idx → BitVec 32) (q : Fin 4) (Y : S4096x768.Idx → F .f32) :
    iprop(chunk (F := F) d x q ∗ outAt (F := F) d q Y) ⊢ bigSep Finset.univ fun c : Fin 2 => bigSep Finset.univ fun s : Fin 16 => goOf (F := F) x d q (mkCo c s) := by
  unfold goOf
  simp only [bigSep_sep']
  iintro ⟨Hx, Ho⟩
  isplitl [Hx]
  · unfold chunk; iexact Hx
  ihave Ho := (out_pieces (F := F) d q Y) $$ Ho
  iexact Ho

/-- A call's results, as its subcores hand them back. -/
theorem td_pieces (x : S16384x32.Idx → BitVec 32) (q : Fin 4) :
    (bigSep Finset.univ fun c : Fin 2 => bigSep Finset.univ fun s : Fin 16 => tdOf (F := F) x d q (mkCo c s)) ⊢ iprop(chunk (F := F) d x q ∗ outAt (F := F) d q (cntArr x q)) := by
  unfold tdOf
  simp only [bigSep_sep']
  iintro ⟨Hx, Ho⟩
  isplitl [Hx]
  · unfold chunk; iexact Hx
  ihave Ho := (out_whole (F := F) d x q) $$ Ho
  iexact Ho

variable (m : (ℓ : Loc nD τ sig) → Buf (Elt F) ℓ)

theorem bigSep_cast {n k : ℕ} (h : n = k) (Φ : Fin k → sProp (MM F)) : (bigSep Finset.univ fun c : Fin n => Φ ⟨c.val, lt_of_lt_of_eq c.isLt h⟩) = bigSep Finset.univ Φ := by
  subst h; rfl

/-- A family over a call's subcores, over the two SparseCores and their sixteen subcores. -/
theorem over_subcores (q : Fin 4) (Φ : grid0.Coords → sProp (MM F)) :
    (bigSep Finset.univ fun c : Fin ((K (F := F)).nCore q) => bigSep Finset.univ fun s : Fin ((K (F := F)).nSub q) => Φ (coordsOf (F := F) q c s))
      = bigSep Finset.univ fun c : Fin 2 => bigSep Finset.univ fun s : Fin 16 => Φ (mkCo c s) := by
  unfold coordsOf
  rw [← bigSep_cast (nCore_eq (F := F) q)]
  refine bigSep_congr fun c _ => ?_
  rw [← bigSep_cast (nSub_eq (F := F) q)]

theorem call_in (q : Fin 4) (Y : S4096x768.Idx → F .f32) : iprop(chunk (F := F) d (idsOf m d) q ∗ outAt (F := F) d q Y) ⊢ bigSep Finset.univ fun c => (P (F := F) m).st q d c :=
  (go_pieces (F := F) d (idsOf m d) q Y).trans (ent_eq (over_subcores q fun i => goOf (F := F) (idsOf m d) d q i).symm)

theorem call_out (q : Fin 4) : (bigSep Finset.univ fun c => (P (F := F) m).dn q d c) ⊢ iprop(chunk (F := F) d (idsOf m d) q ∗ outAt (F := F) d q (cntArr (idsOf m d) q)) :=
  (ent_eq (over_subcores q fun i => tdOf (F := F) (idsOf m d) d q i)).trans (td_pieces (F := F) d (idsOf m d) q)

end Pieces

end Cert.Proof
-- ==== Proof.Mlp.lean ====
/-
  The dense layers' body, run: from its operands' staging buffers to the block it stores.
-/
module

public import proofs.«01_k».proof.Proof.Steps
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The TensorCore's ownership of a memref's elements, at what it reads through the memref. -/
abbrev ownT (d : Dev nD) {sp : Space} {s : Shape} {e : EltTy} (m : Memref sig .tc sp s e) (X : s.Idx → Elt F e) : sProp (MM F) :=
  owns (SparseCore.T d) m fullShare X

/-- The weakest precondition of a TensorCore kernel's program. -/
abbrev wpT (d : Dev nD) {α : Type} (p : Prog (TpuEff nD τ sig (Elt F) Λ₀ .tc) α) (Q : α → sProp (MM F)) : sProp (MM F) :=
  wp frame (wpE (defs₀ (F := F)) 𝒱₀ (SparseCore.T d) none) Set.univ p Q

/-- The unit rectangle from the first element leaves every index where it is. -/
theorem emb_whole {s : Shape} {off : Fin s.rank → ℕ} (h0 : off = fun _ => 0) (h : ∀ a, off a + s.size a ≤ s.size a) (x : s.Idx) :
    (Rect.unit (s := s) off s.size h).emb x = x := by
  subst h0
  funext a
  refine Fin.ext ?_
  have := Rect.emb_apply (Rect.unit (s := s) (fun _ => 0) s.size h) x a
  rw [this]
  show 0 + 1 * (x a).val = (x a).val
  omega

section Own

variable {d : Dev nD} {α : Type} {Q : α → sProp (MM F)}

theorem wp_load_tc {s : Shape} {e : EltTy} {m : Memref sig .tc .vmem s e} {off : Fin s.rank → ℕ} {h : ∀ a, off a + s.size a ≤ s.size a}
    (h0 : off = fun _ => 0) {hl : m.view.LoadsAt (Rect.unit (s := s) off s.size h).toLoadRect}
    {k : (s.Idx → Elt F e) → Prog (TpuEff nD τ sig (Elt F) Λ₀ .tc) α} {X : s.Idx → Elt F e} :
    ownT d m X ⊢ iprop((ownT d m X -∗ wpT d (k X) Q) -∗ wpT d (.op (.load m (Rect.unit (s := s) off s.size h).toLoadRect hl) k) Q) := by
  unfold ownT owns wpT
  iintro ⟨%f, %hf, H⟩ Hk
  iapply (wp_load 𝒱₀ (SparseCore.T d) none Set.univ (m := m) (View.setOn_subset_set _ _)) $$ H
  iintro H
  rw [show m.view.readAt (Elt F) (Rect.unit (s := s) off s.size h).toLoadRect f = X from funext fun j => by
    rw [View.readAt_apply, hf]; exact congrArg X (emb_whole h0 h j)]
  iapply Hk
  iexists f
  isplitr; · ipureintro; exact hf
  iexact H

theorem wp_store_tc {s : Shape} {e : EltTy} {m : Memref sig .tc .vmem s e} {off : Fin s.rank → ℕ} {h : ∀ a, off a + s.size a ≤ s.size a} (h0 : off = fun _ => 0)
    {w : s.Idx → Elt F e} {hx : (m.access (Rect.unit (s := s) off s.size h)).Stores Finset.univ}
    {hm : (Finset.univ : Finset (Rect.unit (s := s) off s.size h).shape.Idx) = Finset.univ ∨ ∀ a, (Rect.unit (s := s) off s.size h).stride a = 1}
    {k : PUnit → Prog (TpuEff nD τ sig (Elt F) Λ₀ .tc) α} {G : s.Idx → Elt F e} :
    ownT d m G ⊢ iprop((ownT d m w -∗ wpT d (k ⟨⟩) Q) -∗ wpT d (.op (.store m (Rect.unit (s := s) off s.size h) w Finset.univ hx hm) k) Q) := by
  unfold ownT owns wpT
  iintro ⟨%f, %hf, H⟩ Hk
  iapply (wp_store 𝒱₀ (SparseCore.T d) none Set.univ (m := m) (r := Rect.unit (s := s) off s.size h) (w := w) (Mk := Finset.univ) (hx := hx) (hm := hm) (k := k) (S := m.view.set) (f := f)
    (View.set_slice_subset m.view _)) $$ H
  iintro H
  iapply Hk
  iexists ((m.access (Rect.unit (s := s) off s.size h)).write (Elt F) f w Finset.univ)
  isplitr
  · ipureintro
    funext y
    have hy := View.read_slice_write_emb (v := m.view) (Rect.unit (s := s) off s.size h) f w (Finset.mem_univ y)
    rw [emb_whole h0 h y] at hy
    exact hy
  · iexact H

end Own

theorem off_zero2 : (![0, 0] : Fin 2 → ℕ) = fun _ => 0 := by
  funext a; fin_cases a <;> rfl

/-- The dense layers' body at any operands: it stores the layers' value of the blocks it loads. -/
theorem mlp_run (d : Dev nD) (i : grid1.Coords) (a1 : Memref sig .tc .vmem S1024x768 .f32) (h1 : a1.IsWhole) (a2 : Memref sig .tc .vmem S768x256 .bf16) (h2 : a2.IsWhole)
    (a3 : Memref sig .tc .vmem S256x512 .bf16) (h3 : a3.IsWhole) (a4 : Memref sig .tc .vmem S1x512 .f32) (h4 : a4.IsWhole) (a5 : Memref sig .tc .vmem S512x256 .bf16) (h5 : a5.IsWhole)
    (a6 : Memref sig .tc .vmem S1x256 .f32) (h6 : a6.IsWhole) (a7 : Memref sig .tc .vmem S1x256 .f32) (h7 : a7.IsWhole) (a8 : Memref sig .tc .vmem S1x1 .f32) (h8 : a8.IsWhole)
    (a9 : Memref sig .tc .vmem S1024x1 .f32) (h9 : a9.IsWhole)
    (X1 : Vec F S1024x768 .f32) (X2 : Vec F S768x256 .bf16) (X3 : Vec F S256x512 .bf16) (X4 : Vec F S1x512 .f32) (X5 : Vec F S512x256 .bf16) (X6 : Vec F S1x256 .f32)
    (X7 : Vec F S1x256 .f32) (X8 : Vec F S1x1 .f32) (X9 : Vec F S1024x1 .f32) (Q : PUnit → sProp (MM F)) :
    iprop(ownT d a1 X1 ∗ ownT d a2 X2 ∗ ownT d a3 X3 ∗ ownT d a4 X4 ∗ ownT d a5 X5 ∗ ownT d a6 X6 ∗ ownT d a7 X7 ∗ ownT d a8 X8 ∗ ownT d a9 X9
        ∗ (iprop(ownT d a1 X1 ∗ ownT d a2 X2 ∗ ownT d a3 X3 ∗ ownT d a4 X4 ∗ ownT d a5 X5 ∗ ownT d a6 X6 ∗ ownT d a7 X7 ∗ ownT d a8 X8
            ∗ ownT d a9 (k1_pay1 X1 X2 X3 X4 X5 X6 X7 X8)) -∗ Q ⟨⟩))
      ⊢ wpT d (cc1__mlp_body i a1 h1 a2 h2 a3 h3 a4 h4 a5 h5 a6 h6 a7 h7 a8 h8 a9 h9) Q := by
  rw [cc1__mlp_body_eq_skeleton]
  unfold cc1__mlp_body_skel
  rw [k1_part1_eq_skeleton]
  unfold k1_part1_skel
  simp only [Prog.lift, Prog.bind_op, Prog.bind_ret, Prog.bind_assoc, Prog.pure_eq_ret]
  iintro ⟨H1, H2, H3, H4, H5, H6, H7, H8, H9, Hk⟩
  iapply (wp_load_tc (F := F) off_zero2) $$ H1
  iintro H1
  iapply (wp_load_tc (F := F) off_zero2) $$ H2
  iintro H2
  iapply (wp_load_tc (F := F) off_zero2) $$ H3
  iintro H3
  iapply (wp_load_tc (F := F) off_zero2) $$ H4
  iintro H4
  iapply (wp_load_tc (F := F) off_zero2) $$ H5
  iintro H5
  iapply (wp_load_tc (F := F) off_zero2) $$ H6
  iintro H6
  iapply (wp_load_tc (F := F) off_zero2) $$ H7
  iintro H7
  iapply (wp_load_tc (F := F) off_zero2) $$ H8
  iintro H8
  iapply (wp_load_tc (F := F) off_zero2) $$ H9
  iintro H9
  iapply (wp_store_tc (F := F) off_zero2) $$ H9
  iintro H9
  unfold wpT
  rw [wp_ret]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof
-- ==== Proof.Regions.lean ====
/-
  The four dense-layer calls as regions of @main: their proof data, their bodies' obligations, and what each
  takes the core's arrays from and to.
-/
module

public import proofs.«01_k».proof.Proof.Mlp
public import Idealize.ShloMosaic.Lib.Pipeline.RegionArrays
public import Idealize.ShloMosaic.Lib.Pipeline.FrameBody
public import Idealize.ShloMosaic.Lib.Pipeline.RegionArraysS

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation cellOf arrRef)

variable {F : FTy → Type} [FloatOps F]

/-- The block of a window's array that the fetch at a point stages. -/
abbrev blk (cfg : Pipeline.Cfg sig Λ₀) (W : Valuation τ sig (Elt F)) (w : Fin cfg.W) (t : Fin cfg.N) :
    ((cfg.win w).xblock (cfg.grid.coords t)).Idx → Elt F (cfg.win w).elt :=
  ((cfg.win w).blk t).view.read (Elt F) (W (Proc.devRef .tc (arrRef cfg.spec w)))

/-- The proof data of one call, entered from a valuation after `n` of the SparseCore calls: what the core owes the
    remaining ones, and the waits recorded so far at or below the level of the calls made. -/
def datOf (cfg : Pipeline.Cfg sig Λ₀) (n : ℕ) (W : Valuation τ sig (Elt F)) (c : Dev nD)
    (aft : (w : Fin cfg.W) → Fin cfg.N → (cfg.win w).block.Idx → Elt F (cfg.win w).elt) : Dat τ (Elt F) (HIx 4) ℕ UU ℕ cfg c where
  A w := W (Proc.devRef .tc (arrRef cfg.spec w))
  after := aft
  Φ _ := Pipeline.scopedRest (Ix := HIx 4) (Name := ℕ) (U := UU) (Lvl := ℕ) (Val := Elt F) cfg.spec c
  q _ := fullShare
  owed _ := (K (F := F)).Otc c n
  recorded _ := {x | (K (F := F)).lev (SparseCore.T c, x.1) x.2 ≤ 8 * n}

/-- The body between the buffers as the pipeline hands them and as it takes them back, beside whatever else it holds. -/
theorem mlp_obl (d : Dev nD) (i : grid1.Coords) (a1 : Memref sig .tc .vmem S1024x768 .f32) (h1 : a1.IsWhole) (a2 : Memref sig .tc .vmem S768x256 .bf16) (h2 : a2.IsWhole)
    (a3 : Memref sig .tc .vmem S256x512 .bf16) (h3 : a3.IsWhole) (a4 : Memref sig .tc .vmem S1x512 .f32) (h4 : a4.IsWhole) (a5 : Memref sig .tc .vmem S512x256 .bf16) (h5 : a5.IsWhole)
    (a6 : Memref sig .tc .vmem S1x256 .f32) (h6 : a6.IsWhole) (a7 : Memref sig .tc .vmem S1x256 .f32) (h7 : a7.IsWhole) (a8 : Memref sig .tc .vmem S1x1 .f32) (h8 : a8.IsWhole)
    (a9 : Memref sig .tc .vmem S1024x1 .f32) (h9 : a9.IsWhole)
    {X1 : Vec F S1024x768 .f32} {X2 : Vec F S768x256 .bf16} {X3 : Vec F S256x512 .bf16} {X4 : Vec F S1x512 .f32} {X5 : Vec F S512x256 .bf16} {X6 : Vec F S1x256 .f32}
    {X7 : Vec F S1x256 .f32} {X8 : Vec F S1x1 .f32}
    {f1 : Vec F S1024x768 .f32 → Vec F S1024x768 .f32} {f2 : Vec F S768x256 .bf16 → Vec F S768x256 .bf16} {f3 : Vec F S256x512 .bf16 → Vec F S256x512 .bf16}
    {f4 : Vec F S1x512 .f32 → Vec F S1x512 .f32} {f5 : Vec F S512x256 .bf16 → Vec F S512x256 .bf16} {f6 f7 : Vec F S1x256 .f32 → Vec F S1x256 .f32}
    {f8 : Vec F S1x1 .f32 → Vec F S1x1 .f32} {f9 : Vec F S1024x1 .f32 → Vec F S1024x1 .f32}
    (e1 : ∀ x, f1 x = X1) (e2 : ∀ x, f2 x = X2) (e3 : ∀ x, f3 x = X3) (e4 : ∀ x, f4 x = X4) (e5 : ∀ x, f5 x = X5) (e6 : ∀ x, f6 x = X6) (e7 : ∀ x, f7 x = X7) (e8 : ∀ x, f8 x = X8)
    (A B : sProp (MM F)) :
    iprop(A ∗ B ∗ (∃ x, ownT d a1 (f1 x)) ∗ (∃ x, ownT d a2 (f2 x)) ∗ (∃ x, ownT d a3 (f3 x)) ∗ (∃ x, ownT d a4 (f4 x)) ∗ (∃ x, ownT d a5 (f5 x)) ∗ (∃ x, ownT d a6 (f6 x))
        ∗ (∃ x, ownT d a7 (f7 x)) ∗ (∃ x, ownT d a8 (f8 x)) ∗ (∃ x, ownT d a9 (f9 x)))
      ⊢ wpT d (cc1__mlp_body i a1 h1 a2 h2 a3 h3 a4 h4 a5 h5 a6 h6 a7 h7 a8 h8 a9 h9) fun _ =>
        iprop(A ∗ B ∗ ownT d a1 X1 ∗ ownT d a2 X2 ∗ ownT d a3 X3 ∗ ownT d a4 X4 ∗ ownT d a5 X5 ∗ ownT d a6 X6 ∗ ownT d a7 X7 ∗ ownT d a8 X8
          ∗ ownT d a9 (k1_pay1 X1 X2 X3 X4 X5 X6 X7 X8)) := by
  iintro ⟨HA, HB, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩⟩
  rw [e1 x1, e2 x2, e3 x3, e4 x4, e5 x5, e6 x6, e7 x7, e8 x8]
  iapply (mlp_run (F := F) d i a1 h1 a2 h2 a3 h3 a4 h4 a5 h5 a6 h6 a7 h7 a8 h8 a9 h9 X1 X2 X3 X4 X5 X6 X7 X8 (f9 x9) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro H
  isplitl [HA]; · iexact HA
  isplitl [HB]; · iexact HB
  iexact H

section Calls

variable (W : Valuation τ sig (Elt F)) (c : Dev nD)

/-- What the first call's body leaves in each staging buffer: its operands' blocks as staged, and the layers' value of them. -/
def aft1 (w : Fin cfg1.W) (t : Fin cfg1.N) : (cfg1.win w).block.Idx → Elt F (cfg1.win w).elt :=
  match w with
  | ⟨0, _⟩ => blk cfg1 W 0 t
  | ⟨1, _⟩ => blk cfg1 W 1 t
  | ⟨2, _⟩ => blk cfg1 W 2 t
  | ⟨3, _⟩ => blk cfg1 W 3 t
  | ⟨4, _⟩ => blk cfg1 W 4 t
  | ⟨5, _⟩ => blk cfg1 W 5 t
  | ⟨6, _⟩ => blk cfg1 W 6 t
  | ⟨7, _⟩ => blk cfg1 W 7 t
  | ⟨8, _⟩ => k1_pay1 (blk cfg1 W 0 t) (blk cfg1 W 1 t) (blk cfg1 W 2 t) (blk cfg1 W 3 t) (blk cfg1 W 4 t) (blk cfg1 W 5 t) (blk cfg1 W 6 t) (blk cfg1 W 7 t)

abbrev dat1 := datOf (F := F) cfg1 1 W c (aft1 W)

theorem obl1 : BodyObligation (dat1 W c) (defs₀ (F := F)) 𝒱₀ none Set.univ := fun t => by
  rw [bigSep_W1, bigSep_W1]
  exact mlp_obl (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8))
    ((dat1 W c).before_in_eq_fetched 0 rfl (fun _ => rfl) (fun _ _ _ => rfl) (fun _ => rfl) t)
    ((dat1 W c).before_in_eq_fetched 1 rfl (fun _ => rfl) (fun _ _ _ => rfl) (fun _ => rfl) t)
    ((dat1 W c).before_in_eq_fetched 2 rfl (fun _ => rfl) (fun _ _ _ => rfl) (fun _ => rfl) t)
    ((dat1 W c).before_in_eq_fetched 3 rfl (fun _ => rfl) (fun _ _ _ => rfl) (fun _ => rfl) t)
    ((dat1 W c).before_in_eq_fetched 4 rfl (fun _ => rfl) (fun _ _ _ => rfl) (fun _ => rfl) t)
    ((dat1 W c).before_in_eq_fetched 5 rfl (fun _ => rfl) (fun _ _ _ => rfl) (fun _ => rfl) t)
    ((dat1 W c).before_in_eq_fetched 6 rfl (fun _ => rfl) (fun _ _ _ => rfl) (fun _ => rfl) t)
    ((dat1 W c).before_in_eq_fetched 7 rfl (fun _ => rfl) (fun _ _ _ => rfl) (fun _ => rfl) t)
    _ _

/-- What the second call's body leaves in each staging buffer: its operands' blocks as staged, and the layers' value of them. -/
def aft3 (w : Fin cfg3.W) (t : Fin cfg3.N) : (cfg3.win w).block.Idx → Elt F (cfg3.win w).elt :=
  match w with
  | ⟨0, _⟩ => blk cfg3 W 0 t
  | ⟨1, _⟩ => blk cfg3 W 1 t
  | ⟨2, _⟩ => blk cfg3 W 2 t
  | ⟨3, _⟩ => blk cfg3 W 3 t
  | ⟨4, _⟩ => blk cfg3 W 4 t
  | ⟨5, _⟩ => blk cfg3 W 5 t
  | ⟨6, _⟩ => blk cfg3 W 6 t
  | ⟨7, _⟩ => blk cfg3 W 7 t
  | ⟨8, _⟩ => k1_pay1 (blk cfg3 W 0 t) (blk cfg3 W 1 t) (blk cfg3 W 2 t) (blk cfg3 W 3 t) (blk cfg3 W 4 t) (blk cfg3 W 5 t) (blk cfg3 W 6 t) (blk cfg3 W 7 t)

abbrev dat3 := datOf (F := F) cfg3 2 W c (aft3 W)

theorem obl3 : BodyObligation (dat3 W c) (defs₀ (F := F)) 𝒱₀ none Set.univ := fun t => by
  rw [bigSep_W3, bigSep_W3]
  exact mlp_obl (F := F) c (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2)) (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6)) (st3_7 t) (hstage3_7 ((cfg3.slots t 7).cast nbuf3_7)) (st3_8 t) (hstage3_8 ((cfg3.slots t 8).cast nbuf3_8))
    ((dat3 W c).before_in_eq_fetched 0 rfl (fun _ => rfl) (fun _ _ _ => rfl) (fun _ => rfl) t)
    ((dat3 W c).before_in_eq_fetched 1 rfl (fun _ => rfl) (fun _ _ _ => rfl) (fun _ => rfl) t)
    ((dat3 W c).before_in_eq_fetched 2 rfl (fun _ => rfl) (fun _ _ _ => rfl) (fun _ => rfl) t)
    ((dat3 W c).before_in_eq_fetched 3 rfl (fun _ => rfl) (fun _ _ _ => rfl) (fun _ => rfl) t)
    ((dat3 W c).before_in_eq_fetched 4 rfl (fun _ => rfl) (fun _ _ _ => rfl) (fun _ => rfl) t)
    ((dat3 W c).before_in_eq_fetched 5 rfl (fun _ => rfl) (fun _ _ _ => rfl) (fun _ => rfl) t)
    ((dat3 W c).before_in_eq_fetched 6 rfl (fun _ => rfl) (fun _ _ _ => rfl) (fun _ => rfl) t)
    ((dat3 W c).before_in_eq_fetched 7 rfl (fun _ => rfl) (fun _ _ _ => rfl) (fun _ => rfl) t)
    _ _

/-- What the third call's body leaves in each staging buffer: its operands' blocks as staged, and the layers' value of them. -/
def aft5 (w : Fin cfg5.W) (t : Fin cfg5.N) : (cfg5.win w).block.Idx → Elt F (cfg5.win w).elt :=
  match w with
  | ⟨0, _⟩ => blk cfg5 W 0 t
  | ⟨1, _⟩ => blk cfg5 W 1 t
  | ⟨2, _⟩ => blk cfg5 W 2 t
  | ⟨3, _⟩ => blk cfg5 W 3 t
  | ⟨4, _⟩ => blk cfg5 W 4 t
  | ⟨5, _⟩ => blk cfg5 W 5 t
  | ⟨6, _⟩ => blk cfg5 W 6 t
  | ⟨7, _⟩ => blk cfg5 W 7 t
  | ⟨8, _⟩ => k1_pay1 (blk cfg5 W 0 t) (blk cfg5 W 1 t) (blk cfg5 W 2 t) (blk cfg5 W 3 t) (blk cfg5 W 4 t) (blk cfg5 W 5 t) (blk cfg5 W 6 t) (blk cfg5 W 7 t)

abbrev dat5 := datOf (F := F) cfg5 3 W c (aft5 W)

theorem obl5 : BodyObligation (dat5 W c) (defs₀ (F := F)) 𝒱₀ none Set.univ := fun t => by
  rw [bigSep_W5, bigSep_W5]
  exact mlp_obl (F := F) c (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3)) (st5_4 t) (hstage5_4 ((cfg5.slots t 4).cast nbuf5_4)) (st5_5 t) (hstage5_5 ((cfg5.slots t 5).cast nbuf5_5)) (st5_6 t) (hstage5_6 ((cfg5.slots t 6).cast nbuf5_6)) (st5_7 t) (hstage5_7 ((cfg5.slots t 7).cast nbuf5_7)) (st5_8 t) (hstage5_8 ((cfg5.slots t 8).cast nbuf5_8))
    ((dat5 W c).before_in_eq_fetched 0 rfl (fun _ => rfl) (fun _ _ _ => rfl) (fun _ => rfl) t)
    ((dat5 W c).before_in_eq_fetched 1 rfl (fun _ => rfl) (fun _ _ _ => rfl) (fun _ => rfl) t)
    ((dat5 W c).before_in_eq_fetched 2 rfl (fun _ => rfl) (fun _ _ _ => rfl) (fun _ => rfl) t)
    ((dat5 W c).before_in_eq_fetched 3 rfl (fun _ => rfl) (fun _ _ _ => rfl) (fun _ => rfl) t)
    ((dat5 W c).before_in_eq_fetched 4 rfl (fun _ => rfl) (fun _ _ _ => rfl) (fun _ => rfl) t)
    ((dat5 W c).before_in_eq_fetched 5 rfl (fun _ => rfl) (fun _ _ _ => rfl) (fun _ => rfl) t)
    ((dat5 W c).before_in_eq_fetched 6 rfl (fun _ => rfl) (fun _ _ _ => rfl) (fun _ => rfl) t)
    ((dat5 W c).before_in_eq_fetched 7 rfl (fun _ => rfl) (fun _ _ _ => rfl) (fun _ => rfl) t)
    _ _

/-- What the fourth call's body leaves in each staging buffer: its operands' blocks as staged, and the layers' value of them. -/
def aft7 (w : Fin cfg7.W) (t : Fin cfg7.N) : (cfg7.win w).block.Idx → Elt F (cfg7.win w).elt :=
  match w with
  | ⟨0, _⟩ => blk cfg7 W 0 t
  | ⟨1, _⟩ => blk cfg7 W 1 t
  | ⟨2, _⟩ => blk cfg7 W 2 t
  | ⟨3, _⟩ => blk cfg7 W 3 t
  | ⟨4, _⟩ => blk cfg7 W 4 t
  | ⟨5, _⟩ => blk cfg7 W 5 t
  | ⟨6, _⟩ => blk cfg7 W 6 t
  | ⟨7, _⟩ => blk cfg7 W 7 t
  | ⟨8, _⟩ => k1_pay1 (blk cfg7 W 0 t) (blk cfg7 W 1 t) (blk cfg7 W 2 t) (blk cfg7 W 3 t) (blk cfg7 W 4 t) (blk cfg7 W 5 t) (blk cfg7 W 6 t) (blk cfg7 W 7 t)

abbrev dat7 := datOf (F := F) cfg7 4 W c (aft7 W)

theorem obl7 : BodyObligation (dat7 W c) (defs₀ (F := F)) 𝒱₀ none Set.univ := fun t => by
  rw [bigSep_W7, bigSep_W7]
  exact mlp_obl (F := F) c (grid7.coords t) (st7_0 t) (hstage7_0 ((cfg7.slots t 0).cast nbuf7_0)) (st7_1 t) (hstage7_1 ((cfg7.slots t 1).cast nbuf7_1)) (st7_2 t) (hstage7_2 ((cfg7.slots t 2).cast nbuf7_2)) (st7_3 t) (hstage7_3 ((cfg7.slots t 3).cast nbuf7_3)) (st7_4 t) (hstage7_4 ((cfg7.slots t 4).cast nbuf7_4)) (st7_5 t) (hstage7_5 ((cfg7.slots t 5).cast nbuf7_5)) (st7_6 t) (hstage7_6 ((cfg7.slots t 6).cast nbuf7_6)) (st7_7 t) (hstage7_7 ((cfg7.slots t 7).cast nbuf7_7)) (st7_8 t) (hstage7_8 ((cfg7.slots t 8).cast nbuf7_8))
    ((dat7 W c).before_in_eq_fetched 0 rfl (fun _ => rfl) (fun _ _ _ => rfl) (fun _ => rfl) t)
    ((dat7 W c).before_in_eq_fetched 1 rfl (fun _ => rfl) (fun _ _ _ => rfl) (fun _ => rfl) t)
    ((dat7 W c).before_in_eq_fetched 2 rfl (fun _ => rfl) (fun _ _ _ => rfl) (fun _ => rfl) t)
    ((dat7 W c).before_in_eq_fetched 3 rfl (fun _ => rfl) (fun _ _ _ => rfl) (fun _ => rfl) t)
    ((dat7 W c).before_in_eq_fetched 4 rfl (fun _ => rfl) (fun _ _ _ => rfl) (fun _ => rfl) t)
    ((dat7 W c).before_in_eq_fetched 5 rfl (fun _ => rfl) (fun _ _ _ => rfl) (fun _ => rfl) t)
    ((dat7 W c).before_in_eq_fetched 6 rfl (fun _ => rfl) (fun _ _ _ => rfl) (fun _ => rfl) t)
    ((dat7 W c).before_in_eq_fetched 7 rfl (fun _ => rfl) (fun _ _ _ => rfl) (fun _ => rfl) t)
    _ _

end Calls

/-! ## The calls as regions -/

abbrev adm : (p : Fin 4) → (pcfgs (F := F) p).Adm := fun p => (cfgs p).toPCfg_adm

/-- The core's buffers outside every kernel's own. -/
abbrev hostRefs : Finset (DevRef τ sig) := Pipeline.ucRefs τ sig

/-- The core's buffers held at a valuation, beside what it owes the SparseCore calls from `n` on. -/
def mainAt (n : ℕ) (W : Valuation τ sig (Elt F)) (c : Dev nD) : sProp (MM F) :=
  iprop(StableHlo.held (SparseCore.T c) hostRefs W
    ∗ ∃ Wd, ⌜(K (F := F)).WBelow (SparseCore.T c) Wd (8 * n)⌝ ∗ owes (SparseCore.T c) ((K (F := F)).Otc c n) Wd)

/-- What each call's body leaves in its staging buffers. -/
def aft (W : Valuation τ sig (Elt F)) : (p : Fin 4) → (w : Fin (Pipeline.pin (pcfgs (F := F)) adm p).W) → Fin (Pipeline.pin (pcfgs (F := F)) adm p).N →
    ((Pipeline.pin (pcfgs (F := F)) adm p).win w).block.Idx → Elt F ((Pipeline.pin (pcfgs (F := F)) adm p).win w).elt
  | ⟨0, _⟩ => aft1 W
  | ⟨1, _⟩ => aft3 W
  | ⟨2, _⟩ => aft5 W
  | ⟨3, _⟩ => aft7 W

/-- The proof data of every call, from one valuation. -/
def pdats (W : Dev nD → Valuation τ sig (Elt F)) (p : Fin 4) (c : Dev nD) : Dat τ (Elt F) (HIx 4) ℕ UU ℕ (Pipeline.pin (pcfgs (F := F)) adm p) c :=
  datOf (Pipeline.pin (pcfgs (F := F)) adm p) (p.val + 1) (W c) c (aft (W c) p)

set_option backward.isDefEq.respectTransparency.types false in
/-- A call as a region over the core's buffers: entered at a valuation, left at any that has the call's arrays at
    their final contents and the rest as they were. -/
def regionOf (p : Fin 4) (n : ℕ) (W W' : Dev nD → Valuation τ sig (Elt F)) (kit : Pipeline.PLaunchFacts (nD := nD) (τ := τ) (pcfgs (F := F)) p)
    (hK : (pcfgs (F := F) p).pre.K = 0)
    (hbody : ∀ c, Pipeline.BodyObligationLoose (pdats W p c) defs₀ 𝒱₀ none Set.univ)
    (howed : ∀ c t, (pdats W p c).owed t = (K (F := F)).Otc c n)
    (hrec : ∀ c t, (pdats W p c).recorded t = {x | (K (F := F)).lev (SparseCore.T c, x.1) x.2 ≤ 8 * n})
    (hshare : ∀ c w, (pdats W p c).share w = fullShare)
    (hΦ : ∀ c t, (pdats W p c).Φ t = Pipeline.scopedRest (Pipeline.pin (pcfgs (F := F)) adm p).spec c)
    (hsub : Pipeline.arrRefs (τ := τ) (pcfgs (F := F) p).spec ⊆ hostRefs)
    (hW : ∀ c w, (pdats W p c).arrAt w 0 = W c (Proc.devRef .tc (arrRef (Pipeline.pin (pcfgs (F := F)) adm p).spec w)))
    (hW' : ∀ c w, (pdats W p c).arrAt w (Pipeline.pin (pcfgs (F := F)) adm p).N = W' c (Proc.devRef .tc (arrRef (Pipeline.pin (pcfgs (F := F)) adm p).spec w)))
    (hoff : ∀ c, ∀ b ∈ hostRefs \ Pipeline.arrRefs (τ := τ) (pcfgs (F := F) p).spec, W' c b = W c b) :
    Pipeline.RegionSeg (pcfgs (F := F)) adm (pdats W) none defs₀ 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_intro _ _ _ p c fun w s t => by
    rw [howed c t]
    exact (K (F := F)).mayWait_none _ fun g => by
      by_contra h
      have := (K (F := F)).lev_of_Otc_pos (Nat.pos_of_ne_zero h)
      rw [SparseCore.Cfg.lev_none] at this
      omega
  pre c := mainAt n (W c) c
  post c := mainAt n (W' c) c
  X _ := BI.emp
  Y _ := BI.emp
  Z c := StableHlo.held (SparseCore.T c) (hostRefs \ Pipeline.arrRefs (τ := τ) (pcfgs (F := F) p).spec) (W c)
  hentry c := by
    rw [Pipeline.ownSems0_none, Pipeline.prefHeld_of_none _ hK]
    unfold mainAt
    rw [StableHlo.held_sub_split (SparseCore.T c) hsub, ← Pipeline.arrays_held (pcfgs (F := F)) adm (pdats W) p kit c (hshare c) ((pdats W p c).arrAt · 0) (W c) (hW c)]
    iintro ⟨⟨⟨Ha, Hr⟩, %Wd, %hWd, HO⟩, -, -⟩
    imodintro
    isplitl [Ha]; · iexact Ha
    isplitr; · iempintro
    isplitl [HO]
    · unfold Dat.owesAt Pipeline.owesWithin Dat.bound
      rw [howed c 0, hrec c 0]
      iexists Wd
      isplitr; · ipureintro; exact fun x hx => Or.inl (hWd x hx)
      iexact HO
    isplitr; · iempintro
    iexact Hr
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    unfold mainAt
    rw [StableHlo.held_sub_split (SparseCore.T c) hsub (W' c), StableHlo.held_congr (SparseCore.T c) (hoff c),
      ← Pipeline.arrays_held (pcfgs (F := F)) adm (pdats W) p kit c (hshare c) ((pdats W p c).arrAt · (Pipeline.pin (pcfgs (F := F)) adm p).N) (W' c) (hW' c)]
    iintro ⟨Ha, HO, -, Hr⟩
    imodintro
    isplitl [Ha Hr]
    · isplitl [Ha]; · iexact Ha
      iexact Hr
    unfold Dat.owesAt Pipeline.owesWithin Dat.bound
    rw [howed c (Fin.last _), hrec c (Fin.last _)]
    icases HO with ⟨%Wd, %hWd, HO⟩
    iexists Wd
    isplitr
    · ipureintro
      intro x hx
      rcases hWd hx with h | ⟨w, s, h⟩
      · exact h
      · rw [h]; exact (SparseCore.Cfg.lev_none _ _).le.trans (Nat.zero_le _)
    iexact HO

theorem kits (p : Fin 4) : Pipeline.PLaunchFacts (nD := nD) (τ := τ) (pcfgs (F := F)) p :=
  match p with
  | ⟨0, _⟩ => launch1.toP
  | ⟨1, _⟩ => launch3.toP
  | ⟨2, _⟩ => launch5.toP
  | ⟨3, _⟩ => launch7.toP

variable (W : Dev nD → Valuation τ sig (Elt F))

theorem pd_body (p : Fin 4) (c : Dev nD) : Pipeline.BodyObligationLoose (pdats W p c) defs₀ 𝒱₀ none Set.univ :=
  match p with
  | ⟨0, _⟩ => (obl1 (W c) c).loose
  | ⟨1, _⟩ => (obl3 (W c) c).loose
  | ⟨2, _⟩ => (obl5 (W c) c).loose
  | ⟨3, _⟩ => (obl7 (W c) c).loose

theorem no_tables (p : Fin 4) : (pcfgs (F := F) p).pre.K = 0 := rfl

theorem arr_held (p : Fin 4) : ∀ w, (arrRef (pcfgs (F := F) p).spec w).isScoped = false := (kits (F := F) p).win.arr_unscoped

/-- The core's buffers after a call. -/
abbrev afterCall (p : Fin 4) (c : Dev nD) : Valuation τ sig (Elt F) := Pipeline.afterRegion (pdats W p c) (W c)

def region (p : Fin 4) : Pipeline.RegionSeg (pcfgs (F := F)) adm (pdats W) none defs₀ 𝒱₀ (K (F := F)).L (K (F := F)).lev p :=
  regionOf p (p.val + 1) W (afterCall W p) (kits p) (no_tables p) (pd_body W p) (fun _ _ => rfl) (fun _ _ => rfl)
    (fun c => (pdats W p c).share_full fun _ => rfl) (fun _ _ => rfl)
    (Pipeline.arrRefs_sub_ucRefs _ (arr_held p))
    (fun _ _ => rfl)
    (fun c w => (Pipeline.afterRegion_arr (pdats W p c) (W c) (kits (F := F) p).win.arr_inj w).symm)
    (fun c => Pipeline.afterRegion_off (pdats W p c) (W c) hostRefs)

/-- A call of the dense layers, run within @main. -/
theorem region_run [∀ e, Nonempty (Elt F e)] (p : Fin 4) (c : Dev nD) (Φ : PUnit → sProp (MM F)) :
    iprop(boundary (SparseCore.T c) ∗ mainAt (p.val + 1) (W c) c ∗ levAts (K (F := F)).L (K (F := F)).lev
        ∗ Pipeline.cellsGhost (Pipeline.pin (pcfgs (F := F)) adm) EP p c ∗ Pipeline.toksInit (Pipeline.pin (pcfgs (F := F)) adm) EP p c
        ∗ (iprop(boundary (SparseCore.T c) ∗ mainAt (p.val + 1) (afterCall W p c) c) -∗ Φ ⟨⟩))
      ⊢ wp frame (wpE ((K (F := F)).defs D) 𝒱 (SparseCore.T c) none) Set.univ (Prog.lift (.customCall (SparseCore.inner (Pipeline.entry p)) ())) Φ := by
  refine BI.Entails.trans ?_ ((K (F := F)).wp_liftProg (D (F := F)) 𝒱 (SparseCore.T c) Set.univ none (Prog.op (.customCall (Pipeline.entry p) ()) .ret) Φ)
  refine BI.Entails.trans ?_ ((region W p).wp (pcfgs (F := F)) adm (pdats W) none cellOf_inj EP defs₀ 𝒱₀ (K (F := F)).L (K (F := F)).lev c none (fun _ h => absurd h (by simp)) .ret Φ)
  rw [wp_ret]
  show iprop(boundary (SparseCore.T c) ∗ mainAt (p.val + 1) (W c) c ∗ levAts (K (F := F)).L (K (F := F)).lev
        ∗ Pipeline.cellsGhost (Pipeline.pin (pcfgs (F := F)) adm) EP p c ∗ Pipeline.toksInit (Pipeline.pin (pcfgs (F := F)) adm) EP p c
        ∗ (iprop(boundary (SparseCore.T c) ∗ mainAt (p.val + 1) (afterCall W p c) c) -∗ Φ ⟨⟩)) ⊢
    iprop((iprop(boundary (SparseCore.T c) ∗ mainAt (p.val + 1) (afterCall W p c) c) -∗ |={Set.univ}=> Φ ⟨⟩) ∗ boundary (SparseCore.T c) ∗ mainAt (p.val + 1) (W c) c ∗ levAts (K (F := F)).L (K (F := F)).lev
        ∗ Pipeline.cellsGhost (Pipeline.pin (pcfgs (F := F)) adm) EP p c ∗ Pipeline.toksInit (Pipeline.pin (pcfgs (F := F)) adm) EP p c)
  iintro ⟨Hb, Hm, Hl, Hg, Ht, Hk⟩
  isplitl [Hk]
  · iintro H
    imodintro
    iapply Hk $$ H
  isplitl [Hb]; · iexact Hb
  isplitl [Hm]; · iexact Hm
  isplitl [Hl]; · iexact Hl
  isplitl [Hg]; · iexact Hg
  iexact Ht

end Cert.Proof
-- ==== Proof.Launch.lean ====
/-
  The launch: @main's operations, SparseCore calls and dense-layer calls one after another, and the run from any memory.
-/
module

public import proofs.«01_k».proof.Proof.Split
public import proofs.«01_k».proof.Proof.Regions

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (arrRef)

variable {F : FTy → Type} [FloatOps F]

/-- A TensorCore buffer as the device names it. -/
abbrev dr (b : Ref sig .tc) : DevRef τ sig := Proc.devRef .tc b

theorem dr_ne {a b : Ref sig .tc} (h : a ≠ b) : dr a ≠ dr b := fun e => h (Proc.devRef_injective _ e)

/-! ## The buffers along @main -/

section Values

variable (m : (ℓ : Loc nD τ sig) → Buf (Elt F) ℓ) (d : Dev nD)

abbrev opEmb : HloOp τ sig (Elt F) :=
  StableHlo.unary main_arg1 main_v0 ((truncf .bf16 · bitsLt_bf16_f32) : (⟨S768x256, .f32⟩ : BufTy).Contents (Elt F) → (⟨S768x256, .bf16⟩ : BufTy).Contents (Elt F))
abbrev opW1 : HloOp τ sig (Elt F) :=
  StableHlo.unary main_arg2 main_v1 ((truncf .bf16 · bitsLt_bf16_f32) : (⟨S256x512, .f32⟩ : BufTy).Contents (Elt F) → (⟨S256x512, .bf16⟩ : BufTy).Contents (Elt F))
abbrev opW2 : HloOp τ sig (Elt F) :=
  StableHlo.unary main_arg4 main_v2 ((truncf .bf16 · bitsLt_bf16_f32) : (⟨S512x256, .f32⟩ : BufTy).Contents (Elt F) → (⟨S512x256, .bf16⟩ : BufTy).Contents (Elt F))
abbrev opB1 : HloOp τ sig (Elt F) := StableHlo.reshape main_arg3 main_v3 (rfl : (.f32 : EltTy) = .f32) shapeCasts_S512_S1x512
abbrev opB2 : HloOp τ sig (Elt F) := StableHlo.reshape main_arg5 main_v4 (rfl : (.f32 : EltTy) = .f32) shapeCasts_S256_S1x256
abbrev opW3 : HloOp τ sig (Elt F) := StableHlo.reshape main_arg6 main_v5 (rfl : (.f32 : EltTy) = .f32) shapeCasts_S256x1_S1x256
abbrev opB3 : HloOp τ sig (Elt F) := StableHlo.reshape main_arg7 main_v6 (rfl : (.f32 : EltTy) = .f32) shapeCasts_S1_S1x1
abbrev opOut1 : HloOp τ sig (Elt F) := StableHlo.unary main_v8 main_v10 id
abbrev opOut2 : HloOp τ sig (Elt F) := StableHlo.unary main_v10 main_v12 id
abbrev opOut3 : HloOp τ sig (Elt F) := StableHlo.unary main_v12 main_v14 id

/-- At the launch, and after each of the seven operations that lay out the weights. -/
def w0 : Valuation τ sig (Elt F) := fun b => m (d, b)
def w1 : Valuation τ sig (Elt F) := (opEmb (F := F)).result (w0 m d)
def w2 : Valuation τ sig (Elt F) := (opW1 (F := F)).result (w1 m d)
def w3 : Valuation τ sig (Elt F) := (opW2 (F := F)).result (w2 m d)
def w4 : Valuation τ sig (Elt F) := (opB1 (F := F)).result (w3 m d)
def w5 : Valuation τ sig (Elt F) := (opB2 (F := F)).result (w4 m d)
def w6 : Valuation τ sig (Elt F) := (opW3 (F := F)).result (w5 m d)
def w7 : Valuation τ sig (Elt F) := (opB3 (F := F)).result (w6 m d)

/-- After a SparseCore call, and after a dense-layer call; before one that goes on with the output so far, that output copied over. -/
def a0 : Valuation τ sig (Elt F) := Function.update (w7 m d) (dr main_v7) (cntArr (idsOf m d) 0)
def r0 : Valuation τ sig (Elt F) := afterCall (fun _ => a0 m d) 0 d
def a1 : Valuation τ sig (Elt F) := Function.update (r0 m d) (dr main_v9) (cntArr (idsOf m d) 1)
def c1 : Valuation τ sig (Elt F) := (opOut1 (F := F)).result (a1 m d)
def r1 : Valuation τ sig (Elt F) := afterCall (fun _ => c1 m d) 1 d
def a2 : Valuation τ sig (Elt F) := Function.update (r1 m d) (dr main_v11) (cntArr (idsOf m d) 2)
def c2 : Valuation τ sig (Elt F) := (opOut2 (F := F)).result (a2 m d)
def r2 : Valuation τ sig (Elt F) := afterCall (fun _ => c2 m d) 2 d
def a3 : Valuation τ sig (Elt F) := Function.update (r2 m d) (dr main_v13) (cntArr (idsOf m d) 3)
def c3 : Valuation τ sig (Elt F) := (opOut3 (F := F)).result (a3 m d)
def r3 : Valuation τ sig (Elt F) := afterCall (fun _ => c3 m d) 3 d

end Values

/-! ## What @main leaves alone -/

section Kept

/-- The buffers @main writes. -/
def made : List (Ref sig .tc) :=
  [main_v0, main_v1, main_v2, main_v3, main_v4, main_v5, main_v6, main_v7, main_v8, main_v9, main_v10, main_v11, main_v12, main_v13, main_v14]

theorem arr_made (p : Fin 4) : ∀ w, arrRef (Pipeline.pin (pcfgs (F := F)) adm p).spec w ∈ made :=
  match p with
  | ⟨0, _⟩ => show ∀ w : Fin 9, arrRef cfg1.spec w ∈ made by decide
  | ⟨1, _⟩ => show ∀ w : Fin 9, arrRef cfg3.spec w ∈ made by decide
  | ⟨2, _⟩ => show ∀ w : Fin 9, arrRef cfg5.spec w ∈ made by decide
  | ⟨3, _⟩ => show ∀ w : Fin 9, arrRef cfg7.spec w ∈ made by decide

theorem ne_of_made {r b : Ref sig .tc} (h : r ∉ made) (hb : b ∈ made) : r ≠ b := fun e => h (e ▸ hb)

variable (m : (ℓ : Loc nD τ sig) → Buf (Elt F) ℓ) (d : Dev nD) {r : Ref sig .tc} (h : r ∉ made)
include h

theorem call_arg (W : Dev nD → Valuation τ sig (Elt F)) (p : Fin 4) : afterCall W p d (dr r) = W d (dr r) :=
  Pipeline.afterRegion_of_not_arr _ _ fun w e => h (e ▸ arr_made p w)

theorem w7_arg : w7 m d (dr r) = m (d, dr r) := by
  unfold w7 w6 w5 w4 w3 w2 w1
  rw [StableHlo.reshape_result_ne _ _ _ _ _ _ _ (ne_of_made h (by decide)), StableHlo.reshape_result_ne _ _ _ _ _ _ _ (ne_of_made h (by decide)),
    StableHlo.reshape_result_ne _ _ _ _ _ _ _ (ne_of_made h (by decide)), StableHlo.reshape_result_ne _ _ _ _ _ _ _ (ne_of_made h (by decide)),
    StableHlo.unary_result_ne _ _ _ _ _ _ (ne_of_made h (by decide)), StableHlo.unary_result_ne _ _ _ _ _ _ (ne_of_made h (by decide)),
    StableHlo.unary_result_ne _ _ _ _ _ _ (ne_of_made h (by decide))]
  rfl

theorem r0_arg : r0 m d (dr r) = m (d, dr r) :=
  (call_arg d h _ 0).trans ((Function.update_of_ne (dr_ne (ne_of_made h (by decide))) _ _).trans (w7_arg m d h))
theorem r1_arg : r1 m d (dr r) = m (d, dr r) :=
  (call_arg d h _ 1).trans ((StableHlo.unary_result_ne _ _ _ _ _ _ (ne_of_made h (by decide))).trans
    ((Function.update_of_ne (dr_ne (ne_of_made h (by decide))) _ _).trans (r0_arg m d h)))
theorem r2_arg : r2 m d (dr r) = m (d, dr r) :=
  (call_arg d h _ 2).trans ((StableHlo.unary_result_ne _ _ _ _ _ _ (ne_of_made h (by decide))).trans
    ((Function.update_of_ne (dr_ne (ne_of_made h (by decide))) _ _).trans (r1_arg m d h)))
theorem r3_arg : r3 m d (dr r) = m (d, dr r) :=
  (call_arg d h _ 3).trans ((StableHlo.unary_result_ne _ _ _ _ _ _ (ne_of_made h (by decide))).trans
    ((Function.update_of_ne (dr_ne (ne_of_made h (by decide))) _ _).trans (r2_arg m d h)))

end Kept

/-! ## The steps -/

section Run

variable [∀ e, Nonempty (Elt F e)] (m : (ℓ : Loc nD τ sig) → Buf (Elt F) ℓ) (d : Dev nD) (κ : GSem nD τ sig → ℕ)

/-- A step of @main on the core. -/
abbrev wpM (d : Dev nD) (p : Prog (TpuEff nD τ sig (Elt F) (SparseCore.Sig (ΛP (F := F)) 4) .tc) PUnit) (Φ : PUnit → sProp (MM F)) : sProp (MM F) :=
  wp frame (wpE ((K (F := F)).defs (D (F := F))) 𝒱 (SparseCore.T d) none) Set.univ p Φ

theorem op_run {op : HloOp τ sig (Elt F)} (hop : op.bufs ⊆ hostRefs) (hf : op.fresh = ∅) {W W' : Valuation τ sig (Elt F)} (hW : op.result W = W') (Φ : PUnit → sProp (MM F)) :
    iprop(boundary (SparseCore.T d) ∗ held (SparseCore.T d) hostRefs W
        ∗ (iprop(boundary (SparseCore.T d) ∗ held (SparseCore.T d) hostRefs W') -∗ Φ ⟨⟩))
      ⊢ wpM (F := F) d (hlo rfl op fun _ => .ret ⟨⟩) Φ := by
  subst hW
  iintro ⟨Hb, Hh, Hk⟩
  iapply (StableHlo.wp_hlo_within 𝒱 (SparseCore.T d) none Set.univ (op := op) hop (V := W) (hf := hf)) $$ [Hb Hh]
  · isplitl [Hb] <;> iassumption
  iintro H
  rw [wp_ret]
  imodintro
  iapply Hk
  iexact H

theorem arg0_host : dr main_arg0 ∈ hostRefs := Finset.mem_filter.mpr ⟨Finset.mem_map.mpr ⟨main_arg0, Finset.mem_univ _, rfl⟩, by decide⟩

/-- A SparseCore call: its count array goes from whatever it held to the counts. -/
theorem counts_run (q : Fin 4) (b : DevRef τ sig) (hb : b ∈ hostRefs) (hne : b ≠ dr main_arg0) (Y : Buf (Elt F) ((d, b) : Loc nD τ sig))
    (hin : ∀ Z : Buf (Elt F) ((d, b) : Loc nD τ sig), ∃ X, (((d, b) : Loc nD τ sig) ↦{fullShare} Z : sProp (MM F)) = outAt d q X)
    (hout : outAt d q (cntArr (idsOf m d) q) = (((d, b) : Loc nD τ sig) ↦{fullShare} Y : sProp (MM F)))
    {W W' : Valuation τ sig (Elt F)} (hx : W (dr main_arg0) = idsOf m d) (hW' : Function.update W b Y = W') (Φ : PUnit → sProp (MM F)) :
    iprop((K (F := F)).ctx EH (P (F := F) m) κ ∗ (K (F := F)).tcSt EH d q.val ∗ held (SparseCore.T d) hostRefs W
        ∗ (iprop((K (F := F)).tcSt EH d (q.val + 1) ∗ held (SparseCore.T d) hostRefs W') -∗ Φ ⟨⟩))
      ⊢ wpM (F := F) d ((K (F := F)).run d q) Φ := by
  subst hW'
  obtain ⟨X, hX⟩ := hin (W b)
  have hmem : dr main_arg0 ∈ hostRefs.erase b := Finset.mem_erase.mpr ⟨hne.symm, arg0_host⟩
  have split : ∀ U : Valuation τ sig (Elt F), (held (SparseCore.T d) hostRefs U : sProp (MM F))
      = iprop((((d, b) : Loc nD τ sig) ↦{fullShare} U b) ∗ ((SparseCore.T d).loc main_arg0 ↦{fullShare} U (dr main_arg0))
          ∗ held (SparseCore.T d) ((hostRefs.erase b).erase (dr main_arg0)) U) := fun U => by
    unfold StableHlo.held
    rw [SparseCore.bigSep_erase' hb, SparseCore.bigSep_erase' hmem]
  have rest : (held (SparseCore.T d) ((hostRefs.erase b).erase (dr main_arg0)) (Function.update W b Y) : sProp (MM F))
      = held (SparseCore.T d) ((hostRefs.erase b).erase (dr main_arg0)) W :=
    StableHlo.held_congr (SparseCore.T d) fun r hr => Function.update_of_ne (Finset.ne_of_mem_erase (Finset.mem_of_mem_erase hr)) _ _
  rw [split W, split (Function.update W b Y), rest, Function.update_self, Function.update_of_ne hne.symm, hx, hX, ← hout, table_chunks,
    SparseCore.bigSep_erase' (Finset.mem_univ q)]
  iintro ⟨#Hctx, Hst, ⟨Ho, ⟨Hc, Hcs⟩, Hr⟩, Hk⟩
  iapply ((K (F := F)).wp_run (D (F := F)) 𝒱 (EH := EH) (P := P (F := F) m) κ d q (Φ := Φ))
  isplitr; · iexact Hctx
  isplitl [Hst]; · iexact Hst
  isplitl [Hc Ho]
  · iapply (call_in (F := F) d m q X)
    isplitl [Hc] <;> iassumption
  iintro ⟨Hst, Hdn⟩
  ihave Hdn := (call_out (F := F) d m q) $$ Hdn
  icases Hdn with ⟨Hc, Ho⟩
  iapply Hk
  isplitl [Hst]; · iexact Hst
  isplitl [Ho]; · iexact Ho
  isplitl [Hc Hcs]
  · isplitl [Hc] <;> iassumption
  iexact Hr

/-! The count arrays as the SparseCores hold them. -/

theorem out0 (Z : S4096x768.Idx → F .f32) : ((SparseCore.T d).loc main_v7 ↦{fullShare} Z : sProp (MM F)) = outAt d 0 Z :=
  have h : (owns (V d 0 0) (Memref.whole main_v7_scv) fullShare Z : sProp (MM F)) = ((SparseCore.T d).loc main_v7 ↦{fullShare} Z) := owns_whole ..
  h.symm
theorem out1 (Z : S4096x768.Idx → F .f32) : ((SparseCore.T d).loc main_v9 ↦{fullShare} Z : sProp (MM F)) = outAt d 1 Z :=
  have h : (owns (V d 0 0) (Memref.whole main_v9_scv) fullShare Z : sProp (MM F)) = ((SparseCore.T d).loc main_v9 ↦{fullShare} Z) := owns_whole ..
  h.symm
theorem out2 (Z : S4096x768.Idx → F .f32) : ((SparseCore.T d).loc main_v11 ↦{fullShare} Z : sProp (MM F)) = outAt d 2 Z :=
  have h : (owns (V d 0 0) (Memref.whole main_v11_scv) fullShare Z : sProp (MM F)) = ((SparseCore.T d).loc main_v11 ↦{fullShare} Z) := owns_whole ..
  h.symm
theorem out3 (Z : S4096x768.Idx → F .f32) : ((SparseCore.T d).loc main_v13 ↦{fullShare} Z : sProp (MM F)) = outAt d 3 Z :=
  have h : (owns (V d 0 0) (Memref.whole main_v13_scv) fullShare Z : sProp (MM F)) = ((SparseCore.T d).loc main_v13 ↦{fullShare} Z) := owns_whole ..
  h.symm

/-- What the launch deals one dense-layer call. -/
def ghost (p : Fin 4) : sProp (MM F) :=
  iprop(Pipeline.cellsGhost (Pipeline.pin (pcfgs (F := F)) adm) EP p d ∗ Pipeline.toksInit (Pipeline.pin (pcfgs (F := F)) adm) EP p d)

/-- A dense-layer call. -/
theorem layers_run (p : Fin 4) {W W' : Valuation τ sig (Elt F)} (hW : afterCall (fun _ => W) p d = W') (Φ : PUnit → sProp (MM F)) :
    iprop((K (F := F)).ctx EH (P (F := F) m) κ ∗ (K (F := F)).tcSt EH d (p.val + 1) ∗ boundary (SparseCore.T d) ∗ held (SparseCore.T d) hostRefs W ∗ ghost (F := F) d p
        ∗ (iprop((K (F := F)).tcSt EH d (p.val + 1) ∗ boundary (SparseCore.T d) ∗ held (SparseCore.T d) hostRefs W') -∗ Φ ⟨⟩))
      ⊢ wpM (F := F) d (Prog.lift (.customCall (SparseCore.inner (Pipeline.entry p)) ())) Φ := by
  subst hW
  unfold SparseCore.Cfg.tcSt ghost
  iintro ⟨#Hctx, ⟨HO, Hst⟩, Hb, Hh, ⟨Hcg, Hti⟩, Hk⟩
  ihave Hlev := (SparseCore.Cfg.ctx_levAts κ) $$ Hctx
  iapply (region_run (F := F) (fun _ => W) p d Φ)
  unfold mainAt
  isplitl [Hb]; · iexact Hb
  isplitl [Hh HO]
  · isplitl [Hh]; · iexact Hh
    iexact HO
  isplitl [Hlev]; · iexact Hlev
  isplitl [Hcg]; · iexact Hcg
  isplitl [Hti]; · iexact Hti
  iintro ⟨Hb, Hh, HO⟩
  iapply Hk
  isplitl [HO Hst]
  · isplitl [HO]; · iexact HO
    iexact Hst
  isplitl [Hb] <;> iassumption

/-! ## @main -/

/-- What @main leaves: every buffer of the core at its final contents. -/
abbrev FIN : sProp (MM F) := held (SparseCore.T d) hostRefs (r3 m d)

variable (ρ : Dev nD → PrngReg)

theorem host_arg {a b : Ref sig .tc} (ha : a.isScoped = false) (hb : b.isScoped = false) : ({dr a, dr b} : Finset (DevRef τ sig)) ⊆ hostRefs := by
  intro x hx
  rcases Finset.mem_insert.mp hx with rfl | hx
  · exact Finset.mem_filter.mpr ⟨Finset.mem_map.mpr ⟨a, Finset.mem_univ _, rfl⟩, by simpa using ha⟩
  · rw [Finset.mem_singleton.mp hx]
    exact Finset.mem_filter.mpr ⟨Finset.mem_map.mpr ⟨b, Finset.mem_univ _, rfl⟩, by simpa using hb⟩

theorem host_one {a : Ref sig .tc} (ha : a.isScoped = false) : dr a ∈ hostRefs :=
  host_arg ha ha (Finset.mem_insert_self _ _)

set_option maxHeartbeats 4000000 in
theorem hmain (κ : GSem nD τ sig → ℕ) (d : Dev nD) :
    iprop((K (F := F)).ctx EH (P (F := F) m) κ ∗ (K (F := F)).tcSt EH d 0 ∗ (K (F := F)).tcRes m ρ d ∗ bigSep Finset.univ fun p => ghost (F := F) d p)
      ⊢ wpM (F := F) d (main d) fun _ => iprop((K (F := F)).tcSt EH d 4 ∗ FIN m d ∗ (K (F := F)).tcEnd d) := by
  unfold SparseCore.Cfg.tcRes SparseCore.Cfg.tcEnd
  rw [show (unscopedBufs d (fun b => m ((SparseCore.T d).loc b)) : sProp (MM F)) = held (SparseCore.T d) hostRefs (w0 m d) from Pipeline.unscopedBufs_held d (w0 m d),
    bigSep_fin4]
  unfold wpM
  simp only [main, wp_bind, wp_pure]
  iintro ⟨#Hctx, Hst, ⟨Hb, Hh, Hts, -⟩, Hg0, Hg1, Hg2, Hg3⟩
  -- the weights
  iapply (op_run (F := F) d (op := opEmb) (host_arg rfl rfl) rfl (W' := w1 m d) rfl)
  isplitl [Hb]; · iexact Hb
  isplitl [Hh]; · iexact Hh
  iintro ⟨Hb, Hh⟩
  iapply (op_run (F := F) d (op := opW1) (host_arg rfl rfl) rfl (W' := w2 m d) rfl)
  isplitl [Hb]; · iexact Hb
  isplitl [Hh]; · iexact Hh
  iintro ⟨Hb, Hh⟩
  iapply (op_run (F := F) d (op := opW2) (host_arg rfl rfl) rfl (W' := w3 m d) rfl)
  isplitl [Hb]; · iexact Hb
  isplitl [Hh]; · iexact Hh
  iintro ⟨Hb, Hh⟩
  iapply (op_run (F := F) d (op := opB1) (host_arg rfl rfl) rfl (W' := w4 m d) rfl)
  isplitl [Hb]; · iexact Hb
  isplitl [Hh]; · iexact Hh
  iintro ⟨Hb, Hh⟩
  iapply (op_run (F := F) d (op := opB2) (host_arg rfl rfl) rfl (W' := w5 m d) rfl)
  isplitl [Hb]; · iexact Hb
  isplitl [Hh]; · iexact Hh
  iintro ⟨Hb, Hh⟩
  iapply (op_run (F := F) d (op := opW3) (host_arg rfl rfl) rfl (W' := w6 m d) rfl)
  isplitl [Hb]; · iexact Hb
  isplitl [Hh]; · iexact Hh
  iintro ⟨Hb, Hh⟩
  iapply (op_run (F := F) d (op := opB3) (host_arg rfl rfl) rfl (W' := w7 m d) rfl)
  isplitl [Hb]; · iexact Hb
  isplitl [Hh]; · iexact Hh
  iintro ⟨Hb, Hh⟩
  -- the first chunk
  iapply (counts_run (F := F) m d κ 0 (dr main_v7) (host_one rfl) (dr_ne (by decide)) (cntArr (idsOf m d) 0) (fun Z => ⟨Z, out0 d Z⟩) (out0 d _).symm
    (W' := a0 m d) (w7_arg m d (by decide)) rfl)
  isplitr; · iexact Hctx
  isplitl [Hst]; · iexact Hst
  isplitl [Hh]; · iexact Hh
  iintro ⟨Hst, Hh⟩
  iapply (layers_run (F := F) m d κ 0 (W' := r0 m d) rfl)
  isplitr; · iexact Hctx
  isplitl [Hst]; · iexact Hst
  isplitl [Hb]; · iexact Hb
  isplitl [Hh]; · iexact Hh
  isplitl [Hg0]; · iexact Hg0
  iintro ⟨Hst, Hb, Hh⟩
  -- the second
  iapply (counts_run (F := F) m d κ 1 (dr main_v9) (host_one rfl) (dr_ne (by decide)) (cntArr (idsOf m d) 1) (fun Z => ⟨Z, out1 d Z⟩) (out1 d _).symm
    (W' := a1 m d) (r0_arg m d (by decide)) rfl)
  isplitr; · iexact Hctx
  isplitl [Hst]; · iexact Hst
  isplitl [Hh]; · iexact Hh
  iintro ⟨Hst, Hh⟩
  iapply (op_run (F := F) d (op := opOut1) (host_arg rfl rfl) rfl (W' := c1 m d) rfl)
  isplitl [Hb]; · iexact Hb
  isplitl [Hh]; · iexact Hh
  iintro ⟨Hb, Hh⟩
  iapply (layers_run (F := F) m d κ 1 (W' := r1 m d) rfl)
  isplitr; · iexact Hctx
  isplitl [Hst]; · iexact Hst
  isplitl [Hb]; · iexact Hb
  isplitl [Hh]; · iexact Hh
  isplitl [Hg1]; · iexact Hg1
  iintro ⟨Hst, Hb, Hh⟩
  -- the third
  iapply (counts_run (F := F) m d κ 2 (dr main_v11) (host_one rfl) (dr_ne (by decide)) (cntArr (idsOf m d) 2) (fun Z => ⟨Z, out2 d Z⟩) (out2 d _).symm
    (W' := a2 m d) (r1_arg m d (by decide)) rfl)
  isplitr; · iexact Hctx
  isplitl [Hst]; · iexact Hst
  isplitl [Hh]; · iexact Hh
  iintro ⟨Hst, Hh⟩
  iapply (op_run (F := F) d (op := opOut2) (host_arg rfl rfl) rfl (W' := c2 m d) rfl)
  isplitl [Hb]; · iexact Hb
  isplitl [Hh]; · iexact Hh
  iintro ⟨Hb, Hh⟩
  iapply (layers_run (F := F) m d κ 2 (W' := r2 m d) rfl)
  isplitr; · iexact Hctx
  isplitl [Hst]; · iexact Hst
  isplitl [Hb]; · iexact Hb
  isplitl [Hh]; · iexact Hh
  isplitl [Hg2]; · iexact Hg2
  iintro ⟨Hst, Hb, Hh⟩
  -- the fourth
  iapply (counts_run (F := F) m d κ 3 (dr main_v13) (host_one rfl) (dr_ne (by decide)) (cntArr (idsOf m d) 3) (fun Z => ⟨Z, out3 d Z⟩) (out3 d _).symm
    (W' := a3 m d) (r2_arg m d (by decide)) rfl)
  isplitr; · iexact Hctx
  isplitl [Hst]; · iexact Hst
  isplitl [Hh]; · iexact Hh
  iintro ⟨Hst, Hh⟩
  iapply (op_run (F := F) d (op := opOut3) (host_arg rfl rfl) rfl (W' := c3 m d) rfl)
  isplitl [Hb]; · iexact Hb
  isplitl [Hh]; · iexact Hh
  iintro ⟨Hb, Hh⟩
  iapply (layers_run (F := F) m d κ 3 (W' := r3 m d) rfl)
  isplitr; · iexact Hctx
  isplitl [Hst]; · iexact Hst
  isplitl [Hb]; · iexact Hb
  isplitl [Hh]; · iexact Hh
  isplitl [Hg3]; · iexact Hg3
  iintro ⟨Hst, Hb, Hh⟩
  imodintro
  isplitl [Hst]; · iexact Hst
  isplitl [Hh]; · iexact Hh
  isplitl [Hb] <;> iassumption

/-! ## The launch -/

/-- What the launch deals: the handshakes' rounds, the pipelines' rounds, and no counter of a local transfer. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The pipelines' share of the algebra, the same through either embedding. -/
theorem own_pipes (x : UR) : (BI.own (((Emb.inl : Emb UR (UR × Counters)).trans embR) x) : sProp (MM F)) = BI.own (EP x) := rfl

theorem hu₀ : (ownU (u₀ (F := F)) : sProp (MM F))
    ⊢ |={Set.univ}=> iprop(BI.own (EH (initOf (K (F := F)).hsCells (K (F := F)).hsToks)) ∗ (bigSep Finset.univ fun d : Dev nD => bigSep Finset.univ fun p => ghost (F := F) d p)
        ∗ bigSep Finset.univ fun thr : Thread nD τ => bigSep Finset.univ fun q : Fin 4 => (P (F := F) m).x q thr) := by
  unfold u₀
  iintro Hu
  ihave H := (ownU_pair _ _) $$ Hu
  icases H with ⟨HH, HP⟩
  ihave HP := (own_pair_emb _ _ _) $$ HP
  icases HP with ⟨HP, -⟩
  ihave HP := (ent_eq (own_pipes (F := F) _)) $$ HP
  imod (Pipeline.fund_ghost (Pipeline.pin (pcfgs (F := F)) adm) EP cellOf_inj) $$ HP with ⟨Hc, Ht⟩
  imodintro
  isplitl [HH]; · iexact HH
  isplitl [Hc Ht]
  · unfold ghost
    simp only [bigSep_sep']
    isplitl [Hc] <;> iassumption
  rw [show (bigSep Finset.univ fun thr : Thread nD τ => bigSep Finset.univ fun q : Fin 4 => (P (F := F) m).x q thr : sProp (MM F)) = iprop(emp) from
    (bigSep_congr fun _ _ => bigSep_emp_const _).trans (bigSep_emp_const _)]
  iempintro

theorem hfin (s' : Phys nD τ sig (Elt F)) : iprop(FIN m d ∗ SI s') ⊢ (⌜∀ b ∈ hostRefs, s'.mem.mem ((d, b) : Loc nD τ sig) = r3 m d b⌝ : sProp (MM F)) :=
  BIBase.Entails.trans BI.sep_comm (SI_pointsTo_bufs_agree hostRefs)

theorem scKind_vec (q : Fin 4) : (K (F := F)).kind q = .scVector :=
  match q with
  | 0 => rfl
  | 1 => rfl
  | 2 => rfl
  | 3 => rfl

/-- The program from any memory whose index words name features: every buffer of a core ends at its final contents, the semaphores at zero. -/
theorem run_main (hx : ∀ d j, (idsOf m d j).toNat < 768) :
    θ_run (Cert.KernelIdeal.defs (F := F)) Cert.KernelIdeal.threads ⟨m, fun _ => 0, ρ⟩
      (fun r => (∀ d, ∀ b ∈ hostRefs, r.2.mem ((d, b) : Loc nD τ sig) = r3 m d b) ∧ r.2.sem = fun _ => 0) :=
  SparseCore.Cfg.θ_run_sc_quiescent (K := K (F := F)) (D := D (F := F)) (𝒱 := 𝒱) (EH := EH) (P := P (F := F) m) (A := ∅) facts v₀
    (fun q h => absurd ((scKind_vec q).symm.trans h) (by decide)) (fun q _ => tile_obl m hx q) (fun q _ => vec_split m q)
    m ρ main (fun d => bigSep Finset.univ fun p => ghost (F := F) d p) (FIN m) u₀ (sep_elim_left.trans (hu₀ m)) (hmain m ρ)
    (fun d s' => ∀ b ∈ hostRefs, s'.mem.mem ((d, b) : Loc nD τ sig) = r3 m d b) (fun d s' => hfin m d s')
    (fun r => (∀ d, ∀ b ∈ hostRefs, r.2.mem ((d, b) : Loc nD τ sig) = r3 m d b) ∧ r.2.sem = fun _ => 0) (fun _ h hz => ⟨h, hz⟩)

end Run

end Cert.Proof
-- ==== Proof.Same.lean ====
/-
  The kernel over the float words and the kernel over the extended reals are one program: the body tables of the two
  printed programs are equal, label by label. What is proved of the second's run over any floats is so proved of the
  first's.
-/
module

public import proofs.«01_k».proof.Proof.Gen.Kernel
public import proofs.«01_k».proof.Proof.Gen.KernelIdeal

@[expose] public section

noncomputable section

namespace Cert.Proof

open Idealize.ShloMosaic Idealize.SL.Sem
open Cert.Kernel.Gen Cert.KernelIdeal.Gen

variable {F : FTy → Type} [FloatOps F]

set_option maxHeartbeats 8000000 in
/-- The two programs' kernels, label by label. -/
theorem bodies_eq : Cert.Kernel.defs₀ (F := F) = Cert.KernelIdeal.defs₀ (F := F) := by
  funext p l a
  rcases p with _ | _ | _ <;> fin_cases l <;> rfl

set_option maxHeartbeats 8000000 in
/-- The two programs' body tables. -/
theorem defs_eq : Cert.Kernel.defs (F := F) = Cert.KernelIdeal.defs (F := F) :=
  congrArg (fun D => Cert.KernelIdeal.sc.defs (Pipeline.defs Cert.KernelIdeal.pcfgs D)) bodies_eq

end Cert.Proof
-- ==== Proof.Frames.lean ====
/-
  The frames: the precondition read as a bound on the index words, and each program's run with its arguments unchanged.
-/
module

public import proofs.«01_k».proof.Proof.Launch
public import proofs.«01_k».proof.Proof.Same
public import proofs.«01_k».proof.Proof.Gen.Pre_in_range
public import proofs.«01_k».proof.Proof.Gen.Kernel
public import proofs.«01_k».proof.Proof.Gen.ReferenceIdeal.Run
public import Idealize.ShloMosaic.Lib.ReduceAll

@[expose] public section

noncomputable section

namespace Cert.Proof

open Cert.KernelIdeal Cert.KernelIdeal.Gen
open Idealize.ShloMosaic
open Idealize.ShloMosaic.TcCoe
open Idealize.SL.Sem

variable {F : FTy → Type} [FloatOps F]

/-- An index word that is at least 0 and below 768, signed, is below 768 unsigned. -/
theorem word_lt (v : BitVec 32) (h0 : 0 ≤ v.toInt) (h1 : v.toInt < 768) : v.toNat < 768 := by
  rw [BitVec.toInt_eq_toNat_cond] at h0 h1
  have := v.isLt
  split at h0 <;> omega

/-- Under the precondition every index word names a feature. -/
theorem ids_lt (x : IVec S16384x32 32) (a1 : FVec F S768x256 .f32) (a2 : FVec F S256x512 .f32) (a3 : FVec F S512 .f32) (a4 : FVec F S512x256 .f32) (a5 : FVec F S256 .f32)
    (a6 : FVec F S256x1 .f32) (a7 : FVec F S1 .f32)
    (h : Cert.Pre_in_range.fn (F := F) x a1 a2 a3 a4 a5 a6 a7 = fun _ => 1#1) (j : S16384x32.Idx) : (x j).toNat < 768 := by
  have e := Host.reduce_andi_all _ _ _ _ _ (congrFun h default) j
  have e' := IntOp.andi_eq_one.1 e
  exact word_lt _ (IntOp.cmpi_sge.1 e'.1) (IntOp.cmpi_slt.1 e'.2)

/-- The arguments, at the end of the kernel's run, as they were. -/
theorem args_kept {m : (ℓ : Loc nD τ sig) → Buf (Elt F) ℓ} {s' : MemSt nD τ sig (Elt F)}
    (h : ∀ d, ∀ b ∈ hostRefs, s'.mem ((d, b) : Loc nD τ sig) = r3 m d b) (d : Dev nD) {r : Ref sig .tc} (hs : r.isScoped = false) (hr : r ∉ made) :
    s'.mem ((d.tc : Thread nD τ).loc r) = m ((d.tc : Thread nD τ).loc r) :=
  (h d (dr r) (host_one hs)).trans (r3_arg m d hr)

theorem args_all {m : (ℓ : Loc nD τ sig) → Buf (Elt F) ℓ} {s' : MemSt nD τ sig (Elt F)}
    (h : ∀ d, ∀ b ∈ hostRefs, s'.mem ((d, b) : Loc nD τ sig) = r3 m d b) (d : Dev nD) :
    s'.mem ((d.tc : Thread nD τ).loc main_arg0) = m ((d.tc : Thread nD τ).loc main_arg0)
    ∧ s'.mem ((d.tc : Thread nD τ).loc main_arg1) = m ((d.tc : Thread nD τ).loc main_arg1)
    ∧ s'.mem ((d.tc : Thread nD τ).loc main_arg2) = m ((d.tc : Thread nD τ).loc main_arg2)
    ∧ s'.mem ((d.tc : Thread nD τ).loc main_arg3) = m ((d.tc : Thread nD τ).loc main_arg3)
    ∧ s'.mem ((d.tc : Thread nD τ).loc main_arg4) = m ((d.tc : Thread nD τ).loc main_arg4)
    ∧ s'.mem ((d.tc : Thread nD τ).loc main_arg5) = m ((d.tc : Thread nD τ).loc main_arg5)
    ∧ s'.mem ((d.tc : Thread nD τ).loc main_arg6) = m ((d.tc : Thread nD τ).loc main_arg6)
    ∧ s'.mem ((d.tc : Thread nD τ).loc main_arg7) = m ((d.tc : Thread nD τ).loc main_arg7) :=
  ⟨args_kept h d rfl (by decide), args_kept h d rfl (by decide), args_kept h d rfl (by decide), args_kept h d rfl (by decide),
    args_kept h d rfl (by decide), args_kept h d rfl (by decide), args_kept h d rfl (by decide), args_kept h d rfl (by decide)⟩

theorem frame_kernelIdeal : Cert.quiescent_KernelIdeal := fun m ρ hp =>
  (θ_run Cert.KernelIdeal.defs _ _).mono (fun _ h => ⟨args_all h.1, h.2⟩) (run_main (F := Ideal) m ρ fun d => ids_lt _ _ _ _ _ _ _ _ (hp d))

set_option maxHeartbeats 4000000 in
theorem frame_kernel : Cert.quiescent_Kernel := by
  intro m ρ hp
  have h := (θ_run Cert.KernelIdeal.defs _ _).mono (fun _ h => And.intro (args_all h.1) h.2) (run_main (F := Bits) m ρ fun d => ids_lt _ _ _ _ _ _ _ _ (hp d))
  exact (congrArg (fun D => θ_run D (Cert.KernelIdeal.threads (F := Bits)) ⟨m, fun _ => 0, ρ⟩ _) defs_eq).mpr h

/-- The reference's run: from the printed program's operations, one after another. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Blocks.lean ====
/-
  What each dense-layer call leaves in its output array: the layers of its 4096 counted samples on its own rows, and on
  the others what the array held.
-/
module

public import proofs.«01_k».proof.Proof.Launch
public import Idealize.ShloMosaic.Lib.Pipeline.ValueKit

@[expose] public section

noncomputable section

namespace Cert.Proof

open Cert.KernelIdeal Cert.KernelIdeal.Gen
open Idealize.ShloMosaic hiding ix2
open Idealize.ShloMosaic.ValueIdx
open Idealize.ShloMosaic.Pipeline Idealize.SL.Sem

variable {F : FTy → Type} [FloatOps F]

/-- The output at an index: the layers of the index's block of 1024 counted samples, at its row in the block. -/
def denseOut (X : Vec F S4096x768 .f32) (E : Vec F S768x256 .bf16) (W1 : Vec F S256x512 .bf16) (b1 : Vec F S1x512 .f32) (W2 : Vec F S512x256 .bf16)
    (b2 w3 : Vec F S1x256 .f32) (b3 : Vec F S1x1 .f32) (i : S16384x1.Idx) : F .f32 :=
  k1_pay1 (fun y => X (ix2 ⟨(i 0).val / 1024 % 4 * 1024 + (y 0).val, by have := idx2_lt0 y; omega⟩ (y 1))) E W1 b1 W2 b2 w3 b3
    (ix2 ⟨(i 0).val % 1024, Nat.mod_lt _ (by decide)⟩ 0)

/-- A block's layers are the output's, at an index in the block's rows. -/
theorem denseOut_block {X : Vec F S4096x768 .f32} {E E' : Vec F S768x256 .bf16} {W1 W1' : Vec F S256x512 .bf16} {b1 b1' : Vec F S1x512 .f32}
    {W2 W2' : Vec F S512x256 .bf16} {b2 b2' w3 w3' : Vec F S1x256 .f32} {b3 b3' : Vec F S1x1 .f32} {C : Vec F S1024x768 .f32} (p : ℕ) {t : ℕ} (ht : t < 4)
    (hC : ∀ y, C y = X (ix2 ⟨t * 1024 + (y 0).val, by have := idx2_lt0 y; omega⟩ (y 1))) (hE : E' = E) (hW1 : W1' = W1) (hb1 : b1' = b1) (hW2 : W2' = W2)
    (hb2 : b2' = b2) (hw3 : w3' = w3) (hb3 : b3' = b3) (y : S1024x1.Idx) (i : S16384x1.Idx) (hi : (i 0).val = (4 * p + t) * 1024 + (y 0).val) :
    k1_pay1 C E' W1' b1' W2' b2' w3' b3' y = denseOut X E W1 b1 W2 b2 w3 b3 i := by
  subst hE hW1 hb1 hW2 hb2 hw3 hb3
  have hy := idx2_lt0 y
  have hi1 : (i 0).val / 1024 % 4 = t := by omega
  have hi2 : (i 0).val % 1024 = (y 0).val := by omega
  unfold denseOut
  congr 1
  · funext z
    rw [hC z]
    exact congrArg (fun a => X (ix2 a (z 1))) (Fin.ext (by show t * 1024 + _ = (i 0).val / 1024 % 4 * 1024 + _; rw [hi1]))
  · rw [ValueIdx.eq_ix2 y]
    have h1 := idx2_lt1 y
    exact congrArg₂ ix2 (Fin.ext hi2.symm) (Fin.ext (by show (y 1).val = 0; omega))

/-- The output after the call of a chunk: on the chunk's 4096 rows the layers of its counts, on the others what it was.
    The seven weight arrays are read from a valuation of the core's buffers. -/
def denseArr (W : Valuation τ sig (Elt F)) (p : ℕ) (X : Vec F S4096x768 .f32) (Y : Vec F S16384x1 .f32) : Vec F S16384x1 .f32 := fun i =>
  if (i 0).val / 1024 / 4 = p then
    denseOut X (W (dr main_v0)) (W (dr main_v1)) (W (dr main_v3)) (W (dr main_v2)) (W (dr main_v4)) (W (dr main_v5)) (W (dr main_v6)) i
  else Y i

/-! ## The first call -/

theorem moving1 : ∀ t : Fin cfg1.N, win1_0.index t = ![t.val, 0] ∧ win1_8.index t = ![t.val, 0] := (by decide +kernel : ∀ t : Fin grid1.N, _)
theorem still1 : ∀ t : Fin cfg1.N, win1_1.index t = ![0, 0] ∧ win1_2.index t = ![0, 0] ∧ win1_3.index t = ![0, 0] ∧ win1_4.index t = ![0, 0]
    ∧ win1_5.index t = ![0, 0] ∧ win1_6.index t = ![0, 0] ∧ win1_7.index t = ![0, 0] := (by decide +kernel : ∀ t : Fin grid1.N, _)
theorem covers1 : (cfg1.win 8).CoversWhere (fun β => β (0 : Fin 2) / 4 = 0) := by decide +kernel

theorem block1 (W : Valuation τ sig (Elt F)) (t : Fin cfg1.N) (y : S1024x1.Idx) :
    aft1 W 8 t y = denseOut (W (dr main_v7)) (W (dr main_v0)) (W (dr main_v1)) (W (dr main_v3)) (W (dr main_v2)) (W (dr main_v4)) (W (dr main_v5)) (W (dr main_v6))
      ((win1_8.blk t).view.emb y) := by
  obtain ⟨h0, h8⟩ := moving1 t
  obtain ⟨h1, h2, h3, h4, h5, h6, h7⟩ := still1 t
  refine denseOut_block 0 t.isLt ?_ ?_ ?_ ?_ ?_ ?_ ?_ ?_ y _ ?_
  · intro z; refine congrArg (W (dr main_v7)) ?_; blk_ext [h0]
  · funext z; refine congrArg (W (dr main_v0)) ?_; blk_ext [h1]
  · funext z; refine congrArg (W (dr main_v1)) ?_; blk_ext [h2]
  · funext z; refine congrArg (W (dr main_v3)) ?_; blk_ext [h3]
  · funext z; refine congrArg (W (dr main_v2)) ?_; blk_ext [h4]
  · funext z; refine congrArg (W (dr main_v4)) ?_; blk_ext [h5]
  · funext z; refine congrArg (W (dr main_v5)) ?_; blk_ext [h6]
  · funext z; refine congrArg (W (dr main_v6)) ?_; blk_ext [h7]
  · blk_simp [h8]; omega

theorem after1 (W : Dev nD → Valuation τ sig (Elt F)) (c : Dev nD) :
    afterCall W 0 c (dr main_v8) = denseArr (W c) 0 (W c (dr main_v7)) (W c (dr main_v8)) :=
  (Pipeline.afterRegion_arr (pdats W 0 c) (W c) (kits (F := F) 0).win.arr_inj (8 : Fin 9)).trans
    ((dat1 (W c) c).arrAt_eq_of_coversWhere 8
      (denseOut (W c (dr main_v7)) (W c (dr main_v0)) (W c (dr main_v1)) (W c (dr main_v3)) (W c (dr main_v2)) (W c (dr main_v4)) (W c (dr main_v5)) (W c (dr main_v6)))
      (fun β => β (0 : Fin 2) / 4 = 0) covers1 (fun t _ y => block1 (W c) t y) (fun _ => Iff.rfl))

/-! ## The second call -/

theorem moving3 : ∀ t : Fin cfg3.N, win3_0.index t = ![t.val, 0] ∧ win3_8.index t = ![4 + t.val, 0] := (by decide +kernel : ∀ t : Fin grid3.N, _)
theorem still3 : ∀ t : Fin cfg3.N, win3_1.index t = ![0, 0] ∧ win3_2.index t = ![0, 0] ∧ win3_3.index t = ![0, 0] ∧ win3_4.index t = ![0, 0]
    ∧ win3_5.index t = ![0, 0] ∧ win3_6.index t = ![0, 0] ∧ win3_7.index t = ![0, 0] := (by decide +kernel : ∀ t : Fin grid3.N, _)
theorem covers3 : (cfg3.win 8).CoversWhere (fun β => β (0 : Fin 2) / 4 = 1) := by decide +kernel

theorem block3 (W : Valuation τ sig (Elt F)) (t : Fin cfg3.N) (y : S1024x1.Idx) :
    aft3 W 8 t y = denseOut (W (dr main_v9)) (W (dr main_v0)) (W (dr main_v1)) (W (dr main_v3)) (W (dr main_v2)) (W (dr main_v4)) (W (dr main_v5)) (W (dr main_v6))
      ((win3_8.blk t).view.emb y) := by
  obtain ⟨h0, h8⟩ := moving3 t
  obtain ⟨h1, h2, h3, h4, h5, h6, h7⟩ := still3 t
  refine denseOut_block 1 t.isLt ?_ ?_ ?_ ?_ ?_ ?_ ?_ ?_ y _ ?_
  · intro z; refine congrArg (W (dr main_v9)) ?_; blk_ext [h0]
  · funext z; refine congrArg (W (dr main_v0)) ?_; blk_ext [h1]
  · funext z; refine congrArg (W (dr main_v1)) ?_; blk_ext [h2]
  · funext z; refine congrArg (W (dr main_v3)) ?_; blk_ext [h3]
  · funext z; refine congrArg (W (dr main_v2)) ?_; blk_ext [h4]
  · funext z; refine congrArg (W (dr main_v4)) ?_; blk_ext [h5]
  · funext z; refine congrArg (W (dr main_v5)) ?_; blk_ext [h6]
  · funext z; refine congrArg (W (dr main_v6)) ?_; blk_ext [h7]
  · blk_simp [h8]

theorem after3 (W : Dev nD → Valuation τ sig (Elt F)) (c : Dev nD) :
    afterCall W 1 c (dr main_v10) = denseArr (W c) 1 (W c (dr main_v9)) (W c (dr main_v10)) :=
  (Pipeline.afterRegion_arr (pdats W 1 c) (W c) (kits (F := F) 1).win.arr_inj (8 : Fin 9)).trans
    ((dat3 (W c) c).arrAt_eq_of_coversWhere 8
      (denseOut (W c (dr main_v9)) (W c (dr main_v0)) (W c (dr main_v1)) (W c (dr main_v3)) (W c (dr main_v2)) (W c (dr main_v4)) (W c (dr main_v5)) (W c (dr main_v6)))
      (fun β => β (0 : Fin 2) / 4 = 1) covers3 (fun t _ y => block3 (W c) t y) (fun _ => Iff.rfl))

/-! ## The third call -/

theorem moving5 : ∀ t : Fin cfg5.N, win5_0.index t = ![t.val, 0] ∧ win5_8.index t = ![8 + t.val, 0] := (by decide +kernel : ∀ t : Fin grid5.N, _)
theorem still5 : ∀ t : Fin cfg5.N, win5_1.index t = ![0, 0] ∧ win5_2.index t = ![0, 0] ∧ win5_3.index t = ![0, 0] ∧ win5_4.index t = ![0, 0]
    ∧ win5_5.index t = ![0, 0] ∧ win5_6.index t = ![0, 0] ∧ win5_7.index t = ![0, 0] := (by decide +kernel : ∀ t : Fin grid5.N, _)
theorem covers5 : (cfg5.win 8).CoversWhere (fun β => β (0 : Fin 2) / 4 = 2) := by decide +kernel

theorem block5 (W : Valuation τ sig (Elt F)) (t : Fin cfg5.N) (y : S1024x1.Idx) :
    aft5 W 8 t y = denseOut (W (dr main_v11)) (W (dr main_v0)) (W (dr main_v1)) (W (dr main_v3)) (W (dr main_v2)) (W (dr main_v4)) (W (dr main_v5)) (W (dr main_v6))
      ((win5_8.blk t).view.emb y) := by
  obtain ⟨h0, h8⟩ := moving5 t
  obtain ⟨h1, h2, h3, h4, h5, h6, h7⟩ := still5 t
  refine denseOut_block 2 t.isLt ?_ ?_ ?_ ?_ ?_ ?_ ?_ ?_ y _ ?_
  · intro z; refine congrArg (W (dr main_v11)) ?_; blk_ext [h0]
  · funext z; refine congrArg (W (dr main_v0)) ?_; blk_ext [h1]
  · funext z; refine congrArg (W (dr main_v1)) ?_; blk_ext [h2]
  · funext z; refine congrArg (W (dr main_v3)) ?_; blk_ext [h3]
  · funext z; refine congrArg (W (dr main_v2)) ?_; blk_ext [h4]
  · funext z; refine congrArg (W (dr main_v4)) ?_; blk_ext [h5]
  · funext z; refine congrArg (W (dr main_v5)) ?_; blk_ext [h6]
  · funext z; refine congrArg (W (dr main_v6)) ?_; blk_ext [h7]
  · blk_simp [h8]

theorem after5 (W : Dev nD → Valuation τ sig (Elt F)) (c : Dev nD) :
    afterCall W 2 c (dr main_v12) = denseArr (W c) 2 (W c (dr main_v11)) (W c (dr main_v12)) :=
  (Pipeline.afterRegion_arr (pdats W 2 c) (W c) (kits (F := F) 2).win.arr_inj (8 : Fin 9)).trans
    ((dat5 (W c) c).arrAt_eq_of_coversWhere 8
      (denseOut (W c (dr main_v11)) (W c (dr main_v0)) (W c (dr main_v1)) (W c (dr main_v3)) (W c (dr main_v2)) (W c (dr main_v4)) (W c (dr main_v5)) (W c (dr main_v6)))
      (fun β => β (0 : Fin 2) / 4 = 2) covers5 (fun t _ y => block5 (W c) t y) (fun _ => Iff.rfl))

/-! ## The fourth call -/

theorem moving7 : ∀ t : Fin cfg7.N, win7_0.index t = ![t.val, 0] ∧ win7_8.index t = ![12 + t.val, 0] := (by decide +kernel : ∀ t : Fin grid7.N, _)
theorem still7 : ∀ t : Fin cfg7.N, win7_1.index t = ![0, 0] ∧ win7_2.index t = ![0, 0] ∧ win7_3.index t = ![0, 0] ∧ win7_4.index t = ![0, 0]
    ∧ win7_5.index t = ![0, 0] ∧ win7_6.index t = ![0, 0] ∧ win7_7.index t = ![0, 0] := (by decide +kernel : ∀ t : Fin grid7.N, _)
theorem covers7 : (cfg7.win 8).CoversWhere (fun β => β (0 : Fin 2) / 4 = 3) := by decide +kernel

theorem block7 (W : Valuation τ sig (Elt F)) (t : Fin cfg7.N) (y : S1024x1.Idx) :
    aft7 W 8 t y = denseOut (W (dr main_v13)) (W (dr main_v0)) (W (dr main_v1)) (W (dr main_v3)) (W (dr main_v2)) (W (dr main_v4)) (W (dr main_v5)) (W (dr main_v6))
      ((win7_8.blk t).view.emb y) := by
  obtain ⟨h0, h8⟩ := moving7 t
  obtain ⟨h1, h2, h3, h4, h5, h6, h7⟩ := still7 t
  refine denseOut_block 3 t.isLt ?_ ?_ ?_ ?_ ?_ ?_ ?_ ?_ y _ ?_
  · intro z; refine congrArg (W (dr main_v13)) ?_; blk_ext [h0]
  · funext z; refine congrArg (W (dr main_v0)) ?_; blk_ext [h1]
  · funext z; refine congrArg (W (dr main_v1)) ?_; blk_ext [h2]
  · funext z; refine congrArg (W (dr main_v3)) ?_; blk_ext [h3]
  · funext z; refine congrArg (W (dr main_v2)) ?_; blk_ext [h4]
  · funext z; refine congrArg (W (dr main_v4)) ?_; blk_ext [h5]
  · funext z; refine congrArg (W (dr main_v5)) ?_; blk_ext [h6]
  · funext z; refine congrArg (W (dr main_v6)) ?_; blk_ext [h7]
  · blk_simp [h8]

theorem after7 (W : Dev nD → Valuation τ sig (Elt F)) (c : Dev nD) :
    afterCall W 3 c (dr main_v14) = denseArr (W c) 3 (W c (dr main_v13)) (W c (dr main_v14)) :=
  (Pipeline.afterRegion_arr (pdats W 3 c) (W c) (kits (F := F) 3).win.arr_inj (8 : Fin 9)).trans
    ((dat7 (W c) c).arrAt_eq_of_coversWhere 8
      (denseOut (W c (dr main_v13)) (W c (dr main_v0)) (W c (dr main_v1)) (W c (dr main_v3)) (W c (dr main_v2)) (W c (dr main_v4)) (W c (dr main_v5)) (W c (dr main_v6)))
      (fun β => β (0 : Fin 2) / 4 = 3) covers7 (fun t _ y => block7 (W c) t y) (fun _ => Iff.rfl))

end Cert.Proof

end

end
-- ==== Proof.Layers.lean ====
/-
  The mathematics of one sample over the extended reals: the bag of its table rows, the two dense layers and the last
  product. And the counts: a row of the histogram, multiplied with the table, is the bag.
-/
module

public import proofs.«01_k».proof.Proof.Count
public import Idealize.ShloMosaic.Lib.ValueIdxCore
public import Idealize.ShloMosaic.PureOps.Ideal.Laws

@[expose] public section

noncomputable section

namespace Cert.Proof

open Cert.KernelIdeal Cert.KernelIdeal.Gen
open Idealize.ShloMosaic Idealize.ShloMosaic.ValueIdx
open scoped BigOperators

/-- A dense layer with its rectifier, at one sample. -/
def dense {n k : ℕ} (g : Fin n → EReal) (W : (⟨2, ![n, k]⟩ : Shape).Idx → EReal) (b : Fin k → EReal) (c : Fin k) : EReal :=
  max ((∑ i : Fin n, g i * W (ix2 i c)) + b c) 0

/-- The layers after the bag, at one sample. -/
def layers (g : Fin 256 → EReal) (W1 : S256x512.Idx → EReal) (b1 : Fin 512 → EReal) (W2 : S512x256.Idx → EReal) (b2 : Fin 256 → EReal)
    (w3 : Fin 256 → EReal) (b3 : EReal) : EReal :=
  (∑ i : Fin 256, dense (dense g W1 b1) W2 b2 i * w3 i) + b3

/-- The table row that an index word names; a word outside the table, which the claims exclude, is taken as its last row. -/
def rowOf (v : BitVec 32) : Fin 768 := ⟨min v.toNat 767, by omega⟩

theorem rowOf_val {v : BitVec 32} (h : v.toNat < 768) : (rowOf v).val = v.toNat := by
  show min v.toNat 767 = v.toNat
  omega

/-- The bag of one sample: the sum of the rows that its index words name. -/
def bag (ids : Fin 32 → BitVec 32) (E : S768x256.Idx → EReal) (e : Fin 256) : EReal := ∑ j : Fin 32, E (ix2 (rowOf (ids j)) e)

/-- A fold that adds one for every lane that names the column is a sum. -/
theorem laneFold_sum {n : ℕ} (l : Fin n → BitVec 32) (col : ℕ) (x : EReal) :
    laneFold (F := Ideal) true (1 : EReal) l col x = x + ∑ k : Fin n, (if (l k).toNat = col then (1 : EReal) else 0) := by
  unfold laneFold
  have h : ∀ (L : List (Fin n)) (x : EReal),
      L.foldl (fun acc k => if (l k).toNat = col then (if true then FloatOps.idxAddf (F := Ideal) (φ := .f32) acc (1 : EReal) else (1 : EReal)) else acc) x
        = x + (L.map fun k => if (l k).toNat = col then (1 : EReal) else 0).sum := by
    intro L
    induction L with
    | nil => intro x; simp
    | cons k L ih =>
      intro x
      rw [List.foldl_cons, ih, List.map_cons, List.sum_cons, ← add_assoc]
      refine congrArg (· + _) ?_
      by_cases hk : (l k).toNat = col
      · rw [if_pos hk, if_pos hk]; rfl
      · rw [if_neg hk, if_neg hk, add_zero]
  refine (h _ x).trans (congrArg (x + ·) ?_)
  exact (Fin.sum_univ_def _).symm

theorem oneF_eq : (oneF : Ideal .f32) = (1 : EReal) :=
  IdealRules.sign_bit.ideal_onePat .f32

/-- A row's count at a column: the number of its index words that name the column. -/
theorem rowCount_sum (X : S128x32.Idx → BitVec 32) (r : Fin 128) (col : ℕ) :
    rowCount (F := Ideal) X r col = ∑ k : Fin 32, (if (X (cell r k)).toNat = col then (1 : EReal) else 0) := by
  unfold rowCount rowFold
  rw [oneF_eq]
  refine (laneFold_sum _ _ _).trans ?_
  rw [show laneFold (F := Ideal) true (1 : EReal) (half X r 0) col zeroF = _ from laneFold_sum _ _ _]
  rw [show (zeroF : Ideal .f32) = (0 : EReal) from Ideal.ofBits_zero_f32, zero_add]
  exact (Fin.sum_univ_add (M := EReal) (a := 16) (b := 16) fun k : Fin 32 => if (X (cell r k)).toNat = col then (1 : EReal) else 0).symm

/-- A sum of terms that are not negative, times a factor. -/
theorem sum_mul_ereal {n : ℕ} (f : Fin n → EReal) (hf : ∀ k, 0 ≤ f k) (y : EReal) : (∑ k, f k) * y = ∑ k, f k * y := by
  have h : ∀ s : Finset (Fin n), (∑ k ∈ s, f k) * y = ∑ k ∈ s, f k * y := by
    intro s
    induction s using Finset.cons_induction with
    | empty => simp
    | cons a s ha ih =>
      rw [Finset.sum_cons, Finset.sum_cons, EReal.right_distrib_of_nonneg (hf a) (Finset.sum_nonneg fun k _ => hf k), ih]
  exact h _

/-- The counts of one sample, multiplied with the table, are its bag. -/
theorem counts_mul (ids : Fin 32 → BitVec 32) (hx : ∀ j, (ids j).toNat < 768) (E : S768x256.Idx → EReal) (e : Fin 256) :
    ∑ f : Fin 768, (∑ k : Fin 32, (if (ids k).toNat = f.val then (1 : EReal) else 0)) * E (ix2 f e) = bag ids E e := by
  have h1 : ∀ f : Fin 768, (∑ k : Fin 32, (if (ids k).toNat = f.val then (1 : EReal) else 0)) * E (ix2 f e)
      = ∑ k : Fin 32, (if rowOf (ids k) = f then E (ix2 f e) else 0) := by
    intro f
    rw [sum_mul_ereal _ fun k => by split <;> simp]
    refine Finset.sum_congr rfl fun k _ => ?_
    have hk : (ids k).toNat = f.val ↔ rowOf (ids k) = f := by rw [Fin.ext_iff, rowOf_val (hx k)]
    by_cases h : (ids k).toNat = f.val
    · rw [if_pos h, if_pos (hk.1 h), one_mul]
    · rw [if_neg h, if_neg fun h' => h (hk.2 h'), zero_mul]
  rw [Finset.sum_congr rfl fun f _ => h1 f, Finset.sum_comm]
  refine Finset.sum_congr rfl fun k _ => ?_
  rw [Finset.sum_ite_eq]
  simp

end Cert.Proof
-- ==== Proof.Value.lean ====
/-
  The layers' kernel over the extended reals, at one sample of its block: the dense layers on the sample's counts times
  the table.
-/
module

public import proofs.«01_k».proof.Proof.Layers
public import proofs.«01_k».proof.Proof.Gen.KernelIdeal.Skeleton
public import Idealize.ShloMosaic.Lib.MatmulPlain
public import Idealize.ShloMosaic.Lib.Pipeline.Value

@[expose] public section

noncomputable section

namespace Cert.Proof

open Cert.KernelIdeal Cert.KernelIdeal.Gen
open Idealize.ShloMosaic Idealize.ShloMosaic.ValueIdx
open scoped BigOperators

/-- A product into a zero accumulator, at an index. -/
theorem product_at {M K N : ℕ} {φ₁ φ₂ : FTy} (x : FVec Ideal ⟨2, ![M, K]⟩ φ₁) (w : FVec Ideal ⟨2, ![K, N]⟩ φ₂) (r : Fin M) (c : Fin N) :
    FloatOps.matmul (DotDims.plain M K N) none x w (constant ⟨2, ![M, N]⟩ .f32 0x00000000#32) (ix2 r c)
      = ∑ k : Fin K, (x (ix2 r k) : EReal) * w (ix2 k c) := by
  rw [Ideal.matmul_plain_apply]
  show Ideal.ofBits .f32 0x00000000#32 + _ = _
  rw [Ideal.ofBits_zero_f32, zero_add]

/-- One row laid along all rows, at an index. -/
theorem row_at {M N : ℕ} {α : Type} (b : (⟨2, ![1, N]⟩ : Shape).Idx → α) (h : (⟨2, ![1, N]⟩ : Shape).Broadcasts ⟨2, ![M, N]⟩) (r : Fin M) (c : Fin N) :
    broadcastTo ⟨2, ![M, N]⟩ b h (ix2 r c) = b (ix2 0 c) := by
  refine broadcastTo_apply b h _ _ fun a => ?_
  match a with
  | ⟨0, _⟩ => rfl
  | ⟨1, _⟩ =>
    show c.val = if N = 1 then 0 else c.val
    have := c.isLt
    split <;> omega

/-- A dense layer of the kernel, at an index. -/
theorem dense_at {M K N : ℕ} {φ₁ φ₂ : FTy} (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) (c : Fin N) :
    maximumf (addf (FloatOps.matmul (DotDims.plain M K N) none x w (constant ⟨2, ![M, N]⟩ .f32 0x00000000#32)) (broadcastTo ⟨2, ![M, N]⟩ b h))
        (broadcast ⟨2, ![M, N]⟩ (Scalar.ofBits .f32 0x00000000#32)) (ix2 r c)
      = dense (fun k => (x (ix2 r k) : EReal)) w (fun c => b (ix2 0 c)) c := by
  show max (FloatOps.matmul (DotDims.plain M K N) none x w (constant ⟨2, ![M, N]⟩ .f32 0x00000000#32) (ix2 r c) + broadcastTo ⟨2, ![M, N]⟩ b h (ix2 r c))
    (Ideal.ofBits .f32 0x00000000#32) = _
  rw [product_at, row_at, Ideal.ofBits_zero_f32]
  rfl

/-- The kernel's block, at one sample. -/
theorem block_at (C : Vec Ideal S1024x768 .f32) (E : Vec Ideal S768x256 .bf16) (W1 : Vec Ideal S256x512 .bf16) (b1 : Vec Ideal S1x512 .f32)
    (W2 : Vec Ideal S512x256 .bf16) (b2 : Vec Ideal S1x256 .f32) (w3 : Vec Ideal S1x256 .f32) (b3 : Vec Ideal S1x1 .f32) (r : Fin 1024) :
    k1_pay1 C E W1 b1 W2 b2 w3 b3 (ix2 r 0)
      = layers (fun e => ∑ f : Fin 768, (C (ix2 r f) : EReal) * E (ix2 f e)) W1 (fun c => b1 (ix2 0 c)) W2 (fun c => b2 (ix2 0 c))
          (fun c => w3 (ix2 0 c)) (b3 (ix2 0 0)) := by
  unfold k1_pay1
  simp only [shapeCast_self]
  refine congrArg₂ (fun (x y : EReal) => x + y) ?_ (row_at b3 broadcasts_S1x1_S1024x1 r 0)
  refine (shapeCast_apply _ shapeCasts_S1024_S1024x1 (ix2 r 0) (ix1 r) (by
    rw [Shape.rowMajor_val_two, Shape.rowMajor_val_one]; show r.val = r.val * 1 + 0; omega)).trans ?_
  refine (Ideal.multiReduction_add_single _ _ reduces_S1024x256_S1024 _ _ (ix1 r)).trans ?_
  refine Finset.sum_congr rfl fun c _ => ?_
  have hl : reduces_S1024x256_S1024.lift (ix1 r) c = (ix2 r c : S1024x256.Idx) := by
    funext a
    match a with
    | ⟨0, _⟩ => rfl
    | ⟨1, _⟩ => rfl
  rw [hl]
  refine congrArg₂ (fun (x y : EReal) => x * y) ?_ (row_at w3 broadcasts_S1x256_S1024x256 r c)
  refine (dense_at _ W2 b2 broadcasts_S1x256_S1024x256 r c).trans ?_
  refine congrArg (fun g => dense g W2 (fun c => b2 (ix2 0 c)) c) (funext fun k => ?_)
  refine (dense_at _ W1 b1 broadcasts_S1x512_S1024x512 r k).trans ?_
  exact congrArg (fun g => dense g W1 (fun c => b1 (ix2 0 c)) k) (funext fun e => product_at (φ₂ := .bf16) _ E r e)

end Cert.Proof
-- ==== Proof.Result.lean ====
/-
  The kernel's result over the extended reals, sample by sample: the dense layers on the sample's bag.
-/
module

public import proofs.«01_k».proof.Proof.Blocks
public import proofs.«01_k».proof.Proof.Value

@[expose] public section

noncomputable section

namespace Cert.Proof

open Cert.KernelIdeal Cert.KernelIdeal.Gen
open Idealize.ShloMosaic hiding ix1 ix2
open Idealize.ShloMosaic.ValueIdx
open Idealize.ShloMosaic.Pipeline (arrRef)
open Idealize.SL.Sem
open scoped BigOperators

/-! ## The weights, the same at every call -/

section Weights

variable {F : FTy → Type} [FloatOps F]

/-- The weights as every dense-layer call takes them. -/
def weights : List (Ref sig .tc) := [main_v0, main_v1, main_v2, main_v3, main_v4, main_v5, main_v6]

theorem denseArr_congr {W W' : Valuation τ sig (Elt F)} (h : ∀ r ∈ weights, W (dr r) = W' (dr r)) (p : ℕ) (X : Vec F S4096x768 .f32) (Y : Vec F S16384x1 .f32) :
    denseArr W p X Y = denseArr W' p X Y := by
  unfold denseArr
  rw [h main_v0 (by decide), h main_v1 (by decide), h main_v2 (by decide), h main_v3 (by decide), h main_v4 (by decide), h main_v5 (by decide), h main_v6 (by decide)]

theorem weight_in (p : Fin 4) : ∀ w, arrRef (Pipeline.pin (pcfgs (F := F)) adm p).spec w ∈ weights → ((Pipeline.pin (pcfgs (F := F)) adm p).win w).isOut = false :=
  match p with
  | ⟨0, _⟩ => show ∀ w : Fin 9, arrRef cfg1.spec w ∈ weights → (cfg1.win w).isOut = false by decide
  | ⟨1, _⟩ => show ∀ w : Fin 9, arrRef cfg3.spec w ∈ weights → (cfg3.win w).isOut = false by decide
  | ⟨2, _⟩ => show ∀ w : Fin 9, arrRef cfg5.spec w ∈ weights → (cfg5.win w).isOut = false by decide
  | ⟨3, _⟩ => show ∀ w : Fin 9, arrRef cfg7.spec w ∈ weights → (cfg7.win w).isOut = false by decide

/-- A dense-layer call leaves the weights as they were. -/
theorem call_weight (W : Dev nD → Valuation τ sig (Elt F)) (p : Fin 4) (d : Dev nD) {r : Ref sig .tc} (h : r ∈ weights) :
    afterCall W p d (dr r) = W d (dr r) :=
  Pipeline.afterRegion_keeps _ _ (kits (F := F) p).win.arr_inj (fun _ => rfl) r fun w e => weight_in (F := F) p w (e ▸ h)

theorem ne_of_weight {r b : Ref sig .tc} (h : r ∈ weights) (hb : b ∉ weights) : r ≠ b := fun e => hb (e ▸ h)

variable (m : (ℓ : Loc nD τ sig) → Buf (Elt F) ℓ) (d : Dev nD)

theorem a0_weight (r : Ref sig .tc) (h : r ∈ weights) : a0 m d (dr r) = w7 m d (dr r) :=
  Function.update_of_ne (dr_ne (ne_of_weight h (by decide))) _ _
theorem c1_weight (r : Ref sig .tc) (h : r ∈ weights) : c1 m d (dr r) = w7 m d (dr r) :=
  (StableHlo.unary_result_ne _ _ _ _ _ _ (ne_of_weight h (by decide))).trans ((Function.update_of_ne (dr_ne (ne_of_weight h (by decide))) _ _).trans
    ((call_weight _ 0 d h).trans (a0_weight m d r h)))
theorem c2_weight (r : Ref sig .tc) (h : r ∈ weights) : c2 m d (dr r) = w7 m d (dr r) :=
  (StableHlo.unary_result_ne _ _ _ _ _ _ (ne_of_weight h (by decide))).trans ((Function.update_of_ne (dr_ne (ne_of_weight h (by decide))) _ _).trans
    ((call_weight _ 1 d h).trans (c1_weight m d r h)))
theorem c3_weight (r : Ref sig .tc) (h : r ∈ weights) : c3 m d (dr r) = w7 m d (dr r) :=
  (StableHlo.unary_result_ne _ _ _ _ _ _ (ne_of_weight h (by decide))).trans ((Function.update_of_ne (dr_ne (ne_of_weight h (by decide))) _ _).trans
    ((call_weight _ 2 d h).trans (c2_weight m d r h)))

/-! ## The output along the calls -/

theorem r0_out : r0 m d (dr main_v8) = denseArr (w7 m d) 0 (cntArr (idsOf m d) 0) (a0 m d (dr main_v8)) := by
  refine (after1 (fun _ => a0 m d) d).trans ((denseArr_congr (a0_weight m d) _ _ _).trans ?_)
  rw [show a0 m d (dr main_v7) = cntArr (idsOf m d) 0 from Function.update_self _ _ _]

theorem r1_out : r1 m d (dr main_v10) = denseArr (w7 m d) 1 (cntArr (idsOf m d) 1) (r0 m d (dr main_v8)) := by
  refine (after3 (fun _ => c1 m d) d).trans ((denseArr_congr (c1_weight m d) _ _ _).trans ?_)
  rw [show c1 m d (dr main_v9) = cntArr (idsOf m d) 1 from
      (StableHlo.unary_result_ne _ _ _ _ _ _ (by decide)).trans (Function.update_self _ _ _),
    show c1 m d (dr main_v10) = r0 m d (dr main_v8) from
      (StableHlo.unary_result _ _ _ _ _ _).trans (show a1 m d (dr main_v8) = _ from Function.update_of_ne (dr_ne (by decide)) _ _)]

theorem r2_out : r2 m d (dr main_v12) = denseArr (w7 m d) 2 (cntArr (idsOf m d) 2) (r1 m d (dr main_v10)) := by
  refine (after5 (fun _ => c2 m d) d).trans ((denseArr_congr (c2_weight m d) _ _ _).trans ?_)
  rw [show c2 m d (dr main_v11) = cntArr (idsOf m d) 2 from
      (StableHlo.unary_result_ne _ _ _ _ _ _ (by decide)).trans (Function.update_self _ _ _),
    show c2 m d (dr main_v12) = r1 m d (dr main_v10) from
      (StableHlo.unary_result _ _ _ _ _ _).trans (show a2 m d (dr main_v10) = _ from Function.update_of_ne (dr_ne (by decide)) _ _)]

theorem r3_out : r3 m d (dr main_v14) = denseArr (w7 m d) 3 (cntArr (idsOf m d) 3) (r2 m d (dr main_v12)) := by
  refine (after7 (fun _ => c3 m d) d).trans ((denseArr_congr (c3_weight m d) _ _ _).trans ?_)
  rw [show c3 m d (dr main_v13) = cntArr (idsOf m d) 3 from
      (StableHlo.unary_result_ne _ _ _ _ _ _ (by decide)).trans (Function.update_self _ _ _),
    show c3 m d (dr main_v14) = r2 m d (dr main_v12) from
      (StableHlo.unary_result _ _ _ _ _ _).trans (show a3 m d (dr main_v12) = _ from Function.update_of_ne (dr_ne (by decide)) _ _)]

/-- The result at a row of a chunk: the layers of the chunk's counts. -/
theorem result_row (i : S16384x1.Idx) (q : Fin 4) (hq : (i 0).val / 1024 / 4 = q.val) :
    r3 m d (dr main_v14) i = denseOut (cntArr (idsOf m d) q) (w7 m d (dr main_v0)) (w7 m d (dr main_v1))
      (w7 m d (dr main_v3)) (w7 m d (dr main_v2)) (w7 m d (dr main_v4)) (w7 m d (dr main_v5)) (w7 m d (dr main_v6)) i := by
  rw [r3_out, r2_out, r1_out, r0_out]
  unfold denseArr
  rw [hq]
  match q with
  | 0 => rfl
  | 1 => rfl
  | 2 => rfl
  | 3 => rfl

end Weights

/-! ## The weights as the run starts with them -/

section Start

variable (m : (ℓ : Loc nD τ sig) → Buf (Elt Ideal) ℓ) (d : Dev nD)

/-- An argument, still as the run starts with it once the three tables are laid out. -/
theorem w3_arg {r : Ref sig .tc} (h : r ∉ made) : w3 m d (dr r) = m (d, dr r) := by
  unfold w3 w2 w1
  rw [StableHlo.unary_result_ne _ _ _ _ _ _ (ne_of_made h (by decide)), StableHlo.unary_result_ne _ _ _ _ _ _ (ne_of_made h (by decide)),
    StableHlo.unary_result_ne _ _ _ _ _ _ (ne_of_made h (by decide))]
  rfl

/-- A table, laid out first, is still there once the rows are. -/
theorem w7_table {r : Ref sig .tc} (h : r ∈ [main_v0, main_v1, main_v2]) : w7 m d (dr r) = w3 m d (dr r) := by
  have ne : ∀ b ∈ [main_v3, main_v4, main_v5, main_v6], r ≠ b := fun b hb e => by
    subst e
    exact absurd hb ((by decide : ∀ r ∈ [main_v0, main_v1, main_v2], r ∉ [main_v3, main_v4, main_v5, main_v6]) r h)
  unfold w7 w6 w5 w4
  rw [StableHlo.reshape_result_ne _ _ _ _ _ _ _ (ne _ (by decide)), StableHlo.reshape_result_ne _ _ _ _ _ _ _ (ne _ (by decide)),
    StableHlo.reshape_result_ne _ _ _ _ _ _ _ (ne _ (by decide)), StableHlo.reshape_result_ne _ _ _ _ _ _ _ (ne _ (by decide))]

theorem w7_v0 : w7 m d (dr main_v0) = m ((SparseCore.T d).loc main_arg1) := by
  rw [w7_table m d (by decide)]
  unfold w3 w2 w1
  rw [StableHlo.unary_result_ne _ _ _ _ _ _ (by decide), StableHlo.unary_result_ne _ _ _ _ _ _ (by decide), StableHlo.unary_result]
  rfl

theorem w7_v1 : w7 m d (dr main_v1) = m ((SparseCore.T d).loc main_arg2) := by
  rw [w7_table m d (by decide)]
  unfold w3 w2
  rw [StableHlo.unary_result_ne _ _ _ _ _ _ (by decide), StableHlo.unary_result]
  unfold w1
  rw [StableHlo.unary_result_ne _ _ _ _ _ _ (by decide)]
  rfl

theorem w7_v2 : w7 m d (dr main_v2) = m ((SparseCore.T d).loc main_arg4) := by
  rw [w7_table m d (by decide)]
  unfold w3
  rw [StableHlo.unary_result]
  unfold w2 w1
  rw [StableHlo.unary_result_ne _ _ _ _ _ _ (by decide), StableHlo.unary_result_ne _ _ _ _ _ _ (by decide)]
  rfl

theorem w7_v3 (c : Fin 512) : w7 m d (dr main_v3) (ix2 0 c) = m ((SparseCore.T d).loc main_arg3) (ix1 c) := by
  unfold w7 w6 w5 w4
  rw [StableHlo.reshape_result_ne _ _ _ _ _ _ _ (by decide), StableHlo.reshape_result_ne _ _ _ _ _ _ _ (by decide),
    StableHlo.reshape_result_ne _ _ _ _ _ _ _ (by decide), StableHlo.reshape_result, w3_arg m d (by decide)]
  exact shapeCast_apply _ shapeCasts_S512_S1x512 (ix2 0 c) (ix1 c) (by rw [Shape.rowMajor_val_two, Shape.rowMajor_val_one]; show c.val = 0 * 512 + c.val; omega)

theorem w7_v4 (c : Fin 256) : w7 m d (dr main_v4) (ix2 0 c) = m ((SparseCore.T d).loc main_arg5) (ix1 c) := by
  unfold w7 w6 w5
  rw [StableHlo.reshape_result_ne _ _ _ _ _ _ _ (by decide), StableHlo.reshape_result_ne _ _ _ _ _ _ _ (by decide), StableHlo.reshape_result]
  unfold w4
  rw [StableHlo.reshape_result_ne _ _ _ _ _ _ _ (by decide), w3_arg m d (by decide)]
  exact shapeCast_apply _ shapeCasts_S256_S1x256 (ix2 0 c) (ix1 c) (by rw [Shape.rowMajor_val_two, Shape.rowMajor_val_one]; show c.val = 0 * 256 + c.val; omega)

theorem w7_v5 (c : Fin 256) : w7 m d (dr main_v5) (ix2 0 c) = m ((SparseCore.T d).loc main_arg6) (ix2 c 0) := by
  unfold w7 w6
  rw [StableHlo.reshape_result_ne _ _ _ _ _ _ _ (by decide), StableHlo.reshape_result]
  unfold w5 w4
  rw [StableHlo.reshape_result_ne _ _ _ _ _ _ _ (by decide), StableHlo.reshape_result_ne _ _ _ _ _ _ _ (by decide), w3_arg m d (by decide)]
  exact shapeCast_apply _ shapeCasts_S256x1_S1x256 (ix2 0 c) (ix2 c 0) (by rw [Shape.rowMajor_val_two, Shape.rowMajor_val_two]; show c.val * 1 + 0 = 0 * 256 + c.val; omega)

theorem w7_v6 : w7 m d (dr main_v6) (ix2 0 0) = m ((SparseCore.T d).loc main_arg7) (ix1 0) := by
  unfold w7
  rw [StableHlo.reshape_result]
  unfold w6 w5 w4
  rw [StableHlo.reshape_result_ne _ _ _ _ _ _ _ (by decide), StableHlo.reshape_result_ne _ _ _ _ _ _ _ (by decide),
    StableHlo.reshape_result_ne _ _ _ _ _ _ _ (by decide), w3_arg m d (by decide)]
  exact shapeCast_apply _ shapeCasts_S1_S1x1 (ix2 0 0) (ix1 0) (by rw [Shape.rowMajor_val_two, Shape.rowMajor_val_one]; rfl)

/-! ## The result -/

/-- A chunk's count at a sample and a feature: the number of the sample's index words that name the feature. -/
theorem count_at (x : S16384x32.Idx → BitVec 32) (q : Fin 4) (j : S4096x768.Idx) (r : Fin 16384) (hr : r.val = 4096 * q.val + (j 0).val) :
    cntArr (F := Ideal) x q j = ∑ k : Fin 32, (if (x (ix2 r k)).toNat = (j 1).val then (1 : EReal) else 0) := by
  have hj := idx2_lt0 j
  unfold cntArr
  refine (rowCount_sum _ _ _).trans (Finset.sum_congr rfl fun k _ => ?_)
  have e : rowsOf x q (mkCo ⟨(j 0).val / 128 % 2, by omega⟩ ⟨(j 0).val / 256, by omega⟩) (cell ⟨(j 0).val % 128, by omega⟩ k) = x (ix2 r k) := by
    refine congrArg x (funext fun a => ?_)
    match a with
    | 0 =>
      refine Fin.ext ?_
      show 4096 * q.val + (256 * ((j 0).val / 256) + 128 * ((j 0).val / 128 % 2)) + (j 0).val % 128 = r.val
      omega
    | 1 => rfl
  rw [e]

/-- The kernel's result at a sample. -/
theorem result_at (hx : ∀ j, (idsOf m d j).toNat < 768) (r : Fin 16384) :
    r3 m d (dr main_v14) (ix2 r 0)
      = layers (bag (fun j => idsOf m d (ix2 r j)) (m ((SparseCore.T d).loc main_arg1))) (m ((SparseCore.T d).loc main_arg2))
          (fun c => m ((SparseCore.T d).loc main_arg3) (ix1 c)) (m ((SparseCore.T d).loc main_arg4)) (fun c => m ((SparseCore.T d).loc main_arg5) (ix1 c))
          (fun c => m ((SparseCore.T d).loc main_arg6) (ix2 c 0)) (m ((SparseCore.T d).loc main_arg7) (ix1 0)) := by
  have hr := r.isLt
  refine (result_row m d (ix2 r 0) ⟨r.val / 1024 / 4, by omega⟩ rfl).trans ?_
  unfold denseOut
  refine (block_at _ _ _ _ _ _ _ _ _).trans ?_
  rw [w7_v0, w7_v1, w7_v2, w7_v6, funext (w7_v3 m d), funext (w7_v4 m d), funext (w7_v5 m d)]
  refine congrArg (fun g => layers g _ _ _ _ _ _) (funext fun e => ?_)
  refine Eq.trans (Finset.sum_congr rfl fun f _ => ?_) (counts_mul (fun j => idsOf m d (ix2 r j)) (fun j => hx _) _ e)
  refine congrArg (· * _) (count_at _ _ _ r ?_)
  show r.val = 4096 * (r.val / 1024 / 4) + (r.val / 1024 % 4 * 1024 + r.val % 1024)
  omega

end Start

end Cert.Proof

end

end
-- ==== Proof.Ref.lean ====
/-
  The reference over the extended reals, at one sample: the masked gather is the table's rows, since every index word
  names one; the rest is the dense layers on their sum.
-/
module

public import proofs.«01_k».proof.Proof.Layers
public import proofs.«01_k».proof.Proof.Gen.ReferenceIdeal.Run
public import Idealize.ShloMosaic.Lib.StackMember
public import Idealize.ShloMosaic.Lib.KernelVsHost
public import Idealize.ShloMosaic.Lib.ReduceAll
public import Idealize.ShloMosaic.Lib.Affine
public import Idealize.ShloMosaic.Lib.Pipeline.Value

@[expose] public section

noncomputable section

namespace Cert.Proof

open Cert.ReferenceIdeal Cert.ReferenceIdeal.Gen
open Idealize.ShloMosaic Idealize.ShloMosaic.ValueIdx
open scoped BigOperators

variable {α : Type}

/-- A gather of whole rows at an [R, C] table of row numbers, at an index: the row, its number read signed and held
    within the table, at the last coordinate. -/
theorem gather_rows_at (x : S768x256.Idx → α) (ids : IVec S16384x32x1 32) (r : Fin 16384) (j : Fin 32) (e : Fin 256) :
    Host.gather gather_S768x256_S16384x32x1_S16384x32x256_2_0_n_n_0_2_1256 x ids (ix3 r j e)
      = x (ix2 ⟨min (ids (ix3 r j 0)).toInt.toNat 767, by omega⟩ e) := by
  unfold Host.gather
  congr 1
  funext a
  refine Fin.ext ?_
  match a with
  | ⟨0, _⟩ =>
    show GatherDims.start _ (ix3 r j e) ids 0 + GatherDims.batchCoord _ (ix3 r j e) 0 + GatherDims.offCoord _ (ix3 r j e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S768x256_S16384x32x1_S16384x32x256_2_0_n_n_0_2_1256.startIndexMap from List.mem_singleton.mpr rfl)]
    have hs : gather_S768x256_S16384x32x1_S16384x32x256_2_0_n_n_0_2_1256.siIdx (ix3 r j e)
        ⟨List.idxOf (0 : Fin 2) gather_S768x256_S16384x32x1_S16384x32x256_2_0_n_n_0_2_1256.startIndexMap,
          List.idxOf_lt_length_iff.2 (List.mem_singleton.mpr rfl)⟩ = ix3 r j 0 := by
      funext b
      refine Fin.ext ?_
      match b with
      | ⟨0, _⟩ => rfl
      | ⟨1, _⟩ => rfl
      | ⟨2, _⟩ => rfl
    rw [hs]
    rfl
  | ⟨1, _⟩ =>
    show GatherDims.start _ (ix3 r j e) ids 1 + GatherDims.batchCoord _ (ix3 r j e) 1 + GatherDims.offCoord _ (ix3 r j e) 1 = _
    rw [GatherDims.batchCoord_eq_zero _ _ _ List.not_mem_nil]
    unfold GatherDims.start
    rw [dif_neg (show (1 : Fin 2) ∉ gather_S768x256_S16384x32x1_S16384x32x256_2_0_n_n_0_2_1256.startIndexMap from by decide)]
    simp only [Nat.add_zero, Nat.zero_add]
    rfl

/-- A bias laid along the rows, at an index. -/
theorem bias_at {M N : ℕ} (b : (⟨1, ![N]⟩ : Shape).Idx → α) (h : (⟨1, ![N]⟩ : Shape).BroadcastsInDim ⟨2, ![1, N]⟩ ![1])
    (h' : (⟨2, ![1, N]⟩ : Shape).BroadcastsInDim ⟨2, ![M, N]⟩ ![0, 1]) (r : Fin M) (c : Fin N) :
    broadcastInDim ⟨2, ![M, N]⟩ ![0, 1] h' (broadcastInDim ⟨2, ![1, N]⟩ ![1] h b) (ix2 r c) = b (ix1 c) := by
  refine (broadcastInDim_oneRow_apply h' _ r c).trans (broadcastInDim_apply ![1] h b _ (ix1 c) fun a => ?_)
  match a with
  | ⟨0, _⟩ =>
    show c.val = if N = 1 then 0 else c.val
    have := c.isLt
    split <;> omega

/-- A dense layer of the reference, at an index. -/
theorem dense_ref_at {M K N : ℕ} (x : FVec Ideal ⟨2, ![M, K]⟩ .f32) (w : FVec Ideal ⟨2, ![K, N]⟩ .f32) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1])
    (h0 : S_.BroadcastsInDim ⟨2, ![M, N]⟩ ![]) (r : Fin M) (c : Fin N) :
    maximumf (addf (Host.dotGeneral (DotDims.plain M K N) none x w) (broadcastInDim ⟨2, ![M, N]⟩ ![0, 1] h' (broadcastInDim ⟨2, ![1, N]⟩ ![1] h b)))
        (broadcastInDim ⟨2, ![M, N]⟩ ![] h0 (constant S_ .f32 0x00000000#32)) (ix2 r c)
      = dense (fun k => (x (ix2 r k) : EReal)) w (fun c => b (ix1 c)) c := by
  show max (Host.dotGeneral (DotDims.plain M K N) none x w (ix2 r c)
    + broadcastInDim ⟨2, ![M, N]⟩ ![0, 1] h' (broadcastInDim ⟨2, ![1, N]⟩ ![1] h b) (ix2 r c)) (Ideal.ofBits .f32 0x00000000#32) = _
  rw [StackMember.dotGeneral_plain_apply, bias_at, Ideal.ofBits_zero_f32]
  rfl

/-- The row numbers that the reference gathers at: an index word, with the table's height added where it is negative. -/
def wrapped (x : IVec S16384x32 32) : IVec S16384x32x1 32 :=
  broadcastInDim S16384x32x1 ![0, 1] bcast_S16384x32_S16384x32x1_0_1
    (select (cmpi .slt x (broadcastInDim S16384x32 ![] bcast_S_S16384x32 (constantI S_ 32 0#32)))
      (addi x (broadcastInDim S16384x32 ![] bcast_S_S16384x32 (constantI S_ 32 768#32))) x)

/-- Where the reference keeps what it gathered: at row numbers within the table. -/
def inside (x : IVec S16384x32 32) : IVec S16384x32 1 :=
  Host.reduce IntOp.andi
    (andi (cmpi .sge (wrapped x) (broadcastInDim S16384x32x1 ![] bcast_S_S16384x32x1 (constantI S_ 32 0#32)))
      (cmpi .sle (wrapped x) (broadcastInDim S16384x32x1 ![0, 1, 2] bcast_S1x1x1_S16384x32x1_0_1_2 (broadcastInDim S1x1x1 ![2] bcast_S1_S1x1x1_2 (constantI S1 32 767#32)))))
    (constantI S_ 1 1#1) reducesTo_S16384x32x1_S16384x32_d2 h_S_

/-- What the reference takes from the table. -/
def taken (x : IVec S16384x32 32) (E : FVec Ideal S768x256 .f32) : FVec Ideal S16384x32x256 .f32 :=
  select (broadcastInDim S16384x32x256 ![0, 1] bcast_S16384x32_S16384x32x256_0_1 (inside x))
    (Host.gather gather_S768x256_S16384x32x1_S16384x32x256_2_0_n_n_0_2_1256 E (wrapped x))
    (broadcastInDim S16384x32x256 ![] bcast_S_S16384x32x256 (constant S_ .f32 0x7FC00000#32))

/-- A row number at an index word below the table's height: the word. -/
theorem wrapped_at (x : IVec S16384x32 32) (hx : ∀ j, (x j).toNat < 768) (r : Fin 16384) (j : Fin 32) : wrapped x (ix3 r j 0) = x (ix2 r j) := by
  unfold wrapped
  refine (broadcastInDim_apply ![0, 1] bcast_S16384x32_S16384x32x1_0_1 _ (ix3 r j 0) (ix2 r j) fun a => ?_).trans ?_
  · match a with
    | ⟨0, _⟩ => rfl
    | ⟨1, _⟩ => rfl
  · have hv := hx (ix2 r j)
    have h : IntOp.cmpi .slt (x (ix2 r j)) 0#32 = 0#1 := by
      refine eq_zero_of_ne_one fun h => ?_
      have h' := IntOp.cmpi_slt.1 h
      rw [BitVec.toInt_eq_toNat_of_lt (by omega)] at h'
      simp at h'
      omega
    show Scalar.select (IntOp.cmpi .slt (x (ix2 r j)) 0#32) _ (x (ix2 r j)) = _
    rw [h]
    rfl

theorem word_toInt {v : BitVec 32} (h : v.toNat < 768) : v.toInt = v.toNat := BitVec.toInt_eq_toNat_of_lt (by omega)

/-- Every row number is within the table. -/
theorem inside_at (x : IVec S16384x32 32) (hx : ∀ j, (x j).toNat < 768) (y : S16384x32.Idx) : inside x y = 1#1 := by
  refine Host.reduce_andi_one _ _ _ _ _ rfl fun i => ?_
  obtain ⟨r, j, k, rfl⟩ : ∃ (r : Fin 16384) (j : Fin 32) (k : Fin 1), i = ix3 r j k := ⟨i 0, i 1, i 2, eq_ix3 i⟩
  obtain rfl : k = 0 := Subsingleton.elim _ _
  have hv := hx (ix2 r j)
  refine IntOp.andi_eq_one.2 ⟨IntOp.cmpi_sge.2 ?_, IntOp.cmpi_sle.2 ?_⟩
  · show (0#32 : BitVec 32).toInt ≤ (wrapped x (ix3 r j 0)).toInt
    rw [wrapped_at x hx, word_toInt hv]
    simp
  · show (wrapped x (ix3 r j 0)).toInt ≤ (767#32 : BitVec 32).toInt
    rw [wrapped_at x hx, word_toInt hv, show (767#32 : BitVec 32).toInt = 767 from by decide]
    omega

theorem select_at {s : Shape} {c : IVec s 1} {i : s.Idx} (h : c i = 1#1) (a b : s.Idx → α) : select c a b i = a i := by
  show Scalar.select (c i) (a i) (b i) = a i
  rw [h]
  rfl

/-- What is taken: the row that the index word names. -/
theorem taken_at (x : IVec S16384x32 32) (hx : ∀ j, (x j).toNat < 768) (E : FVec Ideal S768x256 .f32) (r : Fin 16384) (j : Fin 32) (e : Fin 256) :
    taken x E (ix3 r j e) = E (ix2 (rowOf (x (ix2 r j))) e) := by
  have h : broadcastInDim S16384x32x256 ![0, 1] bcast_S16384x32_S16384x32x256_0_1 (inside x) (ix3 r j e) = 1#1 := inside_at x hx _
  unfold taken
  refine (select_at h _ _).trans ?_
  refine (gather_rows_at E (wrapped x) r j e).trans ?_
  refine congrArg E (congrArg (fun i => ix2 i e) (Fin.ext ?_))
  show min (wrapped x (ix3 r j 0)).toInt.toNat 767 = min (x (ix2 r j)).toNat 767
  rw [wrapped_at x hx, word_toInt (hx _), Int.toNat_natCast]

/-- The sum of what is taken: the bag. -/
theorem bag_at (x : IVec S16384x32 32) (hx : ∀ j, (x j).toNat < 768) (E : FVec Ideal S768x256 .f32) (r : Fin 16384) (e : Fin 256) :
    Host.reduceAdd (taken x E) (constant S_ .f32 0x00000000#32) reducesTo_S16384x32x256_S16384x256_d1 h_S_ (ix2 r e)
      = bag (fun j => x (ix2 r j)) E e := by
  have hr : S16384x32x256.Reduces [1] S16384x256 := by decide
  show Ideal.hostReduceAdd reducesTo_S16384x32x256_S16384x256_d1 (taken x E) _ (ix2 r e) = _
  rw [Ideal.hostReduceAdd_single _ hr]
  rw [show (constant S_ .f32 0x00000000#32 : FVec Ideal S_ .f32) (Shape.Idx.first h_S_) = (0 : EReal) from Ideal.ofBits_zero_f32, zero_add]
  refine Finset.sum_congr rfl fun j _ => ?_
  refine Eq.trans (congrArg (taken x E) ?_) (taken_at x hx E r j e)
  funext a
  match a with
  | ⟨0, _⟩ => rfl
  | ⟨1, _⟩ => rfl
  | ⟨2, _⟩ => rfl

/-- The reference's result. -/
def refOut (x : IVec S16384x32 32) (E : FVec Ideal S768x256 .f32) (W1 : FVec Ideal S256x512 .f32) (b1 : FVec Ideal S512 .f32)
    (W2 : FVec Ideal S512x256 .f32) (b2 : FVec Ideal S256 .f32) (W3 : FVec Ideal S256x1 .f32) (b3 : FVec Ideal S1 .f32) : FVec Ideal S16384x1 .f32 :=
  let g := Host.reduceAdd (taken x E) (constant S_ .f32 0x00000000#32) reducesTo_S16384x32x256_S16384x256_d1 h_S_
  let h1 := maximumf (addf (Host.dotGeneral dot_S16384x256_S256x512_S16384x512_1_0_0_1_n_n none g W1)
      (broadcastInDim S16384x512 ![0, 1] bcast_S1x512_S16384x512_0_1 (broadcastInDim S1x512 ![1] bcast_S512_S1x512_1 b1)))
    (broadcastInDim S16384x512 ![] bcast_S_S16384x512 (constant S_ .f32 0x00000000#32))
  let h2 := maximumf (addf (Host.dotGeneral dot_S16384x512_S512x256_S16384x256_1_0_0_1_n_n none h1 W2)
      (broadcastInDim S16384x256 ![0, 1] bcast_S1x256_S16384x256_0_1 (broadcastInDim S1x256 ![1] bcast_S256_S1x256_1 b2)))
    (broadcastInDim S16384x256 ![] bcast_S_S16384x256 (constant S_ .f32 0x00000000#32))
  addf (Host.dotGeneral dot_S16384x256_S256x1_S16384x1_1_0_0_1_n_n none h2 W3)
    (broadcastInDim S16384x1 ![0, 1] bcast_S1x1_S16384x1_0_1 (broadcastInDim S1x1 ![1] bcast_S1_S1x1_1 b3))

/-- The reference's result, at one sample. -/
theorem refOut_at (x : IVec S16384x32 32) (hx : ∀ j, (x j).toNat < 768) (E : FVec Ideal S768x256 .f32) (W1 : FVec Ideal S256x512 .f32)
    (b1 : FVec Ideal S512 .f32) (W2 : FVec Ideal S512x256 .f32) (b2 : FVec Ideal S256 .f32) (W3 : FVec Ideal S256x1 .f32) (b3 : FVec Ideal S1 .f32)
    (r : Fin 16384) :
    refOut x E W1 b1 W2 b2 W3 b3 (ix2 r 0)
      = layers (bag (fun j => x (ix2 r j)) E) W1 (fun c => b1 (ix1 c)) W2 (fun c => b2 (ix1 c)) (fun c => W3 (ix2 c 0)) (b3 (ix1 0)) := by
  unfold refOut
  refine congrArg₂ (fun (x y : EReal) => x + y) ?_ (bias_at b3 bcast_S1_S1x1_1 bcast_S1x1_S16384x1_0_1 r 0)
  refine (StackMember.dotGeneral_plain_apply none _ W3 r 0).trans ?_
  refine Finset.sum_congr rfl fun c _ => congrArg (· * (W3 (ix2 c 0) : EReal)) ?_
  refine (dense_ref_at _ W2 b2 bcast_S256_S1x256_1 bcast_S1x256_S16384x256_0_1 bcast_S_S16384x256 r c).trans ?_
  refine congrArg (fun g => dense g W2 (fun c => b2 (ix1 c)) c) (funext fun k => ?_)
  refine (dense_ref_at _ W1 b1 bcast_S512_S1x512_1 bcast_S1x512_S16384x512_0_1 bcast_S_S16384x512 r k).trans ?_
  exact congrArg (fun g => dense g W1 (fun c => b1 (ix1 c)) k) (funext fun e => bag_at x hx E r e)

end Cert.Proof
-- ==== Proof.Algebraic.lean ====
/-
  The kernel and the reference, over the extended reals, end with the same result: at every sample both hold the dense
  layers on the sample's bag.
-/
module

public import proofs.«01_k».proof.Proof.Frames
public import proofs.«01_k».proof.Proof.Result
public import proofs.«01_k».proof.Proof.Ref

@[expose] public section

noncomputable section

namespace Cert.Proof

open Idealize.ShloMosaic hiding ix1 ix2
open Idealize.ShloMosaic.ValueIdx
open Idealize.SL.Sem

/-- The reference's result of a memory's arguments is the kernel's. -/
theorem same_result (m : (ℓ : Loc Cert.KernelIdeal.nD Cert.KernelIdeal.τ Cert.KernelIdeal.sig) → Buf (Elt Ideal) ℓ) (d : Dev Cert.KernelIdeal.nD)
    (hx : ∀ j, (idsOf m d j).toNat < 768) :
    refOut (idsOf m d) (m ((SparseCore.T d).loc Cert.KernelIdeal.main_arg1)) (m ((SparseCore.T d).loc Cert.KernelIdeal.main_arg2))
        (m ((SparseCore.T d).loc Cert.KernelIdeal.main_arg3)) (m ((SparseCore.T d).loc Cert.KernelIdeal.main_arg4))
        (m ((SparseCore.T d).loc Cert.KernelIdeal.main_arg5)) (m ((SparseCore.T d).loc Cert.KernelIdeal.main_arg6))
        (m ((SparseCore.T d).loc Cert.KernelIdeal.main_arg7))
      = r3 m d (dr Cert.KernelIdeal.main_v14) := by
  funext i
  have hi : i = ix2 (i 0) 0 := (ValueIdx.eq_ix2 i).trans (congrArg (ix2 (i 0)) (Subsingleton.elim (α := Fin 1) _ _))
  rw [hi]
  exact (refOut_at _ hx _ _ _ _ _ _ _ (i 0)).trans (result_at m d hx (i 0)).symm

theorem algebraic : Cert.algebraic_KernelIdeal_ReferenceIdeal := fun m g m' g' hp he => by
  have hx : ∀ d j, (idsOf m d j).toNat < 768 := fun d => ids_lt _ _ _ _ _ _ _ _ (hp d)
  refine ⟨fun c => r3 m c (dr Cert.KernelIdeal.main_v14),
    (θ_run Cert.KernelIdeal.defs _ _).mono (fun _ h c => ⟨h.1 c _ (host_one rfl), args_all h.1 c⟩) (run_main (F := Ideal) m g hx),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7⟩ := he c
  rw [e0, e1, e2, e3, e4, e5, e6, e7]
  exact same_result m c (hx c)

end Cert.Proof

end

end
-- ==== Proof.lean ====
/-
  The histogram kernel and its layers: the claim, put together from the runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Algebraic

@[expose] public section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_kernel, frame_kernelIdeal, frame_reference, trivial, algebraic⟩

end Cert.Proof

end
